-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_head_wins_pre_in_range [hKernelIdeal : Cert.KernelIdeal.Facts] [hReferenceIdeal : Cert.ReferenceIdeal.Facts] [hPre_in_range : Cert.Pre_in_range.Facts] [hOn_head_wins : Cert.On_head_wins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 1]⟩ : Shape).Idx, (Cert.On_head_wins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v0_0) i = v0 c i)
          ∧ (∀ i : (⟨2, ![128, 100000]⟩ : Shape).Idx, (Cert.On_head_wins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 1]⟩ : Shape).Idx, (Cert.On_head_wins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v66) i = v0 c i)
          ∧ (∀ i : (⟨2, ![128, 100000]⟩ : Shape).Idx, (Cert.On_head_wins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v84) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hOn_head_wins : Cert.On_head_wins.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_on_head_wins_pre_in_range (hKernelIdeal := hKernelIdeal) (hReferenceIdeal := hReferenceIdeal) (hPre_in_range := hPre_in_range) (hOn_head_wins := hOn_head_wins)
-- ==== On_head_wins.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S100000 : Shape := ⟨1, ![100000]⟩
abbrev S1x100000 : Shape := ⟨2, ![1, 100000]⟩
abbrev S128x98976 : Shape := ⟨2, ![128, 98976]⟩

class Facts : Prop where
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S100000_S1x100000_1 : S100000.BroadcastsInDim S1x100000 (![1] : Fin 1 → Fin S1x100000.rank)
  bcast_S_S128x1 : S_.BroadcastsInDim S128x1 (![] : Fin 0 → Fin S128x1.rank)
  bcast_S_S1x100000 : S_.BroadcastsInDim S1x100000 (![] : Fin 0 → Fin S1x100000.rank)
  bcast_S1x100000_S128x100000_0_1 : S1x100000.BroadcastsInDim S128x100000 (![0, 1] : Fin 2 → Fin S128x100000.rank)
  bcast_S_S128x100000 : S_.BroadcastsInDim S128x100000 (![] : Fin 0 → Fin S128x100000.rank)
  slices_S128x100000_S128x1_0_0 : S128x100000.Slices ![0, 0] S128x1
  shapeCasts_S128x1_S128 : S128x1.ShapeCasts S128
  bcast_S_S128x98976 : S_.BroadcastsInDim S128x98976 (![] : Fin 0 → Fin S128x98976.rank)
  slices_S128x100000_S128x98976_0_1024 : S128x100000.Slices ![0, 1024] S128x98976
  reducesTo_S128x98976_S128_d1 : S128x98976.ReducesTo [1] S128

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128x100000 32) (arg1 : IVec S_ 32) : IVec S128x100000 32 :=
  let c : IVec S_ 32 := constantI S_ 32 0#32
  let v0 : IVec S_ 1 := cmpi .eq arg1 c
  let c_0 : IVec S_ 32 := constantI S_ 32 1#32
  let v1 : IVec S_ 32 := fn_where (F := F) v0 c_0 arg1
  let v2 : IVec S128x100000 32 := broadcastInDim S128x100000 ![] bcast_S_S128x100000 v1
  let v3 : IVec S128x100000 32 := Host.remui arg0 v2
  let c_1 : IVec S_ 32 := constantI S_ 32 0#32
  let v4 : IVec S128x100000 32 := broadcastInDim S128x100000 ![] bcast_S_S128x100000 c_1
  let v5 : IVec S128x100000 1 := cmpi .ne v3 v4
  let c_2 : IVec S_ 32 := constantI S_ 32 0#32
  let v6 : IVec S128x100000 32 := broadcastInDim S128x100000 ![] bcast_S_S128x100000 c_2
  let v7 : IVec S128x100000 1 := cmpi .ult v3 v6
  let c_3 : IVec S_ 32 := constantI S_ 32 0#32
  let v8 : IVec S_ 1 := cmpi .ult v1 c_3
  let v9 : IVec S128x100000 1 := broadcastInDim S128x100000 ![] bcast_S_S128x100000 v8
  let v10 : IVec S128x100000 1 := cmpi .ne v7 v9
  let v11 : IVec S128x100000 1 := andi v10 v5
  let v12 : IVec S128x100000 32 := broadcastInDim S128x100000 ![] bcast_S_S128x100000 v1
  let v13 : IVec S128x100000 32 := addi v3 v12
  let v14 : IVec S128x100000 32 := select v11 v13 v3
  v14

def fn_clip {F : FTy → Type} [FloatOps F] (arg0 : FVec F S128x100000 .f32) (arg1 : FVec F S_ .f32) (arg2 : FVec F S_ .f32) : FVec F S128x100000 .f32 :=
  let v0 : FVec F S_ .f32 := id arg1
  let v1 : FVec F S128x100000 .f32 := broadcastInDim S128x100000 ![] bcast_S_S128x100000 v0
  let v2 : FVec F S128x100000 .f32 := maximumf v1 arg0
  let v3 : FVec F S_ .f32 := id arg2
  let v4 : FVec F S128x100000 .f32 := broadcastInDim S128x100000 ![] bcast_S_S128x100000 v3
  let v5 : FVec F S128x100000 .f32 := minimumf v4 v2
  v5

def fn_part2 {F : FTy → Type} [FloatOps F] (main_v11 : FVec F S128 .f32) (main_v35 : FVec F S128x100000 .f32) : IVec S128x1 1 × IVec S128x100000 1 :=
  let main_v36 : FVec F S128x100000 .f32 := Host.log main_v35
  let main_v37 : FVec F S128x100000 .f32 := Host.negf main_v36
  let main_cst_10 : FVec F S_ .f32 := constant S_ .f32 0x2EDBE6FF#32
  let main_v38 : FVec F S128 .f32 := broadcastInDim S128 ![] bcast_S_S128 main_cst_10
  let main_v39 : FVec F S128 .f32 := addf main_v11 main_v38
  let main_v40 : FVec F S128 .f32 := Host.log main_v39
  let main_v41 : FVec F S128x1 .f32 := (extractStridedSlice S128x1 ![0, 0] · slices_S128x100000_S128x1_0_0) main_v37
  let main_v42 : FVec F S128 .f32 := shapeCast S128 main_v41 shapeCasts_S128x1_S128
  let main_v43 : FVec F S128 .f32 := addf main_v40 main_v42
  let main_cst_11 : FVec F S_ .f32 := constant S_ .f32 0x00000000#32
  let main_v44 : FVec F S128x98976 .f32 := broadcastInDim S128x98976 ![] bcast_S_S128x98976 main_cst_11
  let main_cst_12 : FVec F S_ .f32 := constant S_ .f32 0x2EDBE6FF#32
  let main_v45 : FVec F S128x98976 .f32 := broadcastInDim S128x98976 ![] bcast_S_S128x98976 main_cst_12
  let main_v46 : FVec F S128x98976 .f32 := addf main_v44 main_v45
  let main_v47 : FVec F S128x98976 .f32 := Host.log main_v46
  let main_v48 : FVec F S128x98976 .f32 := (extractStridedSlice S128x98976 ![0, 1024] · slices_S128x100000_S128x98976_0_1024) main_v37
  let main_v49 : FVec F S128x98976 .f32 := addf main_v47 main_v48
  let main_cst_13 : FVec F S_ .f32 := constant S_ .f32 0xFF800000#32
  let main_v50 : FVec F S128 .f32 := (fun x v => Host.reduce FloatOps.maximumf x v reducesTo_S128x98976_S128_d1 h_S_) main_v49 main_cst_13
  let main_v51 : IVec S128 1 := cmpf .oge main_v43 main_v50
  let main_v52 : IVec S128x1 1 := broadcastInDim S128x1 ![0] bcast_S128_S128x1_0 main_v51
  let main_c_14 : IVec S_ 1 := constantI S_ 1 1#1
  let main_v53 : IVec S128x100000 1 := broadcastInDim S128x100000 ![] bcast_S_S128x100000 main_c_14
  (main_v52, main_v53)

def fn_part1 {F : FTy → Type} [FloatOps F] (main_v11 : FVec F S128 .f32) (main_v13 : IVec S1x100000 32) (main_v16 : IVec S128 32) (main_v17 : IVec S128 32) (main_c_3 : IVec S_ 32) : IVec S128x1 1 × IVec S128x100000 1 :=
  let main_v18 : IVec S128 32 := broadcastInDim S128 ![] bcast_S_S128 main_c_3
  let main_v19 : IVec S128 32 := muli main_v17 main_v18
  let main_v20 : IVec S128 32 := xori main_v16 main_v19
  let main_v21 : IVec S128x1 32 := broadcastInDim S128x1 ![0] bcast_S128_S128x1_0 main_v20
  let main_c_4 : IVec S_ 32 := constantI S_ 32 4294967295#32
  let main_v22 : IVec S128x1 32 := broadcastInDim S128x1 ![] bcast_S_S128x1 main_c_4
  let main_v23 : IVec S128x1 32 := muli main_v21 main_v22
  let main_c_5 : IVec S_ 32 := constantI S_ 32 479001599#32
  let main_v24 : IVec S1x100000 32 := broadcastInDim S1x100000 ![] bcast_S_S1x100000 main_c_5
  let main_v25 : IVec S1x100000 32 := muli main_v13 main_v24
  let main_v26 : IVec S128x100000 32 := broadcastInDim S128x100000 ![0, 1] bcast_S128x1_S128x100000_0_1 main_v23
  let main_v27 : IVec S128x100000 32 := broadcastInDim S128x100000 ![0, 1] bcast_S1x100000_S128x100000_0_1 main_v25
  let main_v28 : IVec S128x100000 32 := xori main_v26 main_v27
  let main_c_6 : IVec S_ 32 := constantI S_ 32 16777216#32
  let main_v29 : IVec S128x100000 32 := fn_remainder (F := F) main_v28 main_c_6
  let main_v30 : FVec F S128x100000 .f32 := uitofp .f32 main_v29
  let main_cst_7 : FVec F S_ .f32 := constant S_ .f32 0x4B800000#32
  let main_v31 : FVec F S128x100000 .f32 := broadcastInDim S128x100000 ![] bcast_S_S128x100000 main_cst_7
  let main_v32 : FVec F S128x100000 .f32 := Host.divf main_v30 main_v31
  let main_cst_8 : FVec F S_ .f32 := constant S_ .f32 0x2EDBE6FF#32
  let main_cst_9 : FVec F S_ .f32 := constant S_ .f32 0x3F800000#32
  let main_v33 : FVec F S128x100000 .f32 := fn_clip (F := F) main_v32 main_cst_8 main_cst_9
  let main_v34 : FVec F S128x100000 .f32 := Host.log main_v33
  let main_v35 : FVec F S128x100000 .f32 := Host.negf main_v34
  fn_part2 (F := F) main_v11 main_v35

def fn {F : FTy → Type} [FloatOps F] (main_arg0 : FVec F S128x100000 .f32) (main_arg1 : FVec F S128 .f32) (main_arg2 : FVec F S128 .f32) (main_arg3 : IVec S128 32) (main_arg4 : IVec S128 32) (main_arg5 : IVec S128 32) : IVec S128x1 1 × IVec S128x100000 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : FVec F S128 .f32 := maximumf main_v1 main_v0
  let main_v3 : FVec F S128x1 .f32 := broadcastInDim S128x1 ![0] bcast_S128_S128x1_0 main_v2
  let main_v4 : FVec F S128x100000 .f32 := broadcastInDim S128x100000 ![0, 1] bcast_S128x1_S128x100000_0_1 main_v3
  let main_v5 : FVec F S128x100000 .f32 := subf main_arg0 main_v4
  let main_v6 : FVec F S128x100000 .f32 := Host.exp main_v5
  let main_cst_1 : FVec F S_ .f32 := constant S_ .f32 0x00000000#32
  let main_v7 : FVec F S128 .f32 := (fun x v => Host.reduceAdd x v reducesTo_S128x100000_S128_d1 h_S_) main_v6 main_cst_1
  let main_v8 : FVec F S128x1 .f32 := broadcastInDim S128x1 ![0] bcast_S128_S128x1_0 main_v7
  let main_v9 : FVec F S128x100000 .f32 := broadcastInDim S128x100000 ![0, 1] bcast_S128x1_S128x100000_0_1 main_v8
  let main_v10 : FVec F S128x100000 .f32 := Host.divf main_v6 main_v9
  let main_cst_2 : FVec F S_ .f32 := constant S_ .f32 0xFF800000#32
  let main_v11 : FVec F S128 .f32 := (fun x v => Host.reduce FloatOps.maximumf x v reducesTo_S128x100000_S128_d1 h_S_) main_v10 main_cst_2
  let main_v12 : IVec S100000 32 := iotaInDim S100000 32 0
  let main_v13 : IVec S1x100000 32 := broadcastInDim S1x100000 ![1] bcast_S100000_S1x100000_1 main_v12
  let main_v14 : IVec S128 32 := id main_arg4
  let main_c : IVec S_ 32 := constantI S_ 32 19349663#32
  let main_v15 : IVec S128 32 := broadcastInDim S128 ![] bcast_S_S128 main_c
  let main_v16 : IVec S128 32 := muli main_v14 main_v15
  let main_v17 : IVec S128 32 := id main_arg5
  let main_c_3 : IVec S_ 32 := constantI S_ 32 73856093#32
  fn_part1 (F := F) main_v11 main_v13 main_v16 main_v17 main_c_3
-- ==== Pre_in_range.lean ====
abbrev S128x100000 : Shape := ⟨2, ![128, 100000]⟩
abbrev S128 : Shape := ⟨1, ![128]⟩
abbrev S_ : Shape := ⟨0, ![]⟩

class Facts : Prop where
  reducesTo_S128x100000_S128_d1 : S128x100000.ReducesTo [1] S128
  h_S_ : 0 < S_.numel
  bcast_S_S128 : S_.BroadcastsInDim S128 (![] : Fin 0 → Fin S128.rank)

variable [Facts]

def fn {F : FTy → Type} [FloatOps F] (main_arg0 : FVec F S128x100000 .f32) (main_arg1 : FVec F S128 .f32) (main_arg2 : FVec F S128 .f32) (main_arg3 : IVec S128 32) (main_arg4 : IVec S128 32) (main_arg5 : IVec S128 32) : IVec S128 1 × IVec S128 1 × IVec S128 1 × IVec S128 1 × IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_v1 : FVec F S128 .f32 := Host.absf main_v0
  let main_cst_0 : FVec F S_ .f32 := constant S_ .f32 0x7F800000#32
  let main_v2 : FVec F S128 .f32 := broadcastInDim S128 ![] bcast_S_S128 main_cst_0
  let main_v3 : IVec S128 1 := cmpf .olt main_v1 main_v2
  let main_cst_1 : FVec F S_ .f32 := constant S_ .f32 0x00000000#32
  let main_v4 : FVec F S128 .f32 := broadcastInDim S128 ![] bcast_S_S128 main_cst_1
  let main_v5 : IVec S128 1 := cmpf .oge main_arg1 main_v4
  let main_cst_2 : FVec F S_ .f32 := constant S_ .f32 0x3F800000#32
  let main_v6 : FVec F S128 .f32 := broadcastInDim S128 ![] bcast_S_S128 main_cst_2
  let main_v7 : IVec S128 1 := cmpf .ole main_arg2 main_v6
  let main_c : IVec S_ 32 := constantI S_ 32 1#32
  let main_v8 : IVec S128 32 := broadcastInDim S128 ![] bcast_S_S128 main_c
  let main_v9 : IVec S128 1 := cmpi .sge main_arg3 main_v8
  let main_c_3 : IVec S_ 32 := constantI S_ 32 1024#32
  let main_v10 : IVec S128 32 := broadcastInDim S128 ![] bcast_S_S128 main_c_3
  let main_v11 : IVec S128 1 := cmpi .sle main_arg3 main_v10
  (main_v3, main_v5, main_v7, main_v9, main_v11)
-- ==== Kernel.lean ====
abbrev S128x100000 : Shape := ⟨2, ![128, 100000]⟩
abbrev S128 : Shape := ⟨1, ![128]⟩
abbrev S128x1024 : Shape := ⟨2, ![128, 1024]⟩
abbrev S128x1 : Shape := ⟨2, ![128, 1]⟩
abbrev S8x100000 : Shape := ⟨2, ![8, 100000]⟩
abbrev S8x1024 : Shape := ⟨2, ![8, 1024]⟩
abbrev S8x1 : Shape := ⟨2, ![8, 1]⟩
abbrev S8 : Shape := ⟨1, ![8]⟩
abbrev S1024x1024 : Shape := ⟨2, ![1024, 1024]⟩

abbrev nBuf : Space → Nat
  | .hbm => 15
  | .vmem => 18
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S128, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S128x1024, .f32⟩
  | .hbm, ⟨7, _⟩ => ⟨S128x1024, .i32⟩
  | .hbm, ⟨8, _⟩ => ⟨S128x1, .f32⟩
  | .hbm, ⟨9, _⟩ => ⟨S128x1, .f32⟩
  | .hbm, ⟨10, _⟩ => ⟨S128x1, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x1024, .f32⟩
  | .local _ .vmem, ⟨3, _⟩ => ⟨S8x1024, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .i32⟩
  | .local _ .vmem, ⟨9, _⟩ => ⟨S8x1, .i32⟩
  | .local _ .vmem, ⟨10, _⟩ => ⟨S8x1, .i32⟩
  | .local _ .vmem, ⟨11, _⟩ => ⟨S8x1, .i32⟩
  | .local _ .vmem, ⟨12, _⟩ => ⟨S8x1, .i32⟩
  | .local _ .vmem, ⟨13, _⟩ => ⟨S8x1, .i32⟩
  | .local _ .vmem, ⟨14, _⟩ => ⟨S8x1, .i32⟩
  | .local _ .vmem, ⟨15, _⟩ => ⟨S8x1, .i32⟩
  | .local _ .vmem, ⟨16, _⟩ => ⟨S8x100000, .f32⟩
  | .local _ .vmem, ⟨17, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_values : Ref sig .tc := ⟨.hbm, 6, rfl⟩
abbrev main_call0_indices : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_28 : BitVec 32 := 0#32
  let c17_i32 : BitVec 32 := 17#32
  let v104 : BitVec 32 := Scalar.addi c0_i32_28 c17_i32
  let c1_i32 : BitVec 32 := 1#32
  ⟨c0_i32_28, v104, c1_i32⟩
@[reducible] def k0_t2_loop : Scf.Loop 32 :=
  let c0_i32_38 : BitVec 32 := 0#32
  let c17_i32_39 : BitVec 32 := 17#32
  let v127 : BitVec 32 := Scalar.addi c0_i32_38 c17_i32_39
  let c1_i32_40 : BitVec 32 := 1#32
  ⟨c0_i32_38, v127, c1_i32_40⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x100000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S128x100000x1 : Shape := ⟨3, ![128, 100000, 1]⟩
abbrev S1 : Shape := ⟨1, ![1]⟩
abbrev S1x1x1 : Shape := ⟨3, ![1, 1, 1]⟩
abbrev S100000 : Shape := ⟨1, ![100000]⟩
abbrev S1x100000 : Shape := ⟨2, ![1, 100000]⟩
abbrev S128x1x1 : Shape := ⟨3, ![128, 1, 1]⟩
abbrev S128x100000x2 : Shape := ⟨3, ![128, 100000, 2]⟩

abbrev nBuf : Space → Nat
  | .hbm => 191
  | .vmem => 0
  | .smem => 0
  | _ => 0

abbrev hbmTy0_0 (i : Nat) : BufTy := match i % 128 with
  | 0 => ⟨S128x100000, .f32⟩
  | 1 => ⟨S128, .f32⟩
  | 2 => ⟨S128, .f32⟩
  | 3 => ⟨S128, .i32⟩
  | 4 => ⟨S128, .i32⟩
  | 5 => ⟨S128, .i32⟩
  | 6 => ⟨S_, .f32⟩
  | 7 => ⟨S128, .f32⟩
  | 8 => ⟨S_, .f32⟩
  | 9 => ⟨S128, .f32⟩
  | 10 => ⟨S128, .f32⟩
  | 11 => ⟨S128x1, .f32⟩
  | 12 => ⟨S128x100000, .f32⟩
  | 13 => ⟨S128x100000, .f32⟩
  | 14 => ⟨S128x100000, .f32⟩
  | 15 => ⟨S_, .f32⟩
  | 16 => ⟨S128, .f32⟩
  | 17 => ⟨S128x1, .f32⟩
  | 18 => ⟨S128x100000, .f32⟩
  | 19 => ⟨S128x100000, .f32⟩
  | 20 => ⟨S128x100000, .i32⟩
  | 21 => ⟨S128x100000, .f32⟩
  | 22 => ⟨S128x100000, .i32⟩
  | 23 => ⟨S128x100000, .i32⟩
  | 24 => ⟨S_, .i32⟩
  | 25 => ⟨S128x100000, .i32⟩
  | 26 => ⟨S128x100000, .i1⟩
  | 27 => ⟨S_, .i32⟩
  | 28 => ⟨S128x100000, .i32⟩
  | 29 => ⟨S128x100000, .i32⟩
  | 30 => ⟨S128x100000, .i32⟩
  | 31 => ⟨S128x100000x1, .i32⟩
  | 32 => ⟨S1, .i32⟩
  | 33 => ⟨S_, .i32⟩
  | 34 => ⟨S128x100000x1, .i32⟩
  | 35 => ⟨S128x100000x1, .i1⟩
  | 36 => ⟨S1x1x1, .i32⟩
  | 37 => ⟨S128x100000x1, .i32⟩
  | 38 => ⟨S128x100000x1, .i1⟩
  | 39 => ⟨S128x100000x1, .i1⟩
  | 40 => ⟨S_, .i1⟩
  | 41 => ⟨S128x100000, .i1⟩
  | 42 => ⟨S128x100000, .f32⟩
  | 43 => ⟨S_, .f32⟩
  | 44 => ⟨S128x100000, .f32⟩
  | 45 => ⟨S128x100000, .f32⟩
  | 46 => ⟨S_, .f32⟩
  | 47 => ⟨S_, .f32⟩
  | 48 => ⟨S128x100000, .f32⟩
  | 49 => ⟨S100000, .i32⟩
  | 50 => ⟨S1x100000, .i32⟩
  | 51 => ⟨S128x1, .i32⟩
  | 52 => ⟨S128x100000, .i32⟩
  | 53 => ⟨S128x100000, .i32⟩
  | 54 => ⟨S128x100000, .i1⟩
  | 55 => ⟨S_, .f32⟩
  | 56 => ⟨S_, .f32⟩
  | 57 => ⟨S128x100000, .f32⟩
  | 58 => ⟨S128x100000, .f32⟩
  | 59 => ⟨S128x100000, .f32⟩
  | 60 => ⟨S128x1, .f32⟩
  | 61 => ⟨S128x100000, .f32⟩
  | 62 => ⟨S128x100000, .i1⟩
  | 63 => ⟨S_, .f32⟩
  | 64 => ⟨S_, .f32⟩
  | 65 => ⟨S128x100000, .f32⟩
  | 66 => ⟨S128x100000, .f32⟩
  | 67 => ⟨S128x1, .f32⟩
  | 68 => ⟨S128, .f32⟩
  | 69 => ⟨S128, .f32⟩
  | 70 => ⟨S128x1, .f32⟩
  | 71 => ⟨S128x100000, .f32⟩
  | 72 => ⟨S128x100000, .i1⟩
  | 73 => ⟨S_, .f32⟩
  | 74 => ⟨S_, .f32⟩
  | 75 => ⟨S128x100000, .f32⟩
  | 76 => ⟨S128x100000, .f32⟩
  | 77 => ⟨S_, .f32⟩
  | 78 => ⟨S128x100000, .f32⟩
  | 79 => ⟨S128x100000, .f32⟩
  | 80 => ⟨S128x100000, .f32⟩
  | 81 => ⟨S100000, .i32⟩
  | 82 => ⟨S1x100000, .i32⟩
  | 83 => ⟨S128, .i32⟩
  | 84 => ⟨S_, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128x1, .i32⟩
  | 93 => ⟨S_, .i32⟩
  | 94 => ⟨S128x1, .i32⟩
  | 95 => ⟨S128x1, .i32⟩
  | 96 => ⟨S_, .i32⟩
  | 97 => ⟨S1x100000, .i32⟩
  | 98 => ⟨S1x100000, .i32⟩
  | 99 => ⟨S128x100000, .i32⟩
  | 100 => ⟨S128x100000, .i32⟩
  | 101 => ⟨S128x100000, .i32⟩
  | 102 => ⟨S_, .i32⟩
  | 103 => ⟨S_, .i32⟩
  | 104 => ⟨S_, .i1⟩
  | 105 => ⟨S_, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i1⟩
  | 112 => ⟨S_, .i32⟩
  | 113 => ⟨S128x100000, .i32⟩
  | 114 => ⟨S128x100000, .i1⟩
  | 115 => ⟨S_, .i32⟩
  | 116 => ⟨S_, .i1⟩
  | 117 => ⟨S128x100000, .i1⟩
  | 118 => ⟨S128x100000, .i1⟩
  | 119 => ⟨S128x100000, .i1⟩
  | 120 => ⟨S128x100000, .i32⟩
  | 121 => ⟨S128x100000, .i32⟩
  | 122 => ⟨S128x100000, .i32⟩
  | 123 => ⟨S128x100000, .f32⟩
  | 124 => ⟨S_, .f32⟩
  | 125 => ⟨S128x100000, .f32⟩
  | 126 => ⟨S128x100000, .f32⟩
  | 127 => ⟨S_, .f32⟩
  | _ => ⟨S128x100000, .f32⟩

abbrev hbmTy0_1 (i : Nat) : BufTy := match i % 128 with
  | 0 => ⟨S_, .f32⟩
  | 1 => ⟨S_, .f32⟩
  | 2 => ⟨S128x100000, .f32⟩
  | 3 => ⟨S128x100000, .f32⟩
  | 4 => ⟨S_, .f32⟩
  | 5 => ⟨S128x100000, .f32⟩
  | 6 => ⟨S128x100000, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S128x100000, .i32⟩
  | 13 => ⟨S_, .f32⟩
  | 14 => ⟨S_, .i32⟩
  | 15 => ⟨S128, .f32⟩
  | 16 => ⟨S128, .i32⟩
  | 17 => ⟨S128x1, .i32⟩
  | 18 => ⟨S_, .i32⟩
  | 19 => ⟨S128x1, .i32⟩
  | 20 => ⟨S128x1, .i1⟩
  | 21 => ⟨S_, .i32⟩
  | 22 => ⟨S128x1, .i32⟩
  | 23 => ⟨S128x1, .i32⟩
  | 24 => ⟨S128x1, .i32⟩
  | 25 => ⟨S128x1x1, .i32⟩
  | 26 => ⟨S1, .i32⟩
  | 27 => ⟨S_, .i32⟩
  | 28 => ⟨S128x1x1, .i32⟩
  | 29 => ⟨S128x1x1, .i1⟩
  | 30 => ⟨S1x1x1, .i32⟩
  | 31 => ⟨S128x1x1, .i32⟩
  | 32 => ⟨S128x1x1, .i1⟩
  | 33 => ⟨S128x1x1, .i1⟩
  | 34 => ⟨S_, .i1⟩
  | 35 => ⟨S128x1, .i1⟩
  | 36 => ⟨S128x1, .i32⟩
  | 37 => ⟨S_, .i32⟩
  | 38 => ⟨S128x1, .i32⟩
  | 39 => ⟨S128x1, .i32⟩
  | 40 => ⟨S_, .f32⟩
  | 41 => ⟨S128x100000, .f32⟩
  | 42 => ⟨S128, .i32⟩
  | 43 => ⟨S128x1, .i32⟩
  | 44 => ⟨S_, .i32⟩
  | 45 => ⟨S128x1, .i32⟩
  | 46 => ⟨S128x1, .i1⟩
  | 47 => ⟨S_, .i32⟩
  | 48 => ⟨S128x1, .i32⟩
  | 49 => ⟨S128x1, .i32⟩
  | 50 => ⟨S128x1, .i32⟩
  | 51 => ⟨S_, .i32⟩
  | 52 => ⟨S128x100000, .i32⟩
  | 53 => ⟨S128x100000, .i1⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000x1, .i32⟩
  | 60 => ⟨S128x100000x1, .i32⟩
  | 61 => ⟨S128x100000x2, .i32⟩
  | 62 => ⟨S128x100000, .f32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1_0 : Ref sig .tc := ⟨.hbm, 21, rfl⟩
abbrev main_v11 : Ref sig .tc := ⟨.hbm, 22, rfl⟩
abbrev main_v12 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v13 : Ref sig .tc := ⟨.hbm, 45, rfl⟩
abbrev main_call2_call0_cst : Ref sig .tc := ⟨.hbm, 46, rfl⟩
abbrev main_call2_call0_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_call3_v0 : Ref sig .tc := ⟨.hbm, 56, rfl⟩
abbrev main_call3_v1 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_3 : Ref sig .tc := ⟨.hbm, 63, rfl⟩
abbrev main_call4_v0 : Ref sig .tc := ⟨.hbm, 64, rfl⟩
abbrev main_call4_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_call5_v0 : Ref sig .tc := ⟨.hbm, 74, rfl⟩
abbrev main_call5_v1 : Ref sig .tc := ⟨.hbm, 75, rfl⟩
abbrev main_v33 : Ref sig .tc := ⟨.hbm, 76, rfl⟩
abbrev main_cst_5 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_6 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_7 : Ref sig .tc := ⟨.hbm, 93, rfl⟩
abbrev main_v47 : Ref sig .tc := ⟨.hbm, 94, rfl⟩
abbrev main_v48 : Ref sig .tc := ⟨.hbm, 95, rfl⟩
abbrev main_c_8 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_c_9 : Ref sig .tc := ⟨.hbm, 102, rfl⟩
abbrev main_call6_c : Ref sig .tc := ⟨.hbm, 103, rfl⟩
abbrev main_call6_v0 : Ref sig .tc := ⟨.hbm, 104, rfl⟩
abbrev main_call6_c_0 : Ref sig .tc := ⟨.hbm, 105, rfl⟩
abbrev main_call6_v1 : Ref sig .tc := ⟨.hbm, 106, rfl⟩
abbrev main_call6_v2 : Ref sig .tc := ⟨.hbm, 107, rfl⟩
abbrev main_call6_v3 : Ref sig .tc := ⟨.hbm, 108, rfl⟩
abbrev main_call6_c_1 : Ref sig .tc := ⟨.hbm, 109, rfl⟩
abbrev main_call6_v4 : Ref sig .tc := ⟨.hbm, 110, rfl⟩
abbrev main_call6_v5 : Ref sig .tc := ⟨.hbm, 111, rfl⟩
abbrev main_call6_c_2 : Ref sig .tc := ⟨.hbm, 112, rfl⟩
abbrev main_call6_v6 : Ref sig .tc := ⟨.hbm, 113, rfl⟩
abbrev main_call6_v7 : Ref sig .tc := ⟨.hbm, 114, rfl⟩
abbrev main_call6_c_3 : Ref sig .tc := ⟨.hbm, 115, rfl⟩
abbrev main_call6_v8 : Ref sig .tc := ⟨.hbm, 116, rfl⟩
abbrev main_call6_v9 : Ref sig .tc := ⟨.hbm, 117, rfl⟩
abbrev main_call6_v10 : Ref sig .tc := ⟨.hbm, 118, rfl⟩
abbrev main_call6_v11 : Ref sig .tc := ⟨.hbm, 119, rfl⟩
abbrev main_call6_v12 : Ref sig .tc := ⟨.hbm, 120, rfl⟩
abbrev main_call6_v13 : Ref sig .tc := ⟨.hbm, 121, rfl⟩
abbrev main_v54 : Ref sig .tc := ⟨.hbm, 122, rfl⟩
abbrev main_v55 : Ref sig .tc := ⟨.hbm, 123, rfl⟩
abbrev main_cst_10 : Ref sig .tc := ⟨.hbm, 124, rfl⟩
abbrev main_v56 : Ref sig .tc := ⟨.hbm, 125, rfl⟩
abbrev main_v57 : Ref sig .tc := ⟨.hbm, 126, rfl⟩
abbrev main_cst_11 : Ref sig .tc := ⟨.hbm, 127, rfl⟩
abbrev main_cst_12 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_call7_v3 : Ref sig .tc := ⟨.hbm, 132, rfl⟩
abbrev main_call7_v4 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_call8_v0 : Ref sig .tc := ⟨.hbm, 140, rfl⟩
abbrev main_call8_cst : Ref sig .tc := ⟨.hbm, 141, rfl⟩
abbrev main_call8_c : Ref sig .tc := ⟨.hbm, 142, rfl⟩
abbrev main_call8_v1_0 : Ref sig .tc := ⟨.hbm, 143, rfl⟩
abbrev main_v64 : Ref sig .tc := ⟨.hbm, 144, rfl⟩
abbrev main_v65 : Ref sig .tc := ⟨.hbm, 145, rfl⟩
abbrev main_call9_c : Ref sig .tc := ⟨.hbm, 146, rfl⟩
abbrev main_call9_v0 : Ref sig .tc := ⟨.hbm, 147, rfl⟩
abbrev main_call9_v1 : Ref sig .tc := ⟨.hbm, 148, rfl⟩
abbrev main_call9_c_0 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_call9_v5 : Ref sig .tc := ⟨.hbm, 153, rfl⟩
abbrev main_call9_c_1 : Ref sig .tc := ⟨.hbm, 154, rfl⟩
abbrev main_call9_c_2 : Ref sig .tc := ⟨.hbm, 155, rfl⟩
abbrev main_call9_v6 : Ref sig .tc := ⟨.hbm, 156, rfl⟩
abbrev main_call9_v7 : Ref sig .tc := ⟨.hbm, 157, rfl⟩
abbrev main_call9_v8 : Ref sig .tc := ⟨.hbm, 158, rfl⟩
abbrev main_call9_v9 : Ref sig .tc := ⟨.hbm, 159, rfl⟩
abbrev main_call9_v10 : Ref sig .tc := ⟨.hbm, 160, rfl⟩
abbrev main_call9_v11 : Ref sig .tc := ⟨.hbm, 161, rfl⟩
abbrev main_call9_c_3 : Ref sig .tc := ⟨.hbm, 162, rfl⟩
abbrev main_call9_v12 : Ref sig .tc := ⟨.hbm, 163, rfl⟩
abbrev main_call9_v13 : Ref sig .tc := ⟨.hbm, 164, rfl⟩
abbrev main_call9_c_4 : Ref sig .tc := ⟨.hbm, 165, rfl⟩
abbrev main_call9_v14 : Ref sig .tc := ⟨.hbm, 166, rfl⟩
abbrev main_v66 : Ref sig .tc := ⟨.hbm, 167, rfl⟩
abbrev main_cst_13 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_c_14 : Ref sig .tc := ⟨.hbm, 172, rfl⟩
abbrev main_v70 : Ref sig .tc := ⟨.hbm, 173, rfl⟩
abbrev main_v71 : Ref sig .tc := ⟨.hbm, 174, rfl⟩
abbrev main_c_15 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_c_16 : Ref sig .tc := ⟨.hbm, 179, rfl⟩
abbrev main_v75 : Ref sig .tc := ⟨.hbm, 180, rfl⟩
abbrev main_v76 : Ref sig .tc := ⟨.hbm, 181, rfl⟩
abbrev main_c_17 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩

abbrev nD : Nat := 1
abbrev τ : Topo := Topo.v7x

variable {F : FTy → Type} [FloatOps F]
-- ==== Proof.RefRun.lean ====
/- The reference program as a list of its host operations, and its run read back: every fair execution ends with the two
   result arrays at the composed pure terms of the arguments, the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v83`, named. It packs its operands into a list of dependent pairs
    whose shapes a later argument's type mentions, so `simp` cannot rewrite an operand where it stands; applied by
    name, the operands are plain arguments, which the window lemmas below rewrite before the name unfolds. -/
def fn_main_v83 : (⟨S128x100000x1, .i32⟩ : BufTy).Contents (Elt F) → (⟨S128x100000x1, .i32⟩ : BufTy).Contents (Elt F) → (⟨S128x100000x2, .i32⟩ : BufTy).Contents (Elt F) :=
  (fun a b => concatenate S128x100000x2 2 [⟨S128x100000x1, a⟩, ⟨S128x100000x1, b⟩] concatenates_S128x100000x1_S128x100000x1_S128x100000x2_d2)

/-- @main's operations 1 … 30 of 185 (window `main_part0`). -/
abbrev ops_part0_0 : List (HloOp τ sig (Elt F)) :=
  [ nullary main_cst (constant S_ .f32 0xFF800000#32),
    binary main_arg0 main_cst main_v0 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v1 (broadcastInDim S128 ![] bcast_S_S128 : (⟨S_, .f32⟩ : BufTy).Contents (Elt F) → (⟨S128, .f32⟩ : BufTy).Contents (Elt F)),
    binary main_v1 main_v0 main_v2 (maximumf : (⟨S128, .f32⟩ : BufTy).Contents (Elt F) → (⟨S128, .f32⟩ : BufTy).Contents (Elt F) → (⟨S128, .f32⟩ : BufTy).Contents (Elt F)),
    unary main_v2 main_v3 (broadcastInDim S128x1 ![0] bcast_S128_S128x1_0 : (⟨S128, .f32⟩ : BufTy).Contents (Elt F) → (⟨S128x1, .f32⟩ : BufTy).Contents (Elt F)),
    unary main_v3 main_v4 (broadcastInDim S128x100000 ![0, 1] bcast_S128x1_S128x100000_0_1 : (⟨S128x1, .f32⟩ : BufTy).Contents (Elt F) → (⟨S128x100000, .f32⟩ : BufTy).Contents (Elt F)),
    binary main_arg0 main_v4 main_v5 (subf : (⟨S128x100000, .f32⟩ : BufTy).Contents (Elt F) → (⟨S128x100000, .f32⟩ : BufTy).Contents (Elt F) → (⟨S128x100000, .f32⟩ : BufTy).Contents (Elt F)),
    unary main_v5 main_v6 (Host.exp : (⟨S128x100000, .f32⟩ : BufTy).Contents (Elt F) → (⟨S128x100000, .f32⟩ : BufTy).Contents (Elt F)),
    nullary main_cst_1 (constant S_ .f32 0x00000000#32),
    binary main_v6 main_cst_1 main_v7 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v7 main_v8 (broadcastInDim S128x1 ![0] bcast_S128_S128x1_0 : (⟨S128, .f32⟩ : BufTy).Contents (Elt F) → (⟨S128x1, .f32⟩ : BufTy).Contents (Elt F)),
    unary main_v8 main_v9 (broadcastInDim S128x100000 ![0, 1] bcast_S128x1_S128x100000_0_1 : (⟨S128x1, .f32⟩ : BufTy).Contents (Elt F) → (⟨S128x100000, .f32⟩ : BufTy).Contents (Elt F)),
    binary main_v6 main_v9 main_v10 (Host.divf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call0_v0) (iotaInDim S128x100000 32 1),
    TRef.binary (TRef.of (T := ⟨S128x100000, .f32⟩) main_v10) (TRef.of (T := ⟨S128x100000, .i32⟩) main_call0_v0) (TRef.of (T := ⟨S128x100000, .f32⟩) main_call0_v1_0) (fun x y => (Host.sort2 S128x100000 1 comparator_f32_i32_d1 x y).1),
    TRef.binary (TRef.of (T := ⟨S128x100000, .f32⟩) main_v10) (TRef.of (T := ⟨S128x100000, .i32⟩) main_call0_v0) (TRef.of (T := ⟨S128x100000, .i32⟩) main_v11) (fun x y => (Host.sort2 S128x100000 1 comparator_f32_i32_d1 x y).2),
    unary main_v11 main_v12 (Host.reverse [1] : (⟨S128x100000, .i32⟩ : BufTy).Contents (Elt F) → (⟨S128x100000, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S128x100000, .i32⟩) main_call1_v0) (broadcastInDim S128x100000 ![] bcast_S_S128x100000),
    TRef.binary (TRef.of (T := ⟨S128x100000, .i32⟩) main_v12) (TRef.of (T := ⟨S128x100000, .i32⟩) main_call1_v0) (TRef.of (T := ⟨S128x100000, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S128x100000, .i32⟩) main_call1_v2) (broadcastInDim S128x100000 ![] bcast_S_S128x100000),
    TRef.binary (TRef.of (T := ⟨S128x100000, .i32⟩) main_v12) (TRef.of (T := ⟨S128x100000, .i32⟩) main_call1_v2) (TRef.of (T := ⟨S128x100000, .i32⟩) main_call1_v3) addi,
    TRef.ternary (TRef.of (T := ⟨S128x100000, .i1⟩) main_call1_v1) (TRef.of (T := ⟨S128x100000, .i32⟩) main_call1_v3) (TRef.of (T := ⟨S128x100000, .i32⟩) main_v12) (TRef.of (T := ⟨S128x100000, .i32⟩) main_call1_v4) select,
    TRef.reshape (TRef.of (T := ⟨S128x100000, .i32⟩) main_call1_v4) (TRef.of (T := ⟨S128x100000x1, .i32⟩) main_call1_v5) (rfl : (.i32 : EltTy) = .i32) shapeCasts_S128x100000_S128x100000x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S128x100000x1, .i32⟩) main_call1_v6) (broadcastInDim S128x100000x1 ![] bcast_S_S128x100000x1),
    TRef.binary (TRef.of (T := ⟨S128x100000x1, .i32⟩) main_call1_v5) (TRef.of (T := ⟨S128x100000x1, .i32⟩) main_call1_v6) (TRef.of (T := ⟨S128x100000x1, .i1⟩) main_call1_v7) (cmpi .sge) ]

/-- @main's operations 31 … 60 of 185 (window `main_part0`). -/
abbrev ops_part0_1 : List (HloOp τ sig (Elt F)) :=
  [ TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S128x100000x1, .i32⟩) main_call1_v9) (broadcastInDim S128x100000x1 ![0, 1, 2] bcast_S1x1x1_S128x100000x1_0_1_2),
    TRef.binary (TRef.of (T := ⟨S128x100000x1, .i32⟩) main_call1_v5) (TRef.of (T := ⟨S128x100000x1, .i32⟩) main_call1_v9) (TRef.of (T := ⟨S128x100000x1, .i1⟩) main_call1_v10) (cmpi .sle),
    TRef.binary (TRef.of (T := ⟨S128x100000x1, .i1⟩) main_call1_v7) (TRef.of (T := ⟨S128x100000x1, .i1⟩) main_call1_v10) (TRef.of (T := ⟨S128x100000x1, .i1⟩) main_call1_v11) andi,
    TRef.nullary (TRef.of (T := ⟨S_, .i1⟩) main_call1_c_3) (constantI S_ 1 1#1),
    TRef.binary (TRef.of (T := ⟨S128x100000x1, .i1⟩) main_call1_v11) (TRef.of (T := ⟨S_, .i1⟩) main_call1_c_3) (TRef.of (T := ⟨S128x100000, .i1⟩) main_call1_v12) (fun x v => Host.reduce IntOp.andi x v reducesTo_S128x100000x1_S128x100000_d2 h_S_),
    TRef.binary (TRef.of (T := ⟨S128x100000, .f32⟩) main_v10) (TRef.of (T := ⟨S128x100000x1, .i32⟩) main_call1_v5) (TRef.of (T := ⟨S128x100000, .f32⟩) main_call1_v13) (fun x i => Host.gather gather_S128x100000_S128x100000x1_S128x100000_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S128x100000, .f32⟩) main_call1_v14) (broadcastInDim S128x100000 ![] bcast_S_S128x100000),
    TRef.ternary (TRef.of (T := ⟨S128x100000, .i1⟩) main_call1_v12) (TRef.of (T := ⟨S128x100000, .f32⟩) main_call1_v13) (TRef.of (T := ⟨S128x100000, .f32⟩) main_call1_v14) (TRef.of (T := ⟨S128x100000, .f32⟩) main_v13) select,
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S128x100000, .f32⟩) main_v13) (TRef.of (T := ⟨S_, .f32⟩) main_call2_call0_v0) (TRef.of (T := ⟨S128x100000, .f32⟩) main_v14) (fun x v => Host.reduceWindowAdd ![1, 100000] ![1, 1] ![0, 99999] ![0, 0] x v reduceWindows_S128x100000_S128x100000_w1s1p0_0_w100000s1p99999_0 h_S_),
    nullary main_v15 (iotaInDim S100000 32 0),
    unary main_v15 main_v16 (broadcastInDim S1x100000 ![1] bcast_S100000_S1x100000_1 : (⟨S100000, .i32⟩ : BufTy).Contents (Elt F) → (⟨S1x100000, .i32⟩ : BufTy).Contents (Elt F)),
    unary main_arg3 main_v17 (broadcastInDim S128x1 ![0] bcast_S128_S128x1_0 : (⟨S128, .i32⟩ : BufTy).Contents (Elt F) → (⟨S128x1, .i32⟩ : BufTy).Contents (Elt F)),
    unary main_v16 main_v18 (broadcastInDim S128x100000 ![0, 1] bcast_S1x100000_S128x100000_0_1 : (⟨S1x100000, .i32⟩ : BufTy).Contents (Elt F) → (⟨S128x100000, .i32⟩ : BufTy).Contents (Elt F)),
    unary main_v17 main_v19 (broadcastInDim S128x100000 ![0, 1] bcast_S128x1_S128x100000_0_1 : (⟨S128x1, .i32⟩ : BufTy).Contents (Elt F) → (⟨S128x100000, .i32⟩ : BufTy).Contents (Elt F)),
    binary main_v18 main_v19 main_v20 (cmpi .sge : (⟨S128x100000, .i32⟩ : BufTy).Contents (Elt F) → (⟨S128x100000, .i32⟩ : BufTy).Contents (Elt F) → (⟨S128x100000, .i1⟩ : BufTy).Contents (Elt F)),
    nullary main_cst_2 (constant S_ .f32 0x00000000#32),
    TRef.unary (TRef.of (T := ⟨S_, .f32⟩) main_cst_2) (TRef.of (T := ⟨S_, .f32⟩) main_call3_v0) id,
    TRef.unary (TRef.of (T := ⟨S_, .f32⟩) main_call3_v0) (TRef.of (T := ⟨S128x100000, .f32⟩) main_call3_v1) (broadcastInDim S128x100000 ![] bcast_S_S128x100000),
    TRef.ternary (TRef.of (T := ⟨S128x100000, .i1⟩) main_v20) (TRef.of (T := ⟨S128x100000, .f32⟩) main_call3_v1) (TRef.of (T := ⟨S128x100000, .f32⟩) main_v13) (TRef.of (T := ⟨S128x100000, .f32⟩) main_v21) select,
    binary main_v14 main_v21 main_v22 (subf : (⟨S128x100000, .f32⟩ : BufTy).Contents (Elt F) → (⟨S128x100000, .f32⟩ : BufTy).Contents (Elt F) → (⟨S128x100000, .f32⟩ : BufTy).Contents (Elt F)),
    unary main_arg1 main_v23 (broadcastInDim S128x1 ![0] bcast_S128_S128x1_0 : (⟨S128, .f32⟩ : BufTy).Contents (Elt F) → (⟨S128x1, .f32⟩ : BufTy).Contents (Elt F)),
    unary main_v23 main_v24 (broadcastInDim S128x100000 ![0, 1] bcast_S128x1_S128x100000_0_1 : (⟨S128x1, .f32⟩ : BufTy).Contents (Elt F) → (⟨S128x100000, .f32⟩ : BufTy).Contents (Elt F)),
    binary main_v22 main_v24 main_v25 (cmpf .ogt : (⟨S128x100000, .f32⟩ : BufTy).Contents (Elt F) → (⟨S128x100000, .f32⟩ : BufTy).Contents (Elt F) → (⟨S128x100000, .i1⟩ : BufTy).Contents (Elt F)),
    nullary main_cst_3 (constant S_ .f32 0x00000000#32),
    TRef.unary (TRef.of (T := ⟨S_, .f32⟩) main_cst_3) (TRef.of (T := ⟨S_, .f32⟩) main_call4_v0) id,
    TRef.unary (TRef.of (T := ⟨S_, .f32⟩) main_call4_v0) (TRef.of (T := ⟨S128x100000, .f32⟩) main_call4_v1) (broadcastInDim S128x100000 ![] bcast_S_S128x100000) ]

/-- @main's operations 61 … 90 of 185 (window `main_part0`). -/
abbrev ops_part0_2 : List (HloOp τ sig (Elt F)) :=
  [ TRef.ternary (TRef.of (T := ⟨S128x100000, .i1⟩) main_v25) (TRef.of (T := ⟨S128x100000, .f32⟩) main_call4_v1) (TRef.of (T := ⟨S128x100000, .f32⟩) main_v21) (TRef.of (T := ⟨S128x100000, .f32⟩) main_v26) select,
    unary main_v26 main_v27 ((extractStridedSlice S128x1 ![0, 0] · slices_S128x100000_S128x1_0_0) : (⟨S128x100000, .f32⟩ : BufTy).Contents (Elt F) → (⟨S128x1, .f32⟩ : BufTy).Contents (Elt F)),
    reshape main_v27 main_v28 (rfl : (.f32 : EltTy) = .f32) shapeCasts_S128x1_S128,
    binary main_v28 main_arg2 main_v29 (mulf : (⟨S128, .f32⟩ : BufTy).Contents (Elt F) → (⟨S128, .f32⟩ : BufTy).Contents (Elt F) → (⟨S128, .f32⟩ : BufTy).Contents (Elt F)),
    unary main_v29 main_v30 (broadcastInDim S128x1 ![0] bcast_S128_S128x1_0 : (⟨S128, .f32⟩ : BufTy).Contents (Elt F) → (⟨S128x1, .f32⟩ : BufTy).Contents (Elt F)),
    unary main_v30 main_v31 (broadcastInDim S128x100000 ![0, 1] bcast_S128x1_S128x100000_0_1 : (⟨S128x1, .f32⟩ : BufTy).Contents (Elt F) → (⟨S128x100000, .f32⟩ : BufTy).Contents (Elt F)),
    binary main_v26 main_v31 main_v32 (cmpf .olt : (⟨S128x100000, .f32⟩ : BufTy).Contents (Elt F) → (⟨S128x100000, .f32⟩ : BufTy).Contents (Elt F) → (⟨S128x100000, .i1⟩ : BufTy).Contents (Elt F)),
    nullary main_cst_4 (constant S_ .f32 0x00000000#32),
    TRef.unary (TRef.of (T := ⟨S_, .f32⟩) main_cst_4) (TRef.of (T := ⟨S_, .f32⟩) main_call5_v0) id,
    TRef.unary (TRef.of (T := ⟨S_, .f32⟩) main_call5_v0) (TRef.of (T := ⟨S128x100000, .f32⟩) main_call5_v1) (broadcastInDim S128x100000 ![] bcast_S_S128x100000),
    TRef.ternary (TRef.of (T := ⟨S128x100000, .i1⟩) main_v32) (TRef.of (T := ⟨S128x100000, .f32⟩) main_call5_v1) (TRef.of (T := ⟨S128x100000, .f32⟩) main_v26) (TRef.of (T := ⟨S128x100000, .f32⟩) main_v33) select,
    nullary main_cst_5 (constant S_ .f32 0x2EDBE6FF#32),
    unary main_cst_5 main_v34 (broadcastInDim S128x100000 ![] bcast_S_S128x100000 : (⟨S_, .f32⟩ : BufTy).Contents (Elt F) → (⟨S128x100000, .f32⟩ : BufTy).Contents (Elt F)),
    binary main_v33 main_v34 main_v35 (addf : (⟨S128x100000, .f32⟩ : BufTy).Contents (Elt F) → (⟨S128x100000, .f32⟩ : BufTy).Contents (Elt F) → (⟨S128x100000, .f32⟩ : BufTy).Contents (Elt F)),
    unary main_v35 main_v36 (Host.log : (⟨S128x100000, .f32⟩ : BufTy).Contents (Elt F) → (⟨S128x100000, .f32⟩ : BufTy).Contents (Elt F)),
    nullary main_v37 (iotaInDim S100000 32 0),
    unary main_v37 main_v38 (broadcastInDim S1x100000 ![1] bcast_S100000_S1x100000_1 : (⟨S100000, .i32⟩ : BufTy).Contents (Elt F) → (⟨S1x100000, .i32⟩ : BufTy).Contents (Elt F)),
    unary main_arg4 main_v39 (id : (⟨S128, .i32⟩ : BufTy).Contents (Elt F) → (⟨S128, .i32⟩ : BufTy).Contents (Elt F)),
    nullary main_c (constantI S_ 32 19349663#32),
    unary main_c main_v40 (broadcastInDim S128 ![] bcast_S_S128 : (⟨S_, .i32⟩ : BufTy).Contents (Elt F) → (⟨S128, .i32⟩ : BufTy).Contents (Elt F)),
    binary main_v39 main_v40 main_v41 (muli : (⟨S128, .i32⟩ : BufTy).Contents (Elt F) → (⟨S128, .i32⟩ : BufTy).Contents (Elt F) → (⟨S128, .i32⟩ : BufTy).Contents (Elt F)),
    unary main_arg5 main_v42 (id : (⟨S128, .i32⟩ : BufTy).Contents (Elt F) → (⟨S128, .i32⟩ : BufTy).Contents (Elt F)),
    nullary main_c_6 (constantI S_ 32 73856093#32),
    unary main_c_6 main_v43 (broadcastInDim S128 ![] bcast_S_S128 : (⟨S_, .i32⟩ : BufTy).Contents (Elt F) → (⟨S128, .i32⟩ : BufTy).Contents (Elt F)),
    binary main_v42 main_v43 main_v44 (muli : (⟨S128, .i32⟩ : BufTy).Contents (Elt F) → (⟨S128, .i32⟩ : BufTy).Contents (Elt F) → (⟨S128, .i32⟩ : BufTy).Contents (Elt F)),
    binary main_v41 main_v44 main_v45 (xori : (⟨S128, .i32⟩ : BufTy).Contents (Elt F) → (⟨S128, .i32⟩ : BufTy).Contents (Elt F) → (⟨S128, .i32⟩ : BufTy).Contents (Elt F)),
    unary main_v45 main_v46 (broadcastInDim S128x1 ![0] bcast_S128_S128x1_0 : (⟨S128, .i32⟩ : BufTy).Contents (Elt F) → (⟨S128x1, .i32⟩ : BufTy).Contents (Elt F)),
    nullary main_c_7 (constantI S_ 32 4294967295#32),
    unary main_c_7 main_v47 (broadcastInDim S128x1 ![] bcast_S_S128x1 : (⟨S_, .i32⟩ : BufTy).Contents (Elt F) → (⟨S128x1, .i32⟩ : BufTy).Contents (Elt F)),
    binary main_v46 main_v47 main_v48 (muli : (⟨S128x1, .i32⟩ : BufTy).Contents (Elt F) → (⟨S128x1, .i32⟩ : BufTy).Contents (Elt F) → (⟨S128x1, .i32⟩ : BufTy).Contents (Elt F)) ]

/-- @main's operations 91 … 91 of 185 (window `main_part0`). -/
abbrev ops_part0_3 : List (HloOp τ sig (Elt F)) :=
  [ nullary main_c_8 (constantI S_ 32 479001599#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 92 … 121 of 185 (window `main_part1`). -/
abbrev ops_part1_0 : List (HloOp τ sig (Elt F)) :=
  [ unary main_c_8 main_v49 (broadcastInDim S1x100000 ![] bcast_S_S1x100000 : (⟨S_, .i32⟩ : BufTy).Contents (Elt F) → (⟨S1x100000, .i32⟩ : BufTy).Contents (Elt F)),
    binary main_v38 main_v49 main_v50 (muli : (⟨S1x100000, .i32⟩ : BufTy).Contents (Elt F) → (⟨S1x100000, .i32⟩ : BufTy).Contents (Elt F) → (⟨S1x100000, .i32⟩ : BufTy).Contents (Elt F)),
    unary main_v48 main_v51 (broadcastInDim S128x100000 ![0, 1] bcast_S128x1_S128x100000_0_1 : (⟨S128x1, .i32⟩ : BufTy).Contents (Elt F) → (⟨S128x100000, .i32⟩ : BufTy).Contents (Elt F)),
    unary main_v50 main_v52 (broadcastInDim S128x100000 ![0, 1] bcast_S1x100000_S128x100000_0_1 : (⟨S1x100000, .i32⟩ : BufTy).Contents (Elt F) → (⟨S128x100000, .i32⟩ : BufTy).Contents (Elt F)),
    binary main_v51 main_v52 main_v53 (xori : (⟨S128x100000, .i32⟩ : BufTy).Contents (Elt F) → (⟨S128x100000, .i32⟩ : BufTy).Contents (Elt F) → (⟨S128x100000, .i32⟩ : BufTy).Contents (Elt F)),
    nullary main_c_9 (constantI S_ 32 16777216#32),
    TRef.nullary (TRef.of (T := ⟨S_, .i32⟩) main_call6_c) (constantI S_ 32 0#32),
    TRef.binary (TRef.of (T := ⟨S_, .i32⟩) main_c_9) (TRef.of (T := ⟨S_, .i32⟩) main_call6_c) (TRef.of (T := ⟨S_, .i1⟩) main_call6_v0) (cmpi .eq),
    TRef.nullary (TRef.of (T := ⟨S_, .i32⟩) main_call6_c_0) (constantI S_ 32 1#32),
    TRef.ternary (TRef.of (T := ⟨S_, .i1⟩) main_call6_v0) (TRef.of (T := ⟨S_, .i32⟩) main_call6_c_0) (TRef.of (T := ⟨S_, .i32⟩) main_c_9) (TRef.of (T := ⟨S_, .i32⟩) main_call6_v1) select,
    TRef.unary (TRef.of (T := ⟨S_, .i32⟩) main_call6_v1) (TRef.of (T := ⟨S128x100000, .i32⟩) main_call6_v2) (broadcastInDim S128x100000 ![] bcast_S_S128x100000),
    TRef.binary (TRef.of (T := ⟨S128x100000, .i32⟩) main_v53) (TRef.of (T := ⟨S128x100000, .i32⟩) main_call6_v2) (TRef.of (T := ⟨S128x100000, .i32⟩) main_call6_v3) Host.remui,
    TRef.nullary (TRef.of (T := ⟨S_, .i32⟩) main_call6_c_1) (constantI S_ 32 0#32),
    TRef.unary (TRef.of (T := ⟨S_, .i32⟩) main_call6_c_1) (TRef.of (T := ⟨S128x100000, .i32⟩) main_call6_v4) (broadcastInDim S128x100000 ![] bcast_S_S128x100000),
    TRef.binary (TRef.of (T := ⟨S128x100000, .i32⟩) main_call6_v3) (TRef.of (T := ⟨S128x100000, .i32⟩) main_call6_v4) (TRef.of (T := ⟨S128x100000, .i1⟩) main_call6_v5) (cmpi .ne),
    TRef.nullary (TRef.of (T := ⟨S_, .i32⟩) main_call6_c_2) (constantI S_ 32 0#32),
    TRef.unary (TRef.of (T := ⟨S_, .i32⟩) main_call6_c_2) (TRef.of (T := ⟨S128x100000, .i32⟩) main_call6_v6) (broadcastInDim S128x100000 ![] bcast_S_S128x100000),
    TRef.binary (TRef.of (T := ⟨S128x100000, .i32⟩) main_call6_v3) (TRef.of (T := ⟨S128x100000, .i32⟩) main_call6_v6) (TRef.of (T := ⟨S128x100000, .i1⟩) main_call6_v7) (cmpi .ult),
    TRef.nullary (TRef.of (T := ⟨S_, .i32⟩) main_call6_c_3) (constantI S_ 32 0#32),
    TRef.binary (TRef.of (T := ⟨S_, .i32⟩) main_call6_v1) (TRef.of (T := ⟨S_, .i32⟩) main_call6_c_3) (TRef.of (T := ⟨S_, .i1⟩) main_call6_v8) (cmpi .ult),
    TRef.unary (TRef.of (T := ⟨S_, .i1⟩) main_call6_v8) (TRef.of (T := ⟨S128x100000, .i1⟩) main_call6_v9) (broadcastInDim S128x100000 ![] bcast_S_S128x100000),
    TRef.binary (TRef.of (T := ⟨S128x100000, .i1⟩) main_call6_v7) (TRef.of (T := ⟨S128x100000, .i1⟩) main_call6_v9) (TRef.of (T := ⟨S128x100000, .i1⟩) main_call6_v10) (cmpi .ne),
    TRef.binary (TRef.of (T := ⟨S128x100000, .i1⟩) main_call6_v10) (TRef.of (T := ⟨S128x100000, .i1⟩) main_call6_v5) (TRef.of (T := ⟨S128x100000, .i1⟩) main_call6_v11) andi,
    TRef.unary (TRef.of (T := ⟨S_, .i32⟩) main_call6_v1) (TRef.of (T := ⟨S128x100000, .i32⟩) main_call6_v12) (broadcastInDim S128x100000 ![] bcast_S_S128x100000),
    TRef.binary (TRef.of (T := ⟨S128x100000, .i32⟩) main_call6_v3) (TRef.of (T := ⟨S128x100000, .i32⟩) main_call6_v12) (TRef.of (T := ⟨S128x100000, .i32⟩) main_call6_v13) addi,
    TRef.ternary (TRef.of (T := ⟨S128x100000, .i1⟩) main_call6_v11) (TRef.of (T := ⟨S128x100000, .i32⟩) main_call6_v13) (TRef.of (T := ⟨S128x100000, .i32⟩) main_call6_v3) (TRef.of (T := ⟨S128x100000, .i32⟩) main_v54) select,
    unary main_v54 main_v55 (uitofp .f32 : (⟨S128x100000, .i32⟩ : BufTy).Contents (Elt F) → (⟨S128x100000, .f32⟩ : BufTy).Contents (Elt F)),
    nullary main_cst_10 (constant S_ .f32 0x4B800000#32),
    unary main_cst_10 main_v56 (broadcastInDim S128x100000 ![] bcast_S_S128x100000 : (⟨S_, .f32⟩ : BufTy).Contents (Elt F) → (⟨S128x100000, .f32⟩ : BufTy).Contents (Elt F)),
    binary main_v55 main_v56 main_v57 (Host.divf : (⟨S128x100000, .f32⟩ : BufTy).Contents (Elt F) → (⟨S128x100000, .f32⟩ : BufTy).Contents (Elt F) → (⟨S128x100000, .f32⟩ : BufTy).Contents (Elt F)) ]

/-- @main's operations 122 … 151 of 185 (window `main_part1`). -/
abbrev ops_part1_1 : List (HloOp τ sig (Elt F)) :=
  [ nullary main_cst_11 (constant S_ .f32 0x2EDBE6FF#32),
    nullary main_cst_12 (constant S_ .f32 0x3F800000#32),
    TRef.unary (TRef.of (T := ⟨S_, .f32⟩) main_cst_11) (TRef.of (T := ⟨S_, .f32⟩) main_call7_v0) id,
    TRef.unary (TRef.of (T := ⟨S_, .f32⟩) main_call7_v0) (TRef.of (T := ⟨S128x100000, .f32⟩) main_call7_v1) (broadcastInDim S128x100000 ![] bcast_S_S128x100000),
    TRef.binary (TRef.of (T := ⟨S128x100000, .f32⟩) main_call7_v1) (TRef.of (T := ⟨S128x100000, .f32⟩) main_v57) (TRef.of (T := ⟨S128x100000, .f32⟩) main_call7_v2) maximumf,
    TRef.unary (TRef.of (T := ⟨S_, .f32⟩) main_cst_12) (TRef.of (T := ⟨S_, .f32⟩) main_call7_v3) id,
    TRef.unary (TRef.of (T := ⟨S_, .f32⟩) main_call7_v3) (TRef.of (T := ⟨S128x100000, .f32⟩) main_call7_v4) (broadcastInDim S128x100000 ![] bcast_S_S128x100000),
    TRef.binary (TRef.of (T := ⟨S128x100000, .f32⟩) main_call7_v4) (TRef.of (T := ⟨S128x100000, .f32⟩) main_call7_v2) (TRef.of (T := ⟨S128x100000, .f32⟩) main_v58) minimumf,
    unary main_v58 main_v59 (Host.log : (⟨S128x100000, .f32⟩ : BufTy).Contents (Elt F) → (⟨S128x100000, .f32⟩ : BufTy).Contents (Elt F)),
    unary main_v59 main_v60 (Host.negf : (⟨S128x100000, .f32⟩ : BufTy).Contents (Elt F) → (⟨S128x100000, .f32⟩ : BufTy).Contents (Elt F)),
    unary main_v60 main_v61 (Host.log : (⟨S128x100000, .f32⟩ : BufTy).Contents (Elt F) → (⟨S128x100000, .f32⟩ : BufTy).Contents (Elt F)),
    unary main_v61 main_v62 (Host.negf : (⟨S128x100000, .f32⟩ : BufTy).Contents (Elt F) → (⟨S128x100000, .f32⟩ : BufTy).Contents (Elt F)),
    binary main_v36 main_v62 main_v63 (addf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call8_v0) (iotaInDim S128x100000 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S128x100000, .f32⟩) main_v63) (TRef.of (T := ⟨S128x100000, .i32⟩) main_call8_v0) (TRef.of (T := ⟨S_, .f32⟩) main_call8_cst) (TRef.of (T := ⟨S_, .i32⟩) main_call8_c) (TRef.of (T := ⟨S128, .f32⟩) main_call8_v1_0) (fun x y u v j => (Host.argReduce reducer_argmax_f32_i32 x y u v reducesTo_S128x100000_S128_d1 h_S_ j).1),
    TRef.quaternary (TRef.of (T := ⟨S128x100000, .f32⟩) main_v63) (TRef.of (T := ⟨S128x100000, .i32⟩) main_call8_v0) (TRef.of (T := ⟨S_, .f32⟩) main_call8_cst) (TRef.of (T := ⟨S_, .i32⟩) main_call8_c) (TRef.of (T := ⟨S128, .i32⟩) main_v64) (fun x y u v j => (Host.argReduce reducer_argmax_f32_i32 x y u v reducesTo_S128x100000_S128_d1 h_S_ j).2),
    unary main_v64 main_v65 (broadcastInDim S128x1 ![0] bcast_S128_S128x1_0 : (⟨S128, .i32⟩ : BufTy).Contents (Elt F) → (⟨S128x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S128x1, .i32⟩) main_call9_v0) (broadcastInDim S128x1 ![] bcast_S_S128x1),
    TRef.binary (TRef.of (T := ⟨S128x1, .i32⟩) main_v65) (TRef.of (T := ⟨S128x1, .i32⟩) main_call9_v0) (TRef.of (T := ⟨S128x1, .i1⟩) main_call9_v1) (cmpi .slt),
    TRef.nullary (TRef.of (T := ⟨S_, .i32⟩) main_call9_c_0) (constantI S_ 32 100000#32),
    TRef.unary (TRef.of (T := ⟨S_, .i32⟩) main_call9_c_0) (TRef.of (T := ⟨S128x1, .i32⟩) main_call9_v2) (broadcastInDim S128x1 ![] bcast_S_S128x1),
    TRef.binary (TRef.of (T := ⟨S128x1, .i32⟩) main_v65) (TRef.of (T := ⟨S128x1, .i32⟩) main_call9_v2) (TRef.of (T := ⟨S128x1, .i32⟩) main_call9_v3) addi,
    TRef.ternary (TRef.of (T := ⟨S128x1, .i1⟩) main_call9_v1) (TRef.of (T := ⟨S128x1, .i32⟩) main_call9_v3) (TRef.of (T := ⟨S128x1, .i32⟩) main_v65) (TRef.of (T := ⟨S128x1, .i32⟩) main_call9_v4) select,
    TRef.reshape (TRef.of (T := ⟨S128x1, .i32⟩) main_call9_v4) (TRef.of (T := ⟨S128x1x1, .i32⟩) main_call9_v5) (rfl : (.i32 : EltTy) = .i32) shapeCasts_S128x1_S128x1x1,
    TRef.nullary (TRef.of (T := ⟨S1, .i32⟩) main_call9_c_1) (constantI S1 32 99999#32),
    TRef.nullary (TRef.of (T := ⟨S_, .i32⟩) main_call9_c_2) (constantI S_ 32 0#32),
    TRef.unary (TRef.of (T := ⟨S_, .i32⟩) main_call9_c_2) (TRef.of (T := ⟨S128x1x1, .i32⟩) main_call9_v6) (broadcastInDim S128x1x1 ![] bcast_S_S128x1x1) ]

/-- @main's operations 152 … 181 of 185 (window `main_part1`). -/
abbrev ops_part1_2 : List (HloOp τ sig (Elt F)) :=
  [ TRef.binary (TRef.of (T := ⟨S128x1x1, .i32⟩) main_call9_v5) (TRef.of (T := ⟨S128x1x1, .i32⟩) main_call9_v6) (TRef.of (T := ⟨S128x1x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S128x1x1, .i32⟩) main_call9_v9) (broadcastInDim S128x1x1 ![0, 1, 2] bcast_S1x1x1_S128x1x1_0_1_2),
    TRef.binary (TRef.of (T := ⟨S128x1x1, .i32⟩) main_call9_v5) (TRef.of (T := ⟨S128x1x1, .i32⟩) main_call9_v9) (TRef.of (T := ⟨S128x1x1, .i1⟩) main_call9_v10) (cmpi .sle),
    TRef.binary (TRef.of (T := ⟨S128x1x1, .i1⟩) main_call9_v7) (TRef.of (T := ⟨S128x1x1, .i1⟩) main_call9_v10) (TRef.of (T := ⟨S128x1x1, .i1⟩) main_call9_v11) andi,
    TRef.nullary (TRef.of (T := ⟨S_, .i1⟩) main_call9_c_3) (constantI S_ 1 1#1),
    TRef.binary (TRef.of (T := ⟨S128x1x1, .i1⟩) main_call9_v11) (TRef.of (T := ⟨S_, .i1⟩) main_call9_c_3) (TRef.of (T := ⟨S128x1, .i1⟩) main_call9_v12) (fun x v => Host.reduce IntOp.andi x v reducesTo_S128x1x1_S128x1_d2 h_S_),
    TRef.binary (TRef.of (T := ⟨S128x100000, .i32⟩) main_v12) (TRef.of (T := ⟨S128x1x1, .i32⟩) main_call9_v5) (TRef.of (T := ⟨S128x1, .i32⟩) main_call9_v13) (fun x i => Host.gather gather_S128x100000_S128x1x1_S128x1_n_1_0_0_1_2_11 x i),
    TRef.nullary (TRef.of (T := ⟨S_, .i32⟩) main_call9_c_4) (constantI S_ 32 2147483648#32),
    TRef.unary (TRef.of (T := ⟨S_, .i32⟩) main_call9_c_4) (TRef.of (T := ⟨S128x1, .i32⟩) main_call9_v14) (broadcastInDim S128x1 ![] bcast_S_S128x1),
    TRef.ternary (TRef.of (T := ⟨S128x1, .i1⟩) main_call9_v12) (TRef.of (T := ⟨S128x1, .i32⟩) main_call9_v13) (TRef.of (T := ⟨S128x1, .i32⟩) main_call9_v14) (TRef.of (T := ⟨S128x1, .i32⟩) main_v66) select,
    nullary main_cst_13 (constant S_ .f32 0x00000000#32),
    unary main_cst_13 main_v67 (broadcastInDim S128x100000 ![] bcast_S_S128x100000 : (⟨S_, .f32⟩ : BufTy).Contents (Elt F) → (⟨S128x100000, .f32⟩ : BufTy).Contents (Elt F)),
    nullary main_v68 (iotaInDim S128 32 0),
    unary main_v68 main_v69 (broadcastInDim S128x1 ![0] bcast_S128_S128x1_0 : (⟨S128, .i32⟩ : BufTy).Contents (Elt F) → (⟨S128x1, .i32⟩ : BufTy).Contents (Elt F)),
    nullary main_c_14 (constantI S_ 32 0#32),
    unary main_c_14 main_v70 (broadcastInDim S128x1 ![] bcast_S_S128x1 : (⟨S_, .i32⟩ : BufTy).Contents (Elt F) → (⟨S128x1, .i32⟩ : BufTy).Contents (Elt F)),
    binary main_v69 main_v70 main_v71 (cmpi .slt : (⟨S128x1, .i32⟩ : BufTy).Contents (Elt F) → (⟨S128x1, .i32⟩ : BufTy).Contents (Elt F) → (⟨S128x1, .i1⟩ : BufTy).Contents (Elt F)),
    nullary main_c_15 (constantI S_ 32 128#32),
    unary main_c_15 main_v72 (broadcastInDim S128x1 ![] bcast_S_S128x1 : (⟨S_, .i32⟩ : BufTy).Contents (Elt F) → (⟨S128x1, .i32⟩ : BufTy).Contents (Elt F)),
    binary main_v69 main_v72 main_v73 (addi : (⟨S128x1, .i32⟩ : BufTy).Contents (Elt F) → (⟨S128x1, .i32⟩ : BufTy).Contents (Elt F) → (⟨S128x1, .i32⟩ : BufTy).Contents (Elt F)),
    ternary main_v71 main_v73 main_v69 main_v74 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_16 (constantI S_ 32 0#32),
    unary main_c_16 main_v75 (broadcastInDim S128x100000 ![] bcast_S_S128x100000 : (⟨S_, .i32⟩ : BufTy).Contents (Elt F) → (⟨S128x100000, .i32⟩ : BufTy).Contents (Elt F)),
    binary main_v12 main_v75 main_v76 (cmpi .slt : (⟨S128x100000, .i32⟩ : BufTy).Contents (Elt F) → (⟨S128x100000, .i32⟩ : BufTy).Contents (Elt F) → (⟨S128x100000, .i1⟩ : BufTy).Contents (Elt F)),
    nullary main_c_17 (constantI S_ 32 100000#32),
    unary main_c_17 main_v77 (broadcastInDim S128x100000 ![] bcast_S_S128x100000 : (⟨S_, .i32⟩ : BufTy).Contents (Elt F) → (⟨S128x100000, .i32⟩ : BufTy).Contents (Elt F)),
    binary main_v12 main_v77 main_v78 (addi : (⟨S128x100000, .i32⟩ : BufTy).Contents (Elt F) → (⟨S128x100000, .i32⟩ : BufTy).Contents (Elt F) → (⟨S128x100000, .i32⟩ : BufTy).Contents (Elt F)),
    ternary main_v76 main_v78 main_v12 main_v79 (select : (⟨S128x100000, .i1⟩ : BufTy).Contents (Elt F) → (⟨S128x100000, .i32⟩ : BufTy).Contents (Elt F) → (⟨S128x100000, .i32⟩ : BufTy).Contents (Elt F) → (⟨S128x100000, .i32⟩ : BufTy).Contents (Elt F)),
    unary main_v74 main_v80 (broadcastInDim S128x100000 ![0, 1] bcast_S128x1_S128x100000_0_1 : (⟨S128x1, .i32⟩ : BufTy).Contents (Elt F) → (⟨S128x100000, .i32⟩ : BufTy).Contents (Elt F)) ]

/-- @main's operations 182 … 185 of 185 (window `main_part1`). -/
abbrev ops_part1_3 : List (HloOp τ sig (Elt F)) :=
  [ unary main_v80 main_v81 (broadcastInDim S128x100000x1 ![0, 1] bcast_S128x100000_S128x100000x1_0_1 : (⟨S128x100000, .i32⟩ : BufTy).Contents (Elt F) → (⟨S128x100000x1, .i32⟩ : BufTy).Contents (Elt F)),
    unary main_v79 main_v82 (broadcastInDim S128x100000x1 ![0, 1] bcast_S128x100000_S128x100000x1_0_1 : (⟨S128x100000, .i32⟩ : BufTy).Contents (Elt F) → (⟨S128x100000x1, .i32⟩ : BufTy).Contents (Elt F)),
    binary main_v81 main_v82 main_v83 (fn_main_v83 (F := F)),
    ternary main_v67 main_v83 main_v33 main_v84 ((fun x i u => Host.scatter scatter_S128x100000_S128x100000x2_S128x100000_n_01_01_2 (fun _ b => b) x i u) : (⟨S128x100000, .f32⟩ : BufTy).Contents (Elt F) → (⟨S128x100000x2, .i32⟩ : BufTy).Contents (Elt F) → (⟨S128x100000, .f32⟩ : BufTy).Contents (Elt F) → (⟨S128x100000, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's 185 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨ternary_bufs_sub .., unary_bufs_sub .., reshape_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  nullary_bufs_sub ..
set_option maxRecDepth 8192 in
theorem ops_part0_3_fresh : (ops_part0_3 : List (HloOp τ sig (Elt F))).Forall fun op => op.fresh = ∅ :=
  rfl
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., unary_bufs_sub .., binary_bufs_sub .., ternary_bufs_sub ..⟩
set_option maxRecDepth 8192 in
theorem ops_part1_3_fresh : (ops_part1_3 : List (HloOp τ sig (Elt F))).Forall fun op => op.fresh = ∅ :=
  ⟨rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part1_3_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h]

set_option maxRecDepth 8192 in
/-- `main_v6`'s composed term of the arguments (named: it is used 2 times). -/
def res_main_v6 (V0 : Valuation τ sig (Elt F)) : (Proc.devRef .tc main_v6 : DevRef τ sig).ty.Contents (Elt F) :=
  Host.exp (subf (V0 (Proc.devRef .tc main_arg0)) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (V0 (Proc.devRef .tc main_arg0)) (constant S_ .f32 0xFF800000#32) reducesTo_S128x100000_S128_d1 h_S_)))))

set_option maxRecDepth 8192 in
/-- `main_v10`'s composed term of the arguments (named: it is used 3 times). -/
def res_main_v10 (V0 : Valuation τ sig (Elt F)) : (Proc.devRef .tc main_v10 : DevRef τ sig).ty.Contents (Elt F) :=
  Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_)))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S128x100000 32 1

set_option maxRecDepth 8192 in
/-- `main_v12`'s composed term of the arguments (named: it is used 7 times). -/
def res_main_v12 (V0 : Valuation τ sig (Elt F)) : (Proc.devRef .tc main_v12 : DevRef τ sig).ty.Contents (Elt F) :=
  Host.reverse [1] ((Host.sort2 S128x100000 1 comparator_f32_i32_d1 (res_main_v10 V0) (res_main_call0_v0 V0)).2)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v12 V0) (broadcastInDim S128x100000 ![] bcast_S_S128x100000 (constantI S_ 32 0#32))) (addi (res_main_v12 V0) (broadcastInDim S128x100000 ![] bcast_S_S128x100000 (constantI S_ 32 100000#32))) (res_main_v12 V0)) shapeCasts_S128x100000_S128x100000x1

set_option maxRecDepth 8192 in
/-- `main_v13`'s composed term of the arguments (named: it is used 2 times). -/
def res_main_v13 (V0 : Valuation τ sig (Elt F)) : (Proc.devRef .tc main_v13 : DevRef τ sig).ty.Contents (Elt F) :=
  select (Host.reduce IntOp.andi (andi (cmpi .sge (res_main_call1_v5 V0) (broadcastInDim S128x100000x1 ![] bcast_S_S128x100000x1 (constantI S_ 32 0#32))) (cmpi .sle (res_main_call1_v5 V0) (broadcastInDim S128x100000x1 ![0, 1, 2] bcast_S1x1x1_S128x100000x1_0_1_2 (broadcastInDim S1x1x1 ![2] bcast_S1_S1x1x1_2 (constantI S1 32 99999#32))))) (constantI S_ 1 1#1) reducesTo_S128x100000x1_S128x100000_d2 h_S_) (Host.gather gather_S128x100000_S128x100000x1_S128x100000_n_1_0_0_1_2_11 (res_main_v10 V0) (res_main_call1_v5 V0)) (broadcastInDim S128x100000 ![] bcast_S_S128x100000 (constant S_ .f32 0x7FC00000#32))

set_option maxRecDepth 8192 in
/-- `main_v21`'s composed term of the arguments (named: it is used 2 times). -/
def res_main_v21 (V0 : Valuation τ sig (Elt F)) : (Proc.devRef .tc main_v21 : DevRef τ sig).ty.Contents (Elt F) :=
  select (cmpi .sge (broadcastInDim S128x100000 ![0, 1] bcast_S1x100000_S128x100000_0_1 (broadcastInDim S1x100000 ![1] bcast_S100000_S1x100000_1 (iotaInDim S100000 32 0))) (broadcastInDim S128x100000 ![0, 1] bcast_S128x1_S128x100000_0_1 (broadcastInDim S128x1 ![0] bcast_S128_S128x1_0 (V0 (Proc.devRef .tc main_arg3))))) (broadcastInDim S128x100000 ![] bcast_S_S128x100000 (id (constant S_ .f32 0x00000000#32))) (res_main_v13 V0)

set_option maxRecDepth 8192 in
/-- `main_v26`'s composed term of the arguments (named: it is used 3 times). -/
def res_main_v26 (V0 : Valuation τ sig (Elt F)) : (Proc.devRef .tc main_v26 : DevRef τ sig).ty.Contents (Elt F) :=
  select (cmpf .ogt (subf (Host.reduceWindowAdd ![1, 100000] ![1, 1] ![0, 99999] ![0, 0] (res_main_v13 V0) (broadcastInDim S_ ![] bcast_S_S_ (constant S_ .f32 0x00000000#32)) reduceWindows_S128x100000_S128x100000_w1s1p0_0_w100000s1p99999_0 h_S_) (res_main_v21 V0)) (broadcastInDim S128x100000 ![0, 1] bcast_S128x1_S128x100000_0_1 (broadcastInDim S128x1 ![0] bcast_S128_S128x1_0 (V0 (Proc.devRef .tc main_arg1))))) (broadcastInDim S128x100000 ![] bcast_S_S128x100000 (id (constant S_ .f32 0x00000000#32))) (res_main_v21 V0)

set_option maxRecDepth 8192 in
/-- `main_v33`'s composed term of the arguments (named: it is used 2 times). -/
def res_main_v33 (V0 : Valuation τ sig (Elt F)) : (Proc.devRef .tc main_v33 : DevRef τ sig).ty.Contents (Elt F) :=
  select (cmpf .olt (res_main_v26 V0) (broadcastInDim S128x100000 ![0, 1] bcast_S128x1_S128x100000_0_1 (broadcastInDim S128x1 ![0] bcast_S128_S128x1_0 (mulf (shapeCast _ (extractStridedSlice S128x1 ![0, 0] (res_main_v26 V0) slices_S128x100000_S128x1_0_0) shapeCasts_S128x1_S128) (V0 (Proc.devRef .tc main_arg2)))))) (broadcastInDim S128x100000 ![] bcast_S_S128x100000 (id (constant S_ .f32 0x00000000#32))) (res_main_v26 V0)

set_option maxRecDepth 8192 in
/-- `main_c_9`'s composed term of the arguments (named: it is used 2 times). -/
def res_main_c_9 (V0 : Valuation τ sig (Elt F)) : (Proc.devRef .tc main_c_9 : DevRef τ sig).ty.Contents (Elt F) :=
  constantI S_ 32 16777216#32

set_option maxRecDepth 8192 in
/-- `main_call6_v1`'s composed term of the arguments (named: it is used 3 times). -/
def res_main_call6_v1 (V0 : Valuation τ sig (Elt F)) : (Proc.devRef .tc main_call6_v1 : DevRef τ sig).ty.Contents (Elt F) :=
  select (cmpi .eq (res_main_c_9 V0) (constantI S_ 32 0#32)) (constantI S_ 32 1#32) (res_main_c_9 V0)

set_option maxRecDepth 8192 in
/-- `main_call6_v3`'s composed term of the arguments (named: it is used 4 times). -/
def res_main_call6_v3 (V0 : Valuation τ sig (Elt F)) : (Proc.devRef .tc main_call6_v3 : DevRef τ sig).ty.Contents (Elt F) :=
  Host.remui (xori (broadcastInDim S128x100000 ![0, 1] bcast_S128x1_S128x100000_0_1 (muli (broadcastInDim S128x1 ![0] bcast_S128_S128x1_0 (xori (muli (id (V0 (Proc.devRef .tc main_arg4))) (broadcastInDim S128 ![] bcast_S_S128 (constantI S_ 32 19349663#32))) (muli (id (V0 (Proc.devRef .tc main_arg5))) (broadcastInDim S128 ![] bcast_S_S128 (constantI S_ 32 73856093#32))))) (broadcastInDim S128x1 ![] bcast_S_S128x1 (constantI S_ 32 4294967295#32)))) (broadcastInDim S128x100000 ![0, 1] bcast_S1x100000_S128x100000_0_1 (muli (broadcastInDim S1x100000 ![1] bcast_S100000_S1x100000_1 (iotaInDim S100000 32 0)) (broadcastInDim S1x100000 ![] bcast_S_S1x100000 (constantI S_ 32 479001599#32))))) (broadcastInDim S128x100000 ![] bcast_S_S128x100000 (res_main_call6_v1 V0))

set_option maxRecDepth 8192 in
/-- `main_v63`'s composed term of the arguments (named: it is used 2 times). -/
def res_main_v63 (V0 : Valuation τ sig (Elt F)) : (Proc.devRef .tc main_v63 : DevRef τ sig).ty.Contents (Elt F) :=
  addf (Host.log (addf (res_main_v33 V0) (broadcastInDim S128x100000 ![] bcast_S_S128x100000 (constant S_ .f32 0x2EDBE6FF#32)))) (Host.negf (Host.log (Host.negf (Host.log (minimumf (broadcastInDim S128x100000 ![] bcast_S_S128x100000 (id (constant S_ .f32 0x3F800000#32))) (maximumf (broadcastInDim S128x100000 ![] bcast_S_S128x100000 (id (constant S_ .f32 0x2EDBE6FF#32))) (Host.divf (uitofp .f32 (select (andi (cmpi .ne (cmpi .ult (res_main_call6_v3 V0) (broadcastInDim S128x100000 ![] bcast_S_S128x100000 (constantI S_ 32 0#32))) (broadcastInDim S128x100000 ![] bcast_S_S128x100000 (cmpi .ult (res_main_call6_v1 V0) (constantI S_ 32 0#32)))) (cmpi .ne (res_main_call6_v3 V0) (broadcastInDim S128x100000 ![] bcast_S_S128x100000 (constantI S_ 32 0#32)))) (addi (res_main_call6_v3 V0) (broadcastInDim S128x100000 ![] bcast_S_S128x100000 (res_main_call6_v1 V0))) (res_main_call6_v3 V0))) (broadcastInDim S128x100000 ![] bcast_S_S128x100000 (constant S_ .f32 0x4B800000#32)))))))))

set_option maxRecDepth 8192 in
/-- `main_call8_v0`'s composed term of the arguments (named: it is used 2 times). -/
def res_main_call8_v0 (V0 : Valuation τ sig (Elt F)) : (Proc.devRef .tc main_call8_v0 : DevRef τ sig).ty.Contents (Elt F) :=
  iotaInDim S128x100000 32 1

set_option maxRecDepth 8192 in
/-- `main_call8_cst`'s composed term of the arguments (named: it is used 2 times). -/
def res_main_call8_cst (V0 : Valuation τ sig (Elt F)) : (Proc.devRef .tc main_call8_cst : DevRef τ sig).ty.Contents (Elt F) :=
  constant S_ .f32 0xFF800000#32

set_option maxRecDepth 8192 in
/-- `main_call8_c`'s composed term of the arguments (named: it is used 2 times). -/
def res_main_call8_c (V0 : Valuation τ sig (Elt F)) : (Proc.devRef .tc main_call8_c : DevRef τ sig).ty.Contents (Elt F) :=
  constantI S_ 32 0#32

set_option maxRecDepth 8192 in
/-- `main_v65`'s composed term of the arguments (named: it is used 3 times). -/
def res_main_v65 (V0 : Valuation τ sig (Elt F)) : (Proc.devRef .tc main_v65 : DevRef τ sig).ty.Contents (Elt F) :=
  broadcastInDim S128x1 ![0] bcast_S128_S128x1_0 (((fun j => (Host.argReduce reducer_argmax_f32_i32 (res_main_v63 V0) (res_main_call8_v0 V0) (res_main_call8_cst V0) (res_main_call8_c V0) reducesTo_S128x100000_S128_d1 h_S_ j).2)))

set_option maxRecDepth 8192 in
/-- `main_call9_v5`'s composed term of the arguments (named: it is used 3 times). -/
def res_main_call9_v5 (V0 : Valuation τ sig (Elt F)) : (Proc.devRef .tc main_call9_v5 : DevRef τ sig).ty.Contents (Elt F) :=
  shapeCast _ (select (cmpi .slt (res_main_v65 V0) (broadcastInDim S128x1 ![] bcast_S_S128x1 (constantI S_ 32 0#32))) (addi (res_main_v65 V0) (broadcastInDim S128x1 ![] bcast_S_S128x1 (constantI S_ 32 100000#32))) (res_main_v65 V0)) shapeCasts_S128x1_S128x1x1

set_option maxRecDepth 8192 in
/-- `main_v69`'s composed term of the arguments (named: it is used 3 times). -/
def res_main_v69 (V0 : Valuation τ sig (Elt F)) : (Proc.devRef .tc main_v69 : DevRef τ sig).ty.Contents (Elt F) :=
  broadcastInDim S128x1 ![0] bcast_S128_S128x1_0 (iotaInDim S128 32 0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_cst_0, main_v1, main_v2, main_v3, main_v4, main_v5, main_v6, main_cst_1, main_v7, main_v8, main_v9, main_v10, main_call0_v0, main_call0_v1_0, main_v11, main_v12, main_call1_c, main_call1_v0, main_call1_v1, main_call1_c_0, main_call1_v2, main_call1_v3, main_call1_v4, main_call1_v5, main_call1_c_1, main_call1_c_2, main_call1_v6, main_call1_v7]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_call1_v5 (V0 : Valuation τ sig (Elt F)) : val0_1 V0 (no_index (Proc.devRef .tc main_call1_v5)) = res_main_call1_v5 V0 := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_call1_c_1 (V0 : Valuation τ sig (Elt F)) : val0_1 V0 (no_index (Proc.devRef .tc main_call1_c_1)) = constantI S1 32 99999#32 := by
  unfold val0_1
  simp only [ops_part0_0, TRef.binary, TRef.nullary, TRef.reshape, TRef.ternary, TRef.unary, TRef.toBuf, TRef.ofBuf, cast_eq]
  after_results_simp
  all_goals rfl
set_option maxRecDepth 8192 in
set_option maxHeartbeats 2000000 in
theorem val0_1_main_call1_v7 (V0 : Valuation τ sig (Elt F)) : val0_1 V0 (no_index (Proc.devRef .tc main_call1_v7)) = cmpi .sge (res_main_call1_v5 V0) (broadcastInDim S128x100000x1 ![] bcast_S_S128x100000x1 (constantI S_ 32 0#32)) := by
  unfold val0_1
  simp only [ops_part0_0, TRef.binary, TRef.nullary, TRef.reshape, TRef.ternary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_v8, main_call1_v9, main_call1_v10, main_call1_v11, main_call1_c_3, main_call1_v12, main_call1_v13, main_call1_cst, main_call1_v14, main_v13, main_call2_call0_cst, main_call2_call0_v0, main_v14, main_v15, main_v16, main_v17, main_v18, main_v19, main_v20, main_cst_2, main_call3_v0, main_call3_v1, main_v21, main_v22, main_v23, main_v24, main_v25, main_cst_3, main_call4_v0, main_call4_v1]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_v12 (V0 : Valuation τ sig (Elt F)) : val0_2 V0 (no_index (Proc.devRef .tc main_v12)) = res_main_v12 V0 :=
  (val0_2_keep V0 main_v12 (by decide)).trans (val0_1_main_v12 V0)
set_option maxRecDepth 8192 in
set_option maxHeartbeats 2000000 in
theorem val0_2_main_v21 (V0 : Valuation τ sig (Elt F)) : val0_2 V0 (no_index (Proc.devRef .tc main_v21)) = res_main_v21 V0 := by
  unfold val0_2
  simp only [ops_part0_1, TRef.binary, TRef.nullary, TRef.ternary, TRef.unary, TRef.toBuf, TRef.ofBuf, cast_eq]
  after_results_simp
  simp only [val0_1_main_call1_v5, val0_1_main_v10, val0_1_main_call1_c_1, val0_1_main_call1_v7, val0_1_main_arg3] <;> rfl
set_option maxRecDepth 8192 in
set_option maxHeartbeats 2000000 in
theorem val0_2_main_v25 (V0 : Valuation τ sig (Elt F)) : val0_2 V0 (no_index (Proc.devRef .tc main_v25)) = cmpf .ogt (subf (Host.reduceWindowAdd ![1, 100000] ![1, 1] ![0, 99999] ![0, 0] (res_main_v13 V0) (broadcastInDim S_ ![] bcast_S_S_ (constant S_ .f32 0x00000000#32)) reduceWindows_S128x100000_S128x100000_w1s1p0_0_w100000s1p99999_0 h_S_) (res_main_v21 V0)) (broadcastInDim S128x100000 ![0, 1] bcast_S128x1_S128x100000_0_1 (broadcastInDim S128x1 ![0] bcast_S128_S128x1_0 (V0 (Proc.devRef .tc main_arg1)))) := by
  unfold val0_2
  simp only [ops_part0_1, TRef.binary, TRef.nullary, TRef.ternary, TRef.unary, TRef.toBuf, TRef.ofBuf, cast_eq]
  after_results_simp
  simp only [val0_1_main_arg1, val0_1_main_call1_v5, val0_1_main_v10, val0_1_main_call1_c_1, val0_1_main_call1_v7, val0_1_main_arg3] <;> rfl
set_option maxRecDepth 8192 in
set_option maxHeartbeats 2000000 in
theorem val0_2_main_call4_v1 (V0 : Valuation τ sig (Elt F)) : val0_2 V0 (no_index (Proc.devRef .tc main_call4_v1)) = broadcastInDim S128x100000 ![] bcast_S_S128x100000 (id (constant S_ .f32 0x00000000#32)) := by
  unfold val0_2
  simp only [ops_part0_1, TRef.binary, TRef.nullary, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v26, main_v27, main_v28, main_v29, main_v30, main_v31, main_v32, main_cst_4, main_call5_v0, main_call5_v1, main_v33, main_cst_5, main_v34, main_v35, main_v36, main_v37, main_v38, main_v39, main_c, main_v40, main_v41, main_v42, main_c_6, main_v43, main_v44, main_v45, main_v46, main_c_7, main_v47, main_v48]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
theorem val0_3_main_v12 (V0 : Valuation τ sig (Elt F)) : val0_3 V0 (no_index (Proc.devRef .tc main_v12)) = res_main_v12 V0 :=
  (val0_3_keep V0 main_v12 (by decide)).trans (val0_2_main_v12 V0)
set_option maxRecDepth 8192 in
set_option maxHeartbeats 2000000 in
theorem val0_3_main_v33 (V0 : Valuation τ sig (Elt F)) : val0_3 V0 (no_index (Proc.devRef .tc main_v33)) = res_main_v33 V0 := by
  unfold val0_3
  simp only [ops_part0_2, TRef.ternary, TRef.unary, TRef.toBuf, TRef.ofBuf, cast_eq]
  after_results_simp
  simp only [val0_2_main_v21, val0_2_main_call4_v1, val0_2_main_v25, val0_2_main_arg2] <;> rfl
set_option maxRecDepth 8192 in
set_option maxHeartbeats 2000000 in
theorem val0_3_main_v36 (V0 : Valuation τ sig (Elt F)) : val0_3 V0 (no_index (Proc.devRef .tc main_v36)) = Host.log (addf (res_main_v33 V0) (broadcastInDim S128x100000 ![] bcast_S_S128x100000 (constant S_ .f32 0x2EDBE6FF#32))) := by
  unfold val0_3
  simp only [ops_part0_2, TRef.ternary, TRef.unary, TRef.toBuf, TRef.ofBuf, cast_eq]
  after_results_simp
  simp only [val0_2_main_v21, val0_2_main_call4_v1, val0_2_main_v25, val0_2_main_arg2] <;> rfl
set_option maxRecDepth 8192 in
set_option maxHeartbeats 2000000 in
theorem val0_3_main_v38 (V0 : Valuation τ sig (Elt F)) : val0_3 V0 (no_index (Proc.devRef .tc main_v38)) = broadcastInDim S1x100000 ![1] bcast_S100000_S1x100000_1 (iotaInDim S100000 32 0) := by
  unfold val0_3
  simp only [ops_part0_2, TRef.ternary, TRef.unary, TRef.toBuf, TRef.ofBuf, cast_eq]
  after_results_simp
  all_goals rfl
set_option maxRecDepth 8192 in
set_option maxHeartbeats 2000000 in
theorem val0_3_main_v48 (V0 : Valuation τ sig (Elt F)) : val0_3 V0 (no_index (Proc.devRef .tc main_v48)) = muli (broadcastInDim S128x1 ![0] bcast_S128_S128x1_0 (xori (muli (id (V0 (Proc.devRef .tc main_arg4))) (broadcastInDim S128 ![] bcast_S_S128 (constantI S_ 32 19349663#32))) (muli (id (V0 (Proc.devRef .tc main_arg5))) (broadcastInDim S128 ![] bcast_S_S128 (constantI S_ 32 73856093#32))))) (broadcastInDim S128x1 ![] bcast_S_S128x1 (constantI S_ 32 4294967295#32)) := by
  unfold val0_3
  simp only [ops_part0_2, TRef.ternary, TRef.unary, TRef.toBuf, TRef.ofBuf, cast_eq]
  after_results_simp
  simp only [val0_2_main_arg5, val0_2_main_arg4] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_c_8]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
theorem val1_main_v12 (V0 : Valuation τ sig (Elt F)) : val1 V0 (no_index (Proc.devRef .tc main_v12)) = res_main_v12 V0 :=
  (val1_keep V0 main_v12 (by decide)).trans (val0_3_main_v12 V0)
theorem val1_main_v33 (V0 : Valuation τ sig (Elt F)) : val1 V0 (no_index (Proc.devRef .tc main_v33)) = res_main_v33 V0 :=
  (val1_keep V0 main_v33 (by decide)).trans (val0_3_main_v33 V0)
theorem val1_main_v36 (V0 : Valuation τ sig (Elt F)) : val1 V0 (no_index (Proc.devRef .tc main_v36)) = Host.log (addf (res_main_v33 V0) (broadcastInDim S128x100000 ![] bcast_S_S128x100000 (constant S_ .f32 0x2EDBE6FF#32))) :=
  (val1_keep V0 main_v36 (by decide)).trans (val0_3_main_v36 V0)
theorem val1_main_v38 (V0 : Valuation τ sig (Elt F)) : val1 V0 (no_index (Proc.devRef .tc main_v38)) = broadcastInDim S1x100000 ![1] bcast_S100000_S1x100000_1 (iotaInDim S100000 32 0) :=
  (val1_keep V0 main_v38 (by decide)).trans (val0_3_main_v38 V0)
theorem val1_main_v48 (V0 : Valuation τ sig (Elt F)) : val1 V0 (no_index (Proc.devRef .tc main_v48)) = muli (broadcastInDim S128x1 ![0] bcast_S128_S128x1_0 (xori (muli (id (V0 (Proc.devRef .tc main_arg4))) (broadcastInDim S128 ![] bcast_S_S128 (constantI S_ 32 19349663#32))) (muli (id (V0 (Proc.devRef .tc main_arg5))) (broadcastInDim S128 ![] bcast_S_S128 (constantI S_ 32 73856093#32))))) (broadcastInDim S128x1 ![] bcast_S_S128x1 (constantI S_ 32 4294967295#32)) :=
  (val1_keep V0 main_v48 (by decide)).trans (val0_3_main_v48 V0)
set_option maxRecDepth 8192 in
theorem val1_main_c_8 (V0 : Valuation τ sig (Elt F)) : val1 V0 (no_index (Proc.devRef .tc main_c_8)) = constantI S_ 32 479001599#32 := by
  unfold val1
  simp only [ops_part0_3]
  after_results_simp
  all_goals rfl

/-- The device's buffer contents after @main's first 121 operations. -/
def val1_1 (V0 : Valuation τ sig (Elt F)) : Valuation τ sig (Elt F) := after ops_part1_0 (val1 V0)
/-- The buffers that window `ops_part1_0`'s operations write. -/
abbrev ops_part1_0_W : List (Ref sig .tc) := [main_v49, main_v50, main_v51, main_v52, main_v53, main_c_9, main_call6_c, main_call6_v0, main_call6_c_0, main_call6_v1, main_call6_v2, main_call6_v3, main_call6_c_1, main_call6_v4, main_call6_v5, main_call6_c_2, main_call6_v6, main_call6_v7, main_call6_c_3, main_call6_v8, main_call6_v9, main_call6_v10, main_call6_v11, main_call6_v12, main_call6_v13, main_v54, main_v55, main_cst_10, main_v56, main_v57]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_v12 (V0 : Valuation τ sig (Elt F)) : val1_1 V0 (no_index (Proc.devRef .tc main_v12)) = res_main_v12 V0 :=
  (val1_1_keep V0 main_v12 (by decide)).trans (val1_main_v12 V0)
theorem val1_1_main_v33 (V0 : Valuation τ sig (Elt F)) : val1_1 V0 (no_index (Proc.devRef .tc main_v33)) = res_main_v33 V0 :=
  (val1_1_keep V0 main_v33 (by decide)).trans (val1_main_v33 V0)
theorem val1_1_main_v36 (V0 : Valuation τ sig (Elt F)) : val1_1 V0 (no_index (Proc.devRef .tc main_v36)) = Host.log (addf (res_main_v33 V0) (broadcastInDim S128x100000 ![] bcast_S_S128x100000 (constant S_ .f32 0x2EDBE6FF#32))) :=
  (val1_1_keep V0 main_v36 (by decide)).trans (val1_main_v36 V0)
set_option maxRecDepth 8192 in
set_option maxHeartbeats 2000000 in
theorem val1_1_main_v57 (V0 : Valuation τ sig (Elt F)) : val1_1 V0 (no_index (Proc.devRef .tc main_v57)) = Host.divf (uitofp .f32 (select (andi (cmpi .ne (cmpi .ult (res_main_call6_v3 V0) (broadcastInDim S128x100000 ![] bcast_S_S128x100000 (constantI S_ 32 0#32))) (broadcastInDim S128x100000 ![] bcast_S_S128x100000 (cmpi .ult (res_main_call6_v1 V0) (constantI S_ 32 0#32)))) (cmpi .ne (res_main_call6_v3 V0) (broadcastInDim S128x100000 ![] bcast_S_S128x100000 (constantI S_ 32 0#32)))) (addi (res_main_call6_v3 V0) (broadcastInDim S128x100000 ![] bcast_S_S128x100000 (res_main_call6_v1 V0))) (res_main_call6_v3 V0))) (broadcastInDim S128x100000 ![] bcast_S_S128x100000 (constant S_ .f32 0x4B800000#32)) := by
  unfold val1_1
  simp only [ops_part1_0, TRef.binary, TRef.nullary, TRef.ternary, TRef.unary, TRef.toBuf, TRef.ofBuf, cast_eq]
  after_results_simp
  simp only [val1_main_c_8, val1_main_v38, val1_main_v48] <;> rfl

/-- The device's buffer contents after @main's first 151 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_11, main_cst_12, main_call7_v0, main_call7_v1, main_call7_v2, main_call7_v3, main_call7_v4, main_v58, main_v59, main_v60, main_v61, main_v62, main_v63, main_call8_v0, main_call8_cst, main_call8_c, main_call8_v1_0, main_v64, main_v65, main_call9_c, main_call9_v0, main_call9_v1, main_call9_c_0, main_call9_v2, main_call9_v3, main_call9_v4, main_call9_v5, main_call9_c_1, main_call9_c_2, main_call9_v6]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_v12 (V0 : Valuation τ sig (Elt F)) : val1_2 V0 (no_index (Proc.devRef .tc main_v12)) = res_main_v12 V0 :=
  (val1_2_keep V0 main_v12 (by decide)).trans (val1_1_main_v12 V0)
theorem val1_2_main_v33 (V0 : Valuation τ sig (Elt F)) : val1_2 V0 (no_index (Proc.devRef .tc main_v33)) = res_main_v33 V0 :=
  (val1_2_keep V0 main_v33 (by decide)).trans (val1_1_main_v33 V0)
set_option maxRecDepth 8192 in
set_option maxHeartbeats 2000000 in
theorem val1_2_main_call9_v5 (V0 : Valuation τ sig (Elt F)) : val1_2 V0 (no_index (Proc.devRef .tc main_call9_v5)) = res_main_call9_v5 V0 := by
  unfold val1_2
  simp only [ops_part1_1, TRef.binary, TRef.nullary, TRef.quaternary, TRef.reshape, TRef.ternary, TRef.unary, TRef.toBuf, TRef.ofBuf, cast_eq]
  after_results_simp
  simp only [val1_1_main_v57, val1_1_main_v36] <;> rfl
set_option maxRecDepth 8192 in
set_option maxHeartbeats 2000000 in
theorem val1_2_main_call9_c_1 (V0 : Valuation τ sig (Elt F)) : val1_2 V0 (no_index (Proc.devRef .tc main_call9_c_1)) = constantI S1 32 99999#32 := by
  unfold val1_2
  simp only [ops_part1_1, TRef.binary, TRef.nullary, TRef.quaternary, TRef.reshape, TRef.ternary, TRef.unary, TRef.toBuf, TRef.ofBuf, cast_eq]
  after_results_simp
  all_goals rfl
set_option maxRecDepth 8192 in
set_option maxHeartbeats 2000000 in
theorem val1_2_main_call9_v6 (V0 : Valuation τ sig (Elt F)) : val1_2 V0 (no_index (Proc.devRef .tc main_call9_v6)) = broadcastInDim S128x1x1 ![] bcast_S_S128x1x1 (constantI S_ 32 0#32) := by
  unfold val1_2
  simp only [ops_part1_1, TRef.binary, TRef.nullary, TRef.quaternary, TRef.reshape, TRef.ternary, TRef.unary, TRef.toBuf, TRef.ofBuf, cast_eq]
  after_results_simp
  all_goals rfl

/-- The device's buffer contents after @main's first 181 operations. -/
def val1_3 (V0 : Valuation τ sig (Elt F)) : Valuation τ sig (Elt F) := after ops_part1_2 (val1_2 V0)
/-- The buffers that window `ops_part1_2`'s operations write. -/
abbrev ops_part1_2_W : List (Ref sig .tc) := [main_call9_v7, main_call9_v8, main_call9_v9, main_call9_v10, main_call9_v11, main_call9_c_3, main_call9_v12, main_call9_v13, main_call9_c_4, main_call9_v14, main_v66, main_cst_13, main_v67, main_v68, main_v69, main_c_14, main_v70, main_v71, main_c_15, main_v72, main_v73, main_v74, main_c_16, main_v75, main_v76, main_c_17, main_v77, main_v78, main_v79, main_v80]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_arg5 (V0 : Valuation τ sig (Elt F)) : val1_3 V0 (no_index (Proc.devRef .tc main_arg5)) = V0 (Proc.devRef .tc main_arg5) :=
  (val1_3_keep V0 main_arg5 (by decide)).trans (val1_2_main_arg5 V0)
theorem val1_3_main_v33 (V0 : Valuation τ sig (Elt F)) : val1_3 V0 (no_index (Proc.devRef .tc main_v33)) = res_main_v33 V0 :=
  (val1_3_keep V0 main_v33 (by decide)).trans (val1_2_main_v33 V0)
set_option maxRecDepth 8192 in
set_option maxHeartbeats 2000000 in
theorem val1_3_main_v66 (V0 : Valuation τ sig (Elt F)) : val1_3 V0 (no_index (Proc.devRef .tc main_v66)) = select (Host.reduce IntOp.andi (andi (cmpi .sge (res_main_call9_v5 V0) (broadcastInDim S128x1x1 ![] bcast_S_S128x1x1 (constantI S_ 32 0#32))) (cmpi .sle (res_main_call9_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (res_main_v12 V0) (res_main_call9_v5 V0)) (broadcastInDim S128x1 ![] bcast_S_S128x1 (constantI S_ 32 2147483648#32)) := by
  unfold val1_3
  simp only [ops_part1_2, TRef.binary, TRef.nullary, TRef.ternary, TRef.unary, TRef.toBuf, TRef.ofBuf, cast_eq]
  after_results_simp
  simp only [val1_2_main_call9_v5, val1_2_main_v12, val1_2_main_call9_c_1, val1_2_main_call9_v6] <;> rfl
set_option maxRecDepth 8192 in
set_option maxHeartbeats 2000000 in
theorem val1_3_main_v67 (V0 : Valuation τ sig (Elt F)) : val1_3 V0 (no_index (Proc.devRef .tc main_v67)) = broadcastInDim S128x100000 ![] bcast_S_S128x100000 (constant S_ .f32 0x00000000#32) := by
  unfold val1_3
  simp only [ops_part1_2, TRef.binary, TRef.nullary, TRef.ternary, TRef.unary, TRef.toBuf, TRef.ofBuf, cast_eq]
  after_results_simp
  all_goals rfl
set_option maxRecDepth 8192 in
set_option maxHeartbeats 2000000 in
theorem val1_3_main_v79 (V0 : Valuation τ sig (Elt F)) : val1_3 V0 (no_index (Proc.devRef .tc main_v79)) = select (cmpi .slt (res_main_v12 V0) (broadcastInDim S128x100000 ![] bcast_S_S128x100000 (constantI S_ 32 0#32))) (addi (res_main_v12 V0) (broadcastInDim S128x100000 ![] bcast_S_S128x100000 (constantI S_ 32 100000#32))) (res_main_v12 V0) := by
  unfold val1_3
  simp only [ops_part1_2, TRef.binary, TRef.nullary, TRef.ternary, TRef.unary, TRef.toBuf, TRef.ofBuf, cast_eq]
  after_results_simp
  simp only [val1_2_main_v12] <;> rfl
set_option maxRecDepth 8192 in
set_option maxHeartbeats 2000000 in
theorem val1_3_main_v80 (V0 : Valuation τ sig (Elt F)) : val1_3 V0 (no_index (Proc.devRef .tc main_v80)) = broadcastInDim S128x100000 ![0, 1] bcast_S128x1_S128x100000_0_1 (select (cmpi .slt (res_main_v69 V0) (broadcastInDim S128x1 ![] bcast_S_S128x1 (constantI S_ 32 0#32))) (addi (res_main_v69 V0) (broadcastInDim S128x1 ![] bcast_S_S128x1 (constantI S_ 32 128#32))) (res_main_v69 V0)) := by
  unfold val1_3
  simp only [ops_part1_2, TRef.binary, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_v81, main_v82, main_v83, main_v84]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_arg5 (V0 : Valuation τ sig (Elt F)) : val2 V0 (no_index (Proc.devRef .tc main_arg5)) = V0 (Proc.devRef .tc main_arg5) :=
  (val2_keep V0 main_arg5 (by decide)).trans (val1_3_main_arg5 V0)
theorem val2_main_v66 (V0 : Valuation τ sig (Elt F)) : val2 V0 (no_index (Proc.devRef .tc main_v66)) = select (Host.reduce IntOp.andi (andi (cmpi .sge (res_main_call9_v5 V0) (broadcastInDim S128x1x1 ![] bcast_S_S128x1x1 (constantI S_ 32 0#32))) (cmpi .sle (res_main_call9_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (res_main_v12 V0) (res_main_call9_v5 V0)) (broadcastInDim S128x1 ![] bcast_S_S128x1 (constantI S_ 32 2147483648#32)) :=
  (val2_keep V0 main_v66 (by decide)).trans (val1_3_main_v66 V0)
set_option maxRecDepth 8192 in
theorem val2_main_v84 (V0 : Valuation τ sig (Elt F)) : val2 V0 (no_index (Proc.devRef .tc main_v84)) = Host.scatter scatter_S128x100000_S128x100000x2_S128x100000_n_01_01_2 (fun _ b => b) (broadcastInDim S128x100000 ![] bcast_S_S128x100000 (constant S_ .f32 0x00000000#32)) (concatenate S128x100000x2 2 [⟨S128x100000x1, (broadcastInDim S128x100000x1 ![0, 1] bcast_S128x100000_S128x100000x1_0_1 (broadcastInDim S128x100000 ![0, 1] bcast_S128x1_S128x100000_0_1 (select (cmpi .slt (res_main_v69 V0) (broadcastInDim S128x1 ![] bcast_S_S128x1 (constantI S_ 32 0#32))) (addi (res_main_v69 V0) (broadcastInDim S128x1 ![] bcast_S_S128x1 (constantI S_ 32 128#32))) (res_main_v69 V0))))⟩, ⟨S128x100000x1, (broadcastInDim S128x100000x1 ![0, 1] bcast_S128x100000_S128x100000x1_0_1 (select (cmpi .slt (res_main_v12 V0) (broadcastInDim S128x100000 ![] bcast_S_S128x100000 (constantI S_ 32 0#32))) (addi (res_main_v12 V0) (broadcastInDim S128x100000 ![] bcast_S_S128x100000 (constantI S_ 32 100000#32))) (res_main_v12 V0)))⟩] concatenates_S128x100000x1_S128x100000x1_S128x100000x2_d2) (res_main_v33 V0) := by
  unfold val2
  simp only [ops_part1_3]
  after_results_simp
  simp only [val1_3_main_v33, val1_3_main_v79, val1_3_main_v80, val1_3_main_v67] <;> rfl

theorem after_ops (V0 : Valuation τ sig (Elt F)) : after ops V0 = val2 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = select (Host.reduce IntOp.andi (andi (cmpi .sge (res_main_call9_v5 (launchContents m c)) (broadcastInDim S128x1x1 ![] bcast_S_S128x1x1 (constantI S_ 32 0#32))) (cmpi .sle (res_main_call9_v5 (launchContents m c)) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (res_main_v12 (launchContents m c)) (res_main_call9_v5 (launchContents m c))) (broadcastInDim S128x1 ![] bcast_S_S128x1 (constantI S_ 32 2147483648#32))
      ∧ r.2.mem ((c.tc : Thread nD τ).loc main_v84) = Host.scatter scatter_S128x100000_S128x100000x2_S128x100000_n_01_01_2 (fun _ b => b) (broadcastInDim S128x100000 ![] bcast_S_S128x100000 (constant S_ .f32 0x00000000#32)) (concatenate S128x100000x2 2 [⟨S128x100000x1, (broadcastInDim S128x100000x1 ![0, 1] bcast_S128x100000_S128x100000x1_0_1 (broadcastInDim S128x100000 ![0, 1] bcast_S128x1_S128x100000_0_1 (select (cmpi .slt (res_main_v69 (launchContents m c)) (broadcastInDim S128x1 ![] bcast_S_S128x1 (constantI S_ 32 0#32))) (addi (res_main_v69 (launchContents m c)) (broadcastInDim S128x1 ![] bcast_S_S128x1 (constantI S_ 32 128#32))) (res_main_v69 (launchContents m c)))))⟩, ⟨S128x100000x1, (broadcastInDim S128x100000x1 ![0, 1] bcast_S128x100000_S128x100000x1_0_1 (select (cmpi .slt (res_main_v12 (launchContents m c)) (broadcastInDim S128x100000 ![] bcast_S_S128x100000 (constantI S_ 32 0#32))) (addi (res_main_v12 (launchContents m c)) (broadcastInDim S128x100000 ![] bcast_S_S128x100000 (constantI S_ 32 100000#32))) (res_main_v12 (launchContents m c))))⟩] concatenates_S128x100000x1_S128x100000x1_S128x100000x2_d2) (res_main_v33 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans ((congrFun (after_ops (launchContents m c)) (Proc.devRef .tc main_v66)).trans (val2_main_v66 (launchContents m c))),
      (h c main_v84).trans ((congrFun (after_ops (launchContents m c)) (Proc.devRef .tc main_v84)).trans (val2_main_v84 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c)))⟩)
    (run_seq scopedRefs_eq scopedSems_eq defs main (fun _ => ops) main_eq (fun _ => ops_sub) m ρ fun _ => ops_fresh)

end Cert.ReferenceIdeal.Value

end
-- ==== Proof.KernelOut.lean ====
/- What one grid point stores: the two output blocks, as values of the seven input blocks. -/
module

public import proofs.«01_k».proof.Proof.Gen.KernelIdeal.Value
public import Idealize.ShloMosaic.Lib.Tactic
public import Idealize.ShloMosaic.Lib.ValueIdx

@[expose] public section

set_option maxRecDepth 16384

noncomputable section

namespace Cert.KernelIdeal.Gen

open Idealize.ShloMosaic Idealize.ShloMosaic.TcCoe Idealize.SL.Sem

variable {F : FTy → Type} [FloatOps F]

theorem offsets_zero : (![0, 0] : Fin 2 → ℕ) = fun _ => 0 := funext fun a => match a with | ⟨0, _⟩ => rfl | ⟨1, _⟩ => rfl

/-- The lane numbers of the 1024 candidates. -/
abbrev lanes : IVec S8x1024 32 := iota .tc S8x1024 32 [1] iota_S8x1024_d1_w32

/-- The lane numbers of the whole row. -/
abbrev cols : IVec S8x100000 32 := iota .tc S8x100000 32 [1] iota_S8x100000_d1_w32

/-- The number of kept candidates of each row. -/
def keptCount (x0 : Vec F S8x100000 .f32) (x1 : Vec F S8x1024 .f32) (x2 : Vec F S8x1 .f32) (x3 : Vec F S8x1 .f32) (x4 : Vec F S8x1 .i32) : IVec S8x1 32 :=
  k0_pay14 (k0_pay13 x0 x1 x2 x3 x4)

/-- The candidate each row draws. -/
def drawn (x0 : Vec F S8x100000 .f32) (x1 : Vec F S8x1024 .f32) (x2 : Vec F S8x1 .f32) (x3 : Vec F S8x1 .f32) (x4 : Vec F S8x1 .i32) (x5 : Vec F S8x1 .i32) (x6 : Vec F S8x1 .i32) : IVec S8 32 :=
  k0_pay15 lanes (k0_pay12 x0 x1 x2 x3 x4) x5 x6

/-- One halving of the first search, for the drawn candidate's position. -/
def idsStep (p9 : FVec F S8x100000 .f32) (p10 : FVec F S8x1024 .f32) (s : IVec S8 32) (a : IVec S8x1 32 × IVec S8x1 32) :
    IVec S8x1 32 × IVec S8x1 32 :=
  (k0_pay20 p9 p10 lanes s a.1 a.2, k0_pay21 p9 p10 lanes s a.1 a.2)

/-- One halving of the second search, for the position at which the kept ties begin. -/
def outStep (room : IVec S8x1 32) (tie : IVec S8x100000 1) (a : IVec S8x1 32 × IVec S8x1 32) :
    IVec S8x1 32 × IVec S8x1 32 :=
  (k0_pay3 cols room tie a.1 a.2, k0_pay4 cols room tie a.1 a.2)

/-- The block of token ids. -/
def idsBlock (x0 : Vec F S8x100000 .f32) (x1 : Vec F S8x1024 .f32) (x2 : Vec F S8x1 .f32) (x3 : Vec F S8x1 .f32) (x4 : Vec F S8x1 .i32) (x5 : Vec F S8x1 .i32) (x6 : Vec F S8x1 .i32) : Vec F S8x1 .i32 :=
  k0_pay22 (Scf.fold (n := k0_t1_loop.trips)
    (fun _ a => idsStep (k0_pay9 x0 x1) (k0_pay10 x0 x1) (drawn x0 x1 x2 x3 x4 x5 x6) a) (k0_pay16, k0_pay17)).2

/-- The block of filtered probabilities. -/
def outBlock (x0 : Vec F S8x100000 .f32) (x1 : Vec F S8x1024 .f32) (x2 : Vec F S8x1 .f32) (x3 : Vec F S8x1 .f32) (x4 : Vec F S8x1 .i32) : Vec F S8x100000 .f32 :=
  k0_pay5 (k0_pay9 x0 x1) cols (k0_pay23 (k0_pay10 x0 x1) lanes (keptCount x0 x1 x2 x3 x4))
    (Scf.fold (n := k0_t2_loop.trips)
      (fun _ a => outStep (k0_pay24 (k0_pay10 x0 x1) lanes (keptCount x0 x1 x2 x3 x4))
        (k0_pay25 (k0_pay9 x0 x1) (k0_pay10 x0 x1) lanes (keptCount x0 x1 x2 x3 x4)) a) (k0_pay26, k0_pay27)).2

/-- A grid point stores its block of token ids. -/
theorem out0_A_7_eq (c : Dev nD) (i : grid0.Coords) (arg1 : Memref sig .tc .vmem S8x100000 .f32) (harg1 : arg1.IsWhole) (arg2 : Memref sig .tc .vmem S8x1024 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x1 .i32) (harg6 : arg6.IsWhole) (arg7 : Memref sig .tc .vmem S8x1 .i32) (harg7 : arg7.IsWhole) (arg8 : Memref sig .tc .vmem S8x1 .i32) (harg8 : arg8.IsWhole) (arg9 : Memref sig .tc .vmem S8x100000 .f32) (harg9 : arg9.IsWhole)
    (x0 : Vec F S8x100000 .f32) (x1 : Vec F S8x1024 .f32) (x2 : Vec F S8x1 .f32) (x3 : Vec F S8x1 .f32) (x4 : Vec F S8x1 .i32) (x5 : Vec F S8x1 .i32) (x6 : Vec F S8x1 .i32) :
    out0_A_7 c i arg1 harg1 arg2 harg2 arg3 harg3 arg4 harg4 arg5 harg5 arg6 harg6 arg7 harg7 arg8 harg8 arg9 harg9 x0 x1 x2 x3 x4 x5 x6 = idsBlock x0 x1 x2 x3 x4 x5 x6 := by
  unfold out0_A_7
  rw [View.read_writes_junk_eq_canon]
  unfold kernelRun0_A
  dsimp only
  sl_unfold_words
  refine Eq.trans (View.canon_unit_zero offsets_zero _ _) ?_
  simp only [View.readAt_eq_ld, harg1.read_unread, harg2.read_unread, harg3.read_unread, harg4.read_unread, harg5.read_unread,
    harg6.read_unread, harg7.read_unread]
  rw [show View.ld x0 (Rect.unit ![0, 0] ![8, 100000] inb_S8x100000_S8x100000_0_0) = x0 from View.ld_unit_zero (S := S8x100000) offsets_zero _ _,
    show View.ld x1 (Rect.unit ![0, 0] ![8, 1024] inb_S8x1024_S8x1024_0_0) = x1 from View.ld_unit_zero (S := S8x1024) offsets_zero _ _,
    show View.ld x2 (Rect.unit ![0, 0] ![8, 1] inb_S8x1_S8x1_0_0) = x2 from View.ld_unit_zero (S := S8x1) offsets_zero _ _,
    show View.ld x3 (Rect.unit ![0, 0] ![8, 1] inb_S8x1_S8x1_0_0) = x3 from View.ld_unit_zero (S := S8x1) offsets_zero _ _,
    show View.ld x4 (Rect.unit ![0, 0] ![8, 1] inb_S8x1_S8x1_0_0) = x4 from View.ld_unit_zero (S := S8x1) offsets_zero _ _,
    show View.ld x5 (Rect.unit ![0, 0] ![8, 1] inb_S8x1_S8x1_0_0) = x5 from View.ld_unit_zero (S := S8x1) offsets_zero _ _,
    show View.ld x6 (Rect.unit ![0, 0] ![8, 1] inb_S8x1_S8x1_0_0) = x6 from View.ld_unit_zero (S := S8x1) offsets_zero _ _]
  rfl

/-- A grid point stores its block of filtered probabilities. -/
theorem out0_A_8_eq (c : Dev nD) (i : grid0.Coords) (arg1 : Memref sig .tc .vmem S8x100000 .f32) (harg1 : arg1.IsWhole) (arg2 : Memref sig .tc .vmem S8x1024 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x1 .i32) (harg6 : arg6.IsWhole) (arg7 : Memref sig .tc .vmem S8x1 .i32) (harg7 : arg7.IsWhole) (arg8 : Memref sig .tc .vmem S8x1 .i32) (harg8 : arg8.IsWhole) (arg9 : Memref sig .tc .vmem S8x100000 .f32) (harg9 : arg9.IsWhole)
    (x0 : Vec F S8x100000 .f32) (x1 : Vec F S8x1024 .f32) (x2 : Vec F S8x1 .f32) (x3 : Vec F S8x1 .f32) (x4 : Vec F S8x1 .i32) (x5 : Vec F S8x1 .i32) (x6 : Vec F S8x1 .i32) :
    out0_A_8 c i arg1 harg1 arg2 harg2 arg3 harg3 arg4 harg4 arg5 harg5 arg6 harg6 arg7 harg7 arg8 harg8 arg9 harg9 x0 x1 x2 x3 x4 x5 x6 = outBlock x0 x1 x2 x3 x4 := by
  unfold out0_A_8
  rw [View.read_writes_junk_eq_canon]
  unfold kernelRun0_A
  dsimp only
  sl_unfold_words
  refine Eq.trans (View.canon_unit_zero offsets_zero _ _) ?_
  simp only [View.readAt_eq_ld, harg1.read_unread, harg2.read_unread, harg3.read_unread, harg4.read_unread, harg5.read_unread,
    harg6.read_unread, harg7.read_unread]
  rw [show View.ld x0 (Rect.unit ![0, 0] ![8, 100000] inb_S8x100000_S8x100000_0_0) = x0 from View.ld_unit_zero (S := S8x100000) offsets_zero _ _,
    show View.ld x1 (Rect.unit ![0, 0] ![8, 1024] inb_S8x1024_S8x1024_0_0) = x1 from View.ld_unit_zero (S := S8x1024) offsets_zero _ _,
    show View.ld x2 (Rect.unit ![0, 0] ![8, 1] inb_S8x1_S8x1_0_0) = x2 from View.ld_unit_zero (S := S8x1) offsets_zero _ _,
    show View.ld x3 (Rect.unit ![0, 0] ![8, 1] inb_S8x1_S8x1_0_0) = x3 from View.ld_unit_zero (S := S8x1) offsets_zero _ _,
    show View.ld x4 (Rect.unit ![0, 0] ![8, 1] inb_S8x1_S8x1_0_0) = x4 from View.ld_unit_zero (S := S8x1) offsets_zero _ _]
  rfl

end Cert.KernelIdeal.Gen

end
-- ==== Proof.Ranks.lean ====
/- Ranks in a sorted row: the stable sort read as a permutation, the rank of a position counted from the values above it
   and the ties after it, and the position a halving search finds. Pure mathematics, no program. -/
module

public import Idealize.ShloMosaic.Lib.SortFacts

@[expose] public section

noncomputable section

namespace Cert.Ranks

open Idealize.ShloMosaic

variable {α : Type} [LinearOrder α] {n : Nat}

/-! ## The stable sort as a permutation -/

/-- Position `a` comes before `b`: by key, and among equal keys by position. -/
def Before (key : Fin n → α) (a b : Fin n) : Prop := key a < key b ∨ (key a = key b ∧ a < b)

theorem Before.trans {key : Fin n → α} {a b c : Fin n} (h : Before key a b) (h' : Before key b c) : Before key a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The test a sort by `key` makes. -/
abbrev byKey (key : Fin n → α) (a b : Fin n) : Bool := decide (key a < key b)

theorem pairwise_insert (key : Fin n → α) (a : Fin n) (l : List (Fin n)) (ha : ∀ b ∈ l, a < b)
    (hl : l.Pairwise (Before key)) : (insertBefore (byKey key) a l).Pairwise (Before key) := by
  induction l with
  | nil => exact List.pairwise_singleton _ _
  | cons b l ih =>
    have hb := List.pairwise_cons.1 hl
    unfold insertBefore
    split
    · next h =>
      refine List.pairwise_cons.2 ⟨fun c hc => ?_, ih (fun c hc => ha c (List.mem_cons_of_mem _ hc)) hb.2⟩
      rcases List.mem_cons.1 ((perm_insertBefore _ a l).mem_iff.1 hc) with rfl | hc'
      · exact .inl (of_decide_eq_true h)
      · exact hb.1 c hc'
    · next h =>
      have hab : Before key a b := by
        rcases (not_lt.1 fun hh => h (decide_eq_true hh) : key a ≤ key b).lt_or_eq with h1 | h1
        · exact .inl h1
        · exact .inr ⟨h1, ha b List.mem_cons_self⟩
      refine List.pairwise_cons.2 ⟨fun c hc => ?_, hl⟩
      rcases List.mem_cons.1 hc with rfl | hc'
      · exact hab
      · exact hab.trans (hb.1 c hc')

theorem pairwise_sort (key : Fin n → α) (l : List (Fin n)) (hl : l.Pairwise (· < ·)) :
    (stableSort (byKey key) l).Pairwise (Before key) := by
  induction l with
  | nil => exact List.Pairwise.nil
  | cons a l ih =>
    have h := List.pairwise_cons.1 hl
    unfold stableSort
    exact pairwise_insert key a _ (fun b hb => h.1 b ((perm_stableSort _ l).mem_iff.1 hb)) (ih h.2)

/-- The stable sort's sources are in order: by key, ties by position. -/
theorem sortedFrom_before (key : Fin n → α) (i j : Fin n) (hij : i < j) :
    Before key (sortedFrom (byKey key) i) (sortedFrom (byKey key) j) := by
  have hp : (sortPositions n (byKey key)).Pairwise (Before key) :=
    pairwise_sort key (List.finRange n) (List.pairwise_lt_finRange n)
  unfold sortedFrom
  exact List.pairwise_iff_get.1 hp _ _ hij

/-- The stable sort as a permutation of the positions. -/
def sortPerm (R : Fin n → Fin n → Bool) : Equiv.Perm (Fin n) :=
  Equiv.ofBijective (sortedFrom R) ⟨sortedFrom_injective R, sortedFrom_surjective R⟩

theorem sortPerm_apply (R : Fin n → Fin n → Bool) (k : Fin n) : sortPerm R k = sortedFrom R k := rfl

/-! ## Ranks -/

/-- `ord` lists the positions from the greatest `p` down, equal ones from the last position down. -/
def Ranked (p : Fin n → α) (ord : Equiv.Perm (Fin n)) : Prop :=
  ∀ i j, i < j → p (ord j) < p (ord i) ∨ (p (ord j) = p (ord i) ∧ ord j < ord i)

/-- How many positions at or after `c` hold exactly `t`. -/
def ties (p : Fin n → α) (t : α) (c : ℕ) : ℕ := (Finset.univ.filter fun j : Fin n => p j = t ∧ c ≤ j.val).card

/-- How many positions hold more than `t`. -/
def above (p : Fin n → α) (t : α) : ℕ := (Finset.univ.filter fun j : Fin n => t < p j).card

variable {p : Fin n → α} {ord : Equiv.Perm (Fin n)}

theorem Ranked.anti (h : Ranked p ord) {i j : Fin n} (hij : i ≤ j) : p (ord j) ≤ p (ord i) := by
  rcases hij.lt_or_eq with h1 | rfl
  · rcases h i j h1 with h2 | h2
    · exact h2.le
    · exact h2.1.le
  · exact le_rfl

theorem Ranked.lt_iff (h : Ranked p ord) (k j : Fin n) :
    k < ord.symm j ↔ p j < p (ord k) ∨ (p (ord k) = p j ∧ j < ord k) := by
  constructor
  · intro hk
    have := h _ _ hk
    rw [Equiv.apply_symm_apply] at this
    rcases this with h1 | h1
    · exact .inl h1
    · exact .inr ⟨h1.1.symm, h1.2⟩
  · intro hk
    by_contra hc
    rcases (not_lt.1 hc).lt_or_eq with h1 | h1
    · have := h _ _ h1
      rw [Equiv.apply_symm_apply] at this
      rcases this with h2 | h2 <;> rcases hk with h3 | h3
      · exact lt_asymm h2 h3
      · exact h2.ne h3.1
      · exact h3.ne h2.1.symm
      · exact lt_asymm h2.2 h3.2
    · subst h1
      rw [Equiv.apply_symm_apply] at hk
      rcases hk with h2 | h2
      · exact lt_irrefl _ h2
      · exact lt_irrefl _ h2.2

/-- A position's rank is the number of greater values plus the number of equal ones after it. -/
theorem Ranked.rank (h : Ranked p ord) (j : Fin n) : (ord.symm j).val = above p (p j) + ties p (p j) (j.val + 1) := by
  have h1 : (ord.symm j).val = (Finset.univ.filter fun k : Fin n => k < ord.symm j).card := by
    have := Fin.card_Iio (ord.symm j)
    rw [← this]; congr 1; ext k; simp
  rw [h1]
  unfold above ties
  rw [← Finset.card_union_of_disjoint]
  · refine Finset.card_bij (fun k _ => ord k) (fun k hk => ?_) (fun a _ b _ hab => ord.injective hab) (fun b hb => ?_)
    · have := (h.lt_iff k j).1 (Finset.mem_filter.1 hk).2
      simp only [Finset.mem_union, Finset.mem_filter, Finset.mem_univ, true_and]
      rcases this with h2 | h2
      · exact .inl h2
      · exact .inr ⟨h2.1, by have := h2.2; omega⟩
    · refine ⟨ord.symm b, ?_, Equiv.apply_symm_apply _ _⟩
      simp only [Finset.mem_union, Finset.mem_filter, Finset.mem_univ, true_and] at hb ⊢
      rw [h.lt_iff, Equiv.apply_symm_apply]
      rcases hb with h2 | h2
      · exact .inl h2
      · exact .inr ⟨h2.1, by have := h2.2; omega⟩
  · rw [Finset.disjoint_left]
    intro a ha hb
    simp only [Finset.mem_filter, Finset.mem_univ, true_and] at ha hb
    exact ha.ne hb.1.symm

/-- Counting a tie in. -/
theorem ties_self (j : Fin n) : ties p (p j) j.val = ties p (p j) (j.val + 1) + 1 := by
  unfold ties
  rw [← Finset.card_insert_of_notMem (a := j) (by simp)]
  congr 1
  ext k
  simp only [Finset.mem_filter, Finset.mem_univ, true_and, Finset.mem_insert, Fin.ext_iff]
  constructor
  · rintro ⟨h1, h2⟩
    by_cases hk : k.val = j.val
    · exact .inl hk
    · exact .inr ⟨h1, by omega⟩
  · rintro (h1 | ⟨h1, h2⟩)
    · exact ⟨congrArg p (Fin.ext h1), by omega⟩
    · exact ⟨h1, by omega⟩

theorem ties_anti (t : α) {c c' : ℕ} (h : c ≤ c') : ties p t c' ≤ ties p t c := by
  unfold ties
  refine Finset.card_le_card fun k hk => ?_
  simp only [Finset.mem_filter, Finset.mem_univ, true_and] at hk ⊢
  exact ⟨hk.1, h.trans hk.2⟩

theorem ties_end (t : α) : ties p t n = 0 := by
  unfold ties
  rw [Finset.card_eq_zero, Finset.filter_eq_empty_iff]
  intro k _ hk
  have := k.isLt
  omega

/-- The first `m` ranks, told from the value at rank `m - 1` and a position `cut` among its ties. -/
theorem Ranked.lt_cut (h : Ranked p ord) (k0 : Fin n) (cut : ℕ)
    (hcut : ∀ c ≤ n, cut ≤ c ↔ ties p (p (ord k0)) c + above p (p (ord k0)) ≤ k0.val + 1) (j : Fin n) :
    (ord.symm j).val ≤ k0.val ↔ p (ord k0) < p j ∨ (p j = p (ord k0) ∧ cut ≤ j.val) := by
  rcases lt_trichotomy (p j) (p (ord k0)) with h1 | h1 | h1
  · have : k0 < ord.symm j := (h.lt_iff k0 j).2 (.inl h1)
    constructor
    · intro h2; have : k0.val < (ord.symm j).val := this; omega
    · rintro (h2 | h2)
      · exact absurd h1 (lt_asymm h2)
      · exact absurd h2.1 h1.ne
  · have hr := h.rank j
    have hs := ties_self (p := p) j
    have hc := hcut j.val j.isLt.le
    rw [← h1] at hc ⊢
    constructor
    · intro h2
      exact .inr ⟨rfl, hc.2 (by omega)⟩
    · rintro (h2 | h2)
      · exact absurd h2 (lt_irrefl _)
      · have := hc.1 h2.2; omega
  · constructor
    · intro _; exact .inl h1
    · intro _
      by_contra hc
      have hc' : k0 ≤ ord.symm j := by
        show k0.val ≤ _
        omega
      have := h.anti hc'
      rw [Equiv.apply_symm_apply] at this
      exact absurd h1 (not_lt.2 this)

/-- The position one past rank `s`'s own position is the cut its ties make. -/
theorem Ranked.cut_eq (h : Ranked p ord) (s : Fin n) (cut : ℕ)
    (hcut : ∀ c ≤ n, cut ≤ c ↔ ties p (p (ord s)) c + above p (p (ord s)) ≤ s.val) : cut = (ord s).val + 1 := by
  have hr := h.rank (ord s)
  have hs := ties_self (p := p) (ord s)
  rw [Equiv.symm_apply_apply] at hr
  have h1 := (hcut ((ord s).val + 1) (ord s).isLt).2 (by omega)
  have h2 : ¬ cut ≤ (ord s).val := fun hc => by
    have := (hcut _ (ord s).isLt.le).1 hc
    omega
  omega

/-- The number of values above the one at rank `s` can be counted among the first `m` ranks, any `m` past `s`. -/
theorem Ranked.above_prefix (h : Ranked p ord) {m : ℕ} (hm : m ≤ n) (s : Fin m) :
    (Finset.univ.filter fun k : Fin m => p (ord (s.castLE hm)) < p (ord (k.castLE hm))).card
      = above p (p (ord (s.castLE hm))) := by
  unfold above
  refine Finset.card_bij (fun k _ => ord (k.castLE hm)) (fun k hk => ?_) (fun a _ b _ hab => ?_) (fun b hb => ?_)
  · simpa using hk
  · have := ord.injective hab
    exact Fin.ext (by simpa [Fin.ext_iff] using this)
  · simp only [Finset.mem_filter, Finset.mem_univ, true_and] at hb
    have hlt : (ord.symm b).val < m := by
      by_contra hc
      have hle : s.castLE hm ≤ ord.symm b := by
        show s.val ≤ _
        have := s.isLt
        omega
      have := h.anti hle
      rw [Equiv.apply_symm_apply] at this
      exact absurd hb (not_lt.2 this)
    refine ⟨⟨(ord.symm b).val, hlt⟩, ?_, ?_⟩
    · simp only [Finset.mem_filter, Finset.mem_univ, true_and]
      have : (Fin.castLE hm ⟨(ord.symm b).val, hlt⟩) = ord.symm b := Fin.ext rfl
      rw [this, Equiv.apply_symm_apply]; exact hb
    · have : (Fin.castLE hm ⟨(ord.symm b).val, hlt⟩) = ord.symm b := Fin.ext rfl
      rw [this, Equiv.apply_symm_apply]

theorem anti_le {f : Fin n → α} {σ τ : Equiv.Perm (Fin n)} (hσ : Antitone (f ∘ σ)) (hτ : Antitone (f ∘ τ)) (k : Fin n) :
    f (σ k) ≤ f (τ k) := by
  by_contra hc
  have hc := not_le.1 hc
  have := Finset.card_le_card_of_injOn (s := Finset.Iic k) (t := Finset.Iio k) (fun i => τ.symm (σ i)) (fun i hi => by
      rw [Finset.coe_Iio, Set.mem_Iio]
      by_contra h1
      have h2 := hτ (not_lt.1 h1)
      have h3 := hσ (Finset.mem_Iic.1 hi)
      simp only [Function.comp_apply, Equiv.apply_symm_apply] at h2 h3
      exact absurd (h3.trans h2) (not_le.2 hc))
    (fun a _ b _ hab => σ.injective (τ.symm.injective hab))
  rw [Fin.card_Iic, Fin.card_Iio] at this
  omega

/-- Two ways of listing one row from the greatest down list the same values. -/
theorem anti_unique {f : Fin n → α} {σ τ : Equiv.Perm (Fin n)} (hσ : Antitone (f ∘ σ)) (hτ : Antitone (f ∘ τ)) :
    f ∘ σ = f ∘ τ :=
  funext fun k => le_antisymm (anti_le hσ hτ k) (anti_le hτ hσ k)

/-! ## The halving search -/

/-- One halving: the lower or the upper part, by the test at the middle. -/
def halve (P : ℕ → Prop) [DecidablePred P] (lh : ℕ × ℕ) : ℕ × ℕ :=
  if P ((lh.1 + lh.2) / 2) then (lh.1, (lh.1 + lh.2) / 2) else ((lh.1 + lh.2) / 2 + 1, lh.2)

/-- What a halving search keeps: the bounds in order, the test true from the upper one on and false below the lower. -/
structure Bracket (P : ℕ → Prop) (N : ℕ) (lh : ℕ × ℕ) : Prop where
  le : lh.1 ≤ lh.2
  top : lh.2 ≤ N
  yes : P lh.2
  no : ∀ c < lh.1, ¬ P c

theorem Bracket.halve {P : ℕ → Prop} [DecidablePred P] {N : ℕ} (mono : ∀ a b, a ≤ b → P a → P b) {lh : ℕ × ℕ}
    (h : Bracket P N lh) : Bracket P N (halve P lh) := by
  obtain ⟨h1, h2, h3, h4⟩ := h
  unfold Ranks.halve
  split
  · next hp => exact ⟨by dsimp only; omega, by dsimp only; omega, hp, h4⟩
  · next hp =>
    have hne : lh.1 ≠ lh.2 := fun he => hp (by rw [he, ← two_mul, Nat.mul_div_cancel_left _ (by decide)]; exact h3)
    refine ⟨by dsimp only; omega, h2, h3, fun c hc hPc => hp (mono _ _ ?_ hPc)⟩
    dsimp only at hc
    omega

theorem halve_width {P : ℕ → Prop} [DecidablePred P] (lh : ℕ × ℕ) (k : ℕ) (h : lh.2 - lh.1 < 2 ^ (k + 1))
    (hl : lh.1 ≤ lh.2) : (halve P lh).2 - (halve P lh).1 < 2 ^ k := by
  rw [pow_succ] at h
  unfold halve
  split <;> dsimp only <;> omega

theorem iterate_halve {P : ℕ → Prop} [DecidablePred P] {N : ℕ} (mono : ∀ a b, a ≤ b → P a → P b) :
    ∀ (k : ℕ) (lh : ℕ × ℕ), Bracket P N lh → lh.2 - lh.1 < 2 ^ k →
      Bracket P N ((halve P)^[k] lh) ∧ ((halve P)^[k] lh).1 = ((halve P)^[k] lh).2
  | 0, lh, h, hw => ⟨h, by have := h.le; simp only [pow_zero] at hw; simp only [Function.iterate_zero, id]; omega⟩
  | k + 1, lh, h, hw => by
    rw [Function.iterate_succ_apply]
    exact iterate_halve mono k _ (h.halve mono) (halve_width lh k hw h.le)

/-- After enough halvings the upper bound is the least number the test accepts. -/
theorem halve_finds {P : ℕ → Prop} [DecidablePred P] {N : ℕ} (mono : ∀ a b, a ≤ b → P a → P b) (hN : P N) (k : ℕ)
    (hk : N < 2 ^ k) : ((halve P)^[k] (0, N)).2 ≤ N ∧ ∀ c, ((halve P)^[k] (0, N)).2 ≤ c ↔ P c := by
  obtain ⟨h, he⟩ := iterate_halve (N := N) mono k (0, N) ⟨Nat.zero_le _, le_rfl, hN, fun c hc => absurd hc (Nat.not_lt_zero c)⟩
    (by simpa using hk)
  refine ⟨h.top, fun c => ⟨fun hc => mono _ _ hc h.yes, fun hc => ?_⟩⟩
  by_contra hlt
  exact h.no c (by rw [he]; omega) hc

/-! ## The first greatest entry -/

/-- `s` is the first position at which `y` is greatest. -/
def FirstMax (y : Fin n → α) (s : Fin n) : Prop := (∀ k, y k ≤ y s) ∧ ∀ k < s, y k < y s

theorem FirstMax.unique {y : Fin n → α} {s s' : Fin n} (h : FirstMax y s) (h' : FirstMax y s') : s = s' := by
  rcases lt_trichotomy s s' with h1 | h1 | h1
  · exact absurd (h'.2 s h1) (not_lt.2 (h.1 s'))
  · exact h1
  · exact absurd (h.2 s' h1) (not_lt.2 (h'.1 s))

/-- When no entry past the first `m` exceeds entry 0, the first greatest entry of the whole row is that of its first `m`. -/
theorem FirstMax.prefix {y : Fin n → α} {s : Fin n} (h : FirstMax y s) {m : ℕ} (hm : m ≤ n) (h0 : 0 < m)
    (hy : ∀ k : Fin n, m ≤ k.val → y k ≤ y (Fin.castLE hm ⟨0, h0⟩)) :
    ∃ s' : Fin m, s'.castLE hm = s ∧ FirstMax (fun k : Fin m => y (k.castLE hm)) s' := by
  have hs : s.val < m := by
    by_contra hc
    have h1 := hy s (by omega)
    have h2 := h.2 (Fin.castLE hm ⟨0, h0⟩) (show 0 < s.val by omega)
    exact absurd h2 (not_lt.2 h1)
  exact ⟨⟨s.val, hs⟩, Fin.ext rfl, fun k => h.1 _, fun k hk => h.2 _ hk⟩

end Cert.Ranks

end
-- ==== Proof.Row.lean ====
/- The mathematics of one row: the softmax, the candidates a row keeps, the two forms of the filter, and the counts
   the two searches run on. Over any row length; no program. -/
module

public import proofs.«01_k».proof.Proof.Ranks
public import Idealize.ShloMosaic.PureOps.Ideal.Laws

@[expose] public section

noncomputable section

namespace Cert.Row

open Idealize.ShloMosaic Cert.Ranks

variable {n : ℕ}

/-! ## The softmax of a row -/

/-- The greatest entry of a row. -/
def top (x : Fin n → EReal) : EReal := Finset.univ.fold max ⊥ x

/-- A row's exponentials, shifted by its greatest entry. -/
def expo (x : Fin n → EReal) (j : Fin n) : EReal := Ideal.exp (x j - top x)

/-- A row's softmax. -/
def soft (x : Fin n → EReal) (j : Fin n) : EReal := Ideal.div (expo x j) (∑ k, expo x k)

theorem le_top (x : Fin n → EReal) (j : Fin n) : x j ≤ top x :=
  (Finset.le_fold_max _).2 (.inr ⟨j, Finset.mem_univ j, le_rfl⟩)

/-- With a real greatest entry the softmax is real, nonnegative and ordered as the row is. -/
theorem soft_real (x : Fin n → EReal) (M : ℝ) (hM : top x = (M : EReal)) :
    ∃ r : Fin n → ℝ, (∀ j, soft x j = (r j : EReal)) ∧ (∀ j, 0 ≤ r j) ∧ ∀ i j, x i ≤ x j → r i ≤ r j := by
  have he : ∀ j, ∃ e : ℝ, expo x j = (e : EReal) ∧ 0 ≤ e := fun j => by
    unfold expo
    rw [hM]
    have hle := le_top x j
    rw [hM] at hle
    induction h : x j using EReal.rec with
    | bot => exact ⟨0, by rw [EReal.bot_sub, Ideal.exp_bot]; rfl, le_rfl⟩
    | top => rw [h] at hle; exact absurd hle (not_le.2 (EReal.coe_lt_top M))
    | coe y => exact ⟨Real.exp (y - M), by rw [← EReal.coe_sub, Ideal.exp_coe], (Real.exp_pos _).le⟩
  choose e he h0 using he
  have hmono : ∀ i j, x i ≤ x j → e i ≤ e j := fun i j hij => by
    have hj := le_top x j
    have hi := he i
    have hj' := he j
    unfold expo at hi hj'
    rw [hM] at hi hj' hj
    induction h : x i using EReal.rec with
    | bot =>
      rw [h, EReal.bot_sub, Ideal.exp_bot] at hi
      have : e i = 0 := EReal.coe_eq_zero.1 hi.symm
      rw [this]; exact h0 j
    | top => rw [h] at hij; exact absurd (hij.trans hj) (not_le.2 (EReal.coe_lt_top M))
    | coe y =>
      induction h' : x j using EReal.rec with
      | bot => rw [h, h'] at hij; exact absurd hij (not_le.2 (EReal.bot_lt_coe y))
      | top => rw [h'] at hj; exact absurd hj (not_le.2 (EReal.coe_lt_top M))
      | coe z =>
        rw [h, ← EReal.coe_sub, Ideal.exp_coe, EReal.coe_eq_coe_iff] at hi
        rw [h', ← EReal.coe_sub, Ideal.exp_coe, EReal.coe_eq_coe_iff] at hj'
        rw [h, h', EReal.coe_le_coe_iff] at hij
        rw [← hi, ← hj']
        exact Real.exp_le_exp.2 (by linarith)
  have hsum : (∑ k, expo x k) = ((∑ k, e k : ℝ) : EReal) := by
    rw [Finset.sum_congr rfl fun k _ => he k]
    exact (map_sum (AddMonoidHom.mk ⟨((↑) : ℝ → EReal), EReal.coe_zero⟩ EReal.coe_add) e Finset.univ).symm
  have hpos : 0 < ∑ k, e k := by
    have hj : ∃ j, (M : EReal) ≤ x j := by
      have := (Finset.le_fold_max _).1 (show (M : EReal) ≤ Finset.univ.fold max ⊥ x from hM.ge)
      rcases this with h | ⟨j, _, h⟩
      · exact absurd h (not_le.2 (EReal.bot_lt_coe M))
      · exact ⟨j, h⟩
    obtain ⟨j, hj⟩ := hj
    have hx : x j = M := le_antisymm (hM ▸ le_top x j) hj
    have h1 : e j = 1 := by
      have := he j
      unfold expo at this
      rw [hM, hx, ← EReal.coe_sub, sub_self, Ideal.exp_coe, Real.exp_zero, EReal.coe_eq_coe_iff] at this
      exact this.symm
    exact lt_of_lt_of_le (by rw [h1]; exact one_pos) (Finset.single_le_sum (fun k _ => h0 k) (Finset.mem_univ j))
  refine ⟨fun j => e j * (∑ k, e k)⁻¹, fun j => ?_, fun j => mul_nonneg (h0 j) (inv_nonneg.2 hpos.le),
    fun i j hij => mul_le_mul_of_nonneg_right (hmono i j hij) (inv_nonneg.2 hpos.le)⟩
  unfold soft
  rw [hsum, he j]
  unfold Ideal.div
  rw [if_neg (by rw [EReal.coe_eq_zero]; exact hpos.ne'), EReal.coe_mul, EReal.coe_inv]

/-! ## The candidates a row keeps -/

/-- The sum of the sorted probabilities up to and including rank `k`. -/
def cum (q : Fin n → EReal) (k : Fin n) : EReal := ∑ i ∈ Finset.Iic k, q i

/-- Rank `k` is kept: within the first `tk`, the mass before it at most `tp`, and not below `mp` of the first. -/
def Keep (q : Fin n → EReal) (h0 : 0 < n) (tp mp : EReal) (tk : ℕ) (k : Fin n) : Prop :=
  k.val < tk ∧ cum q k - q k ≤ tp ∧ ¬ q k < q ⟨0, h0⟩ * mp

open scoped Classical in
/-- The filtered probability at rank `k`. -/
def filtered (q : Fin n → EReal) (h0 : 0 < n) (tp mp : EReal) (tk : ℕ) (k : Fin n) : EReal :=
  if Keep q h0 tp mp tk k then q k else 0

/-- What is known of a row's sorted probabilities and its three thresholds. -/
structure Good (q : Fin n → EReal) (tp mp : EReal) (tk : ℕ) : Prop where
  real : ∃ r : Fin n → ℝ, ∀ k, q k = (r k : EReal)
  nonneg : ∀ k, 0 ≤ q k
  anti : Antitone q
  tp : 0 ≤ tp
  mp : mp ≤ 1
  tk : 1 ≤ tk

variable {q : Fin n → EReal} {h0 : 0 < n} {tp mp : EReal} {tk : ℕ}

theorem cum_sub (hr : ∃ r : Fin n → ℝ, ∀ k, q k = (r k : EReal)) (k : Fin n) : cum q k - q k = ∑ i ∈ Finset.Iio k, q i := by
  obtain ⟨r, hr⟩ := hr
  unfold cum
  rw [← Finset.Iio_insert, Finset.sum_insert (by simp), add_comm, hr k, EReal.add_sub_cancel_right]

/-- Keeping stops once and for all. -/
theorem Good.keep_anti (g : Good q tp mp tk) {i j : Fin n} (hij : i ≤ j) (h : Keep q h0 tp mp tk j) :
    Keep q h0 tp mp tk i := by
  obtain ⟨h1, h2, h3⟩ := h
  refine ⟨lt_of_le_of_lt hij h1, le_trans ?_ h2, fun hc => h3 (lt_of_le_of_lt (g.anti hij) hc)⟩
  rw [cum_sub g.real, cum_sub g.real]
  exact Finset.sum_le_sum_of_subset_of_nonneg (Finset.Iio_subset_Iio hij) fun k _ _ => g.nonneg k

/-- The first rank is always kept. -/
theorem Good.keep_zero (g : Good q tp mp tk) : Keep q h0 tp mp tk ⟨0, h0⟩ := by
  refine ⟨g.tk, ?_, not_lt.2 ?_⟩
  · rw [cum_sub g.real]
    have : (Finset.Iio (⟨0, h0⟩ : Fin n)) = ∅ := by
      ext k; simp [Fin.lt_def]
    rw [this, Finset.sum_empty]; exact g.tp
  · calc q ⟨0, h0⟩ * mp ≤ q ⟨0, h0⟩ * 1 := mul_le_mul_of_nonneg_left g.mp (g.nonneg _)
      _ = q ⟨0, h0⟩ := mul_one _

open scoped Classical in
/-- The kept ranks are the first so many. -/
theorem Good.keep_iff (g : Good q tp mp tk) {m : ℕ} (hm : m ≤ n) (htk : tk ≤ m) (k : Fin n) :
    Keep q h0 tp mp tk k ↔ k.val < (Finset.univ.filter fun i : Fin m => Keep q h0 tp mp tk (i.castLE hm)).card := by
  constructor
  · intro h
    have hk : k.val < m := lt_of_lt_of_le h.1 htk
    have hsub : Finset.Iic (⟨k.val, hk⟩ : Fin m) ⊆ Finset.univ.filter fun i : Fin m => Keep q h0 tp mp tk (i.castLE hm) := by
      intro i hi
      rw [Finset.mem_Iic, Fin.le_def] at hi
      exact Finset.mem_filter.2 ⟨Finset.mem_univ _, g.keep_anti (show i.castLE hm ≤ k from hi) h⟩
    have := Finset.card_le_card hsub
    rw [Fin.card_Iic] at this
    exact this
  · intro h
    by_contra hk
    by_cases hkm : k.val < m
    · have hsub : (Finset.univ.filter fun i : Fin m => Keep q h0 tp mp tk (i.castLE hm)) ⊆ Finset.Iio (⟨k.val, hkm⟩ : Fin m) := by
        intro i hi
        rw [Finset.mem_Iio, Fin.lt_def]
        by_contra hc
        exact hk (g.keep_anti (show k ≤ i.castLE hm from not_lt.1 hc) (Finset.mem_filter.1 hi).2)
      have := Finset.card_le_card hsub
      rw [Fin.card_Iio] at this
      exact absurd h (not_lt.2 this)
    · have := Finset.card_le_univ (Finset.univ.filter fun i : Fin m => Keep q h0 tp mp tk (i.castLE hm))
      rw [Fintype.card_fin] at this
      omega

open scoped Classical in
/-- The filter in three steps — cut past `tk`, then by mass, then by the smallest share — leaves the same row. -/
theorem Good.three_steps (g : Good q tp mp tk) (u1 u2 : Fin n → EReal) (hu1 : ∀ k, u1 k = if tk ≤ k.val then 0 else q k)
    (hu2 : ∀ k, u2 k = if tp < cum q k - u1 k then 0 else u1 k) (k : Fin n) :
    (if u2 k < u2 ⟨0, h0⟩ * mp then 0 else u2 k) = filtered q h0 tp mp tk k := by
  have hz := g.keep_zero (h0 := h0)
  have h2 : u2 ⟨0, h0⟩ = q ⟨0, h0⟩ := by
    have h1 : u1 ⟨0, h0⟩ = q ⟨0, h0⟩ := by rw [hu1, if_neg (not_le.2 hz.1)]
    rw [hu2, h1, if_neg (not_lt.2 hz.2.1)]
  rw [h2]
  unfold filtered
  by_cases a : k.val < tk
  · have h1 : u1 k = q k := by rw [hu1, if_neg (not_le.2 a)]
    by_cases b : cum q k - q k ≤ tp
    · have h2k : u2 k = q k := by rw [hu2, h1, if_neg (not_lt.2 b)]
      rw [h2k]
      by_cases d : q k < q ⟨0, h0⟩ * mp
      · rw [if_pos d, if_neg fun h => h.2.2 d]
      · rw [if_neg d, if_pos ⟨a, b, d⟩]
    · have h2k : u2 k = 0 := by rw [hu2, h1, if_pos (not_le.1 b)]
      rw [h2k, ite_self, if_neg fun h => b h.2.1]
  · have h1 : u1 k = 0 := by rw [hu1, if_pos (not_lt.1 a)]
    have h2k : u2 k = 0 := by rw [hu2, h1, ite_self]
    rw [h2k, ite_self, if_neg fun h => a h.1]

/-- A filtered probability beyond the first `tk` ranks is zero. -/
theorem filtered_beyond (k : Fin n) (h : tk ≤ k.val) : filtered q h0 tp mp tk k = 0 := by
  unfold filtered
  rw [if_neg fun hk => absurd hk.1 (not_lt.2 h)]

theorem Good.filtered_zero (g : Good q tp mp tk) : filtered q h0 tp mp tk ⟨0, h0⟩ = q ⟨0, h0⟩ := by
  unfold filtered
  rw [if_pos g.keep_zero]

/-- A sum of the first `m` masked by "at or before `k`" is the running sum. -/
theorem cum_masked {m : ℕ} (hm : m ≤ n) (k : Fin m) :
    (∑ i : Fin m, q (i.castLE hm) * (if i ≤ k then 1 else 0)) = cum q (k.castLE hm) := by
  unfold cum
  rw [Finset.sum_congr rfl fun i _ => mul_ite _ _ _ _]
  simp only [mul_one, mul_zero]
  rw [← Finset.sum_filter]
  refine Finset.sum_bij (fun i _ => i.castLE hm) (fun i hi => ?_) (fun a _ b _ hab => ?_) (fun b hb => ?_) (fun _ _ => rfl)
  · exact Finset.mem_Iic.2 (show i ≤ k from (Finset.mem_filter.1 hi).2)
  · exact Fin.ext (by simpa [Fin.ext_iff] using hab)
  · have hb' : b.val ≤ k.val := (Finset.mem_Iic (a := k.castLE hm)).1 hb
    exact ⟨⟨b.val, lt_of_le_of_lt hb' k.isLt⟩, Finset.mem_filter.2 ⟨Finset.mem_univ _, hb'⟩, Fin.ext rfl⟩

/-! ## The scores -/

/-- The score of rank `k`: the log of its filtered probability, kept off zero, plus its noise. -/
def score (q : Fin n → EReal) (h0 : 0 < n) (tp mp : EReal) (tk : ℕ) (eps : EReal) (noise : ℕ → EReal) (k : Fin n) : EReal :=
  Ideal.log (filtered q h0 tp mp tk k + eps) + noise k.val

attribute [irreducible] top expo soft cum filtered score

end Cert.Row

end
-- ==== Proof.Words.lean ====
/- Words of one row: the middle of two bounds, the hash that seeds a rank's noise, and the noise itself. -/
module

public import Idealize.ShloMosaic.Lib.ValueIdx
public import Idealize.ShloMosaic.Lib.WordCmp
public import Idealize.ShloMosaic.Lib.WordArith
public import Idealize.ShloMosaic.PureOps.Ideal.Laws

@[expose] public section

noncomputable section

namespace Cert.Words

open Idealize.ShloMosaic Idealize.ShloMosaic.WordCmp

/-! ## The middle of two bounds -/

/-- Half of a word, rounded down, as the kernel spells it: the signed quotient, less one when the signs differ and there
    is a remainder. -/
def half (v : BitVec 32) : BitVec 32 :=
  Scalar.select (IntOp.andi
      (IntOp.cmpi .ne (IntOp.subi ((IntOp.cmpi .sgt v 0#32).setWidth 32) ((IntOp.cmpi .slt v 0#32).setWidth 32))
        (Scalar.subi (Scalar.extui (Scalar.cmpi .sgt 2#32 0#32)) (Scalar.extui (Scalar.cmpi .slt 2#32 0#32))))
      (IntOp.cmpi .ne (IntOp.remsi .vector v 2#32) 0#32))
    (IntOp.subi (IntOp.divsi .vector v 2#32) 1#32) (IntOp.divsi .vector v 2#32)

theorem half_quot (a : ℕ) (h : a < 2 ^ 31) : IntOp.divsi .vector (BitVec.ofNat 32 a) 2#32 = BitVec.ofNat 32 (a / 2) := by
  unfold IntOp.divsi
  rw [if_neg (by simp [IntOp.SDivCorner])]
  have hm : (BitVec.ofNat 32 a).msb = false := by
    rw [BitVec.msb_eq_false_iff_two_mul_lt, BitVec.toNat_ofNat, Nat.mod_eq_of_lt (by omega)]; omega
  rw [BitVec.sdiv_eq, hm]
  have h2 : (2#32 : BitVec 32).msb = false := by decide
  rw [h2]
  apply BitVec.eq_of_toNat_eq
  show ((BitVec.ofNat 32 a) / 2#32).toNat = _
  rw [BitVec.toNat_udiv, BitVec.toNat_ofNat, BitVec.toNat_ofNat, BitVec.toNat_ofNat, Nat.mod_eq_of_lt (a := a) (by omega),
    Nat.mod_eq_of_lt (a := a / 2) (by omega)]

/-- On a number below `2 ^ 31` it is half of it. -/
theorem half_ofNat (a : ℕ) (h : a < 2 ^ 31) : half (BitVec.ofNat 32 a) = BitVec.ofNat 32 (a / 2) := by
  unfold half
  rw [half_quot a h]
  rcases Nat.eq_zero_or_pos a with rfl | hp
  · rfl
  · have h1 : IntOp.cmpi .sgt (BitVec.ofNat 32 a) 0#32 = 1#1 := by
      rw [show (0#32) = BitVec.ofNat 32 0 from rfl]
      exact (cmpi_sgt_ofNat_eq_one_iff (w := 32) (by simpa using h) (by decide)).2 hp
    have h2 : IntOp.cmpi .slt (BitVec.ofNat 32 a) 0#32 = 0#1 := by
      rw [show (0#32) = BitVec.ofNat 32 0 from rfl]
      exact (cmpi_slt_ofNat_eq_zero_iff (w := 32) (by simpa using h) (by decide)).2 (by omega)
    rw [h1, h2]
    have h3 : IntOp.cmpi .ne (IntOp.subi ((1#1 : BitVec 1).setWidth 32) ((0#1 : BitVec 1).setWidth 32))
        (Scalar.subi (Scalar.extui (Scalar.cmpi .sgt 2#32 0#32)) (Scalar.extui (Scalar.cmpi .slt 2#32 0#32))) = 0#1 := by
      decide
    rw [h3]
    have h4 : ∀ x : BitVec 1, IntOp.andi 0#1 x = 0#1 := by decide
    rw [h4]
    rfl

/-! ## The noise -/

/-- The hash of a row's seed and position at rank `k`. -/
def hash (seed pos : BitVec 32) (k : ℕ) : BitVec 32 :=
  IntOp.xori (IntOp.muli (IntOp.xori (IntOp.muli seed 19349663#32) (IntOp.muli pos 73856093#32)) 4294967295#32)
    (IntOp.muli (BitVec.ofNat 32 k) 479001599#32)

/-- The small number added before a log. -/
abbrev eps : EReal := FloatOps.ofBits (F := Ideal) .f32 0x2EDBE6FF#32

/-- The noise a number below `2 ^ 24` gives: its share of `2 ^ 24`, clipped, twice through the negated log. -/
def gumbel (u : EReal) : EReal :=
  -Ideal.log (-Ideal.log (min (FloatOps.ofBits (F := Ideal) .f32 0x3F800000#32)
    (max eps (Ideal.div u (FloatOps.ofBits (F := Ideal) .f32 0x4B800000#32)))))

/-- The noise of rank `k`. -/
def noise (seed pos : BitVec 32) (k : ℕ) : EReal := gumbel (((hash seed pos k).toNat % 2 ^ 24 : ℕ) : ℝ)

theorem toNat_mask (x : BitVec 32) : (IntOp.andi x 16777215#32).toNat = x.toNat % 2 ^ 24 := by
  show (x &&& 16777215#32).toNat = _
  rw [BitVec.toNat_and, show (16777215#32 : BitVec 32).toNat = 2 ^ 24 - 1 from rfl, Nat.and_two_pow_sub_one_eq_mod]

theorem toInt_mask (x : BitVec 32) : (IntOp.andi x 16777215#32).toInt = ((x.toNat % 2 ^ 24 : ℕ) : ℤ) := by
  rw [toInt_eq_toNat_of_lt_half (by rw [toNat_mask]; have := Nat.mod_lt x.toNat (show 0 < 2 ^ 24 by decide); simp only [Nat.reducePow, Nat.reduceSub] at *; omega), toNat_mask]

theorem toNat_rem (x : BitVec 32) : (IntOp.remui .host x 16777216#32).toNat = x.toNat % 2 ^ 24 := by
  unfold IntOp.remui
  rw [if_neg (by decide), BitVec.toNat_umod]
  rfl

/-! ## The constants -/

theorem bits_neg_inf : FloatOps.ofBits (F := Ideal) .f32 0xFF800000#32 = (⊥ : EReal) := by
  show Ideal.ofBits .f32 0xFF800000#32 = ⊥
  simp [Ideal.ofBits, Ideal.ieee]

theorem bits_inf : FloatOps.ofBits (F := Ideal) .f32 0x7F800000#32 = (⊤ : EReal) := by
  show Ideal.ofBits .f32 0x7F800000#32 = ⊤
  simp [Ideal.ofBits, Ideal.ieee]

theorem bits_zero : FloatOps.ofBits (F := Ideal) .f32 0x00000000#32 = (0 : EReal) := Ideal.ofBits_zero_f32

theorem bits_one : FloatOps.ofBits (F := Ideal) .f32 0x3F800000#32 = (1 : EReal) := by
  show Ideal.ofBits .f32 0x3F800000#32 = 1
  simp [Ideal.ofBits, Ideal.ieee, -EReal.coe_mul]; norm_num

theorem bits_neg_one_le : FloatOps.ofBits (F := Ideal) .f32 0xBF800000#32 ≤ (0 : EReal) := by
  have h : FloatOps.ofBits (F := Ideal) .f32 0xBF800000#32 = ((-1 : ℝ) : EReal) := by
    show Ideal.ofBits .f32 0xBF800000#32 = _
    simp [Ideal.ofBits, Ideal.ieee, -EReal.coe_mul]; norm_num
  rw [h, show (0 : EReal) = ((0 : ℝ) : EReal) from rfl, EReal.coe_le_coe_iff]
  norm_num

end Cert.Words

end
-- ==== Proof.KernelRow.lean ====
/- The kernel's block terms read one row at a time. -/
module

public import proofs.«01_k».proof.Proof.KernelOut
public import proofs.«01_k».proof.Proof.Row
public import proofs.«01_k».proof.Proof.Words
public import Idealize.ShloMosaic.Lib.WordSum
public import Idealize.ShloMosaic.PureOps.Ideal.Laws

@[expose] public section

set_option maxRecDepth 16384

noncomputable section

namespace Cert.KernelIdeal.Gen

open Idealize.ShloMosaic Idealize.ShloMosaic.TcCoe Idealize.ShloMosaic.ValueIdx Idealize.ShloMosaic.WordCmp
open Cert.Ranks Cert.Row Cert.Words

/-! ## Reductions along a row -/

theorem lift_wide (r : Fin 8) (j : Fin 100000) : (reduces_S8x100000_S8).lift (ix1 r) j = ix2 r j :=
  funext fun a => match a with | ⟨0, _⟩ => rfl | ⟨1, _⟩ => rfl

theorem lift_lane (r : Fin 8) (k : Fin 1024) : (reduces_S8x1024_S8).lift (ix1 r) k = ix2 r k :=
  funext fun a => match a with | ⟨0, _⟩ => rfl | ⟨1, _⟩ => rfl

theorem sum_wide (x : FVec Ideal S8x100000 .f32) (r : Fin 8) :
    multiReduction .add [1] S8 x 0x00000000#32 reduces_S8x100000_S8 (.inl rfl) rfl (ix1 r) = ∑ j : Fin 100000, x (ix2 r j) :=
  (Ideal.multiReduction_add_single x 0x00000000#32 reduces_S8x100000_S8 (.inl rfl) rfl (ix1 r)).trans
    (Finset.sum_congr rfl fun j _ => congrArg x (lift_wide r j))

theorem max_lane (x : FVec Ideal S8x1024 .f32) (r : Fin 8) :
    multiReduction .maximumf [1] S8 x 0xFF800000#32 reduces_S8x1024_S8 (.inl rfl) rfl (ix1 r)
      = Finset.univ.fold max ⊥ fun k : Fin 1024 => x (ix2 r k) :=
  (Ideal.multiReduction_maximumf_single x 0xFF800000#32 reduces_S8x1024_S8 (.inl rfl) rfl (ix1 r)).trans (by
    rw [bits_neg_inf]
    exact congrArg (fun f => Finset.univ.fold max ⊥ f) (funext fun k => congrArg x (lift_lane r k)))

/-- A sum of bits, each widened, is the number of bits set. -/
theorem fold_bits {ι : Type} [Fintype ι] [DecidableEq ι] (b : ι → BitVec 1) (h : Fintype.card ι < 2 ^ 32) :
    Finset.univ.fold IntOp.addi 0#32 (fun j => (b j).setWidth 32)
      = BitVec.ofNat 32 (Finset.univ.filter fun j => b j = 1#1).card := by
  have key : ∀ S : Finset ι, S.fold IntOp.addi 0#32 (fun j => (b j).setWidth 32) = BitVec.ofNat 32 (S.filter fun j => b j = 1#1).card := by
    intro S
    induction S using Finset.cons_induction with
    | empty => rfl
    | cons a S ha ih =>
      rw [Finset.fold_cons, ih, Finset.filter_cons]
      split
      · next h1 =>
        rw [Finset.card_cons, h1, show ((1#1 : BitVec 1).setWidth 32) = BitVec.ofNat 32 1 from rfl, addi_ofNat, Nat.add_comm]
      · next h1 =>
        rw [eq_zero_of_ne_one h1, show ((0#1 : BitVec 1).setWidth 32) = BitVec.ofNat 32 0 from rfl, addi_ofNat, Nat.zero_add]
  exact key _

/-- Counting the lanes where a bit is set. -/
theorem count_wide (b : IVec S8x100000 1) (r : Fin 8) :
    multiReductionI .add [1] S8 (extui 32 b natLt_1_32) 0#32 reduces_S8x100000_S8 rfl (ix1 r)
      = BitVec.ofNat 32 (Finset.univ.filter fun j : Fin 100000 => b (ix2 r j) = 1#1).card := by
  refine (multiReductionI_eq_fold .add (extui 32 b natLt_1_32) 0#32 reduces_S8x100000_S8 rfl (ix1 r)).trans ?_
  refine ((reduces_S8x100000_S8).fold_filter_drop_single IntOp.addi 0#32 _ (ix1 r)).trans ?_
  refine Eq.trans ?_ (fold_bits (fun j : Fin 100000 => b (ix2 r j)) (by rw [Fintype.card_fin]; decide))
  exact congrArg (fun f => Finset.univ.fold IntOp.addi 0#32 f) (funext fun k => congrArg (fun i => (b i).setWidth 32) (lift_wide r k))

theorem count_lane (b : IVec S8x1024 1) (r : Fin 8) :
    multiReductionI .add [1] S8 (extui 32 b natLt_1_32) 0#32 reduces_S8x1024_S8 rfl (ix1 r)
      = BitVec.ofNat 32 (Finset.univ.filter fun j : Fin 1024 => b (ix2 r j) = 1#1).card := by
  refine (multiReductionI_eq_fold .add (extui 32 b natLt_1_32) 0#32 reduces_S8x1024_S8 rfl (ix1 r)).trans ?_
  refine ((reduces_S8x1024_S8).fold_filter_drop_single IntOp.addi 0#32 _ (ix1 r)).trans ?_
  refine Eq.trans ?_ (fold_bits (fun j : Fin 1024 => b (ix2 r j)) (by rw [Fintype.card_fin]; decide))
  exact congrArg (fun f => Finset.univ.fold IntOp.addi 0#32 f) (funext fun k => congrArg (fun i => (b i).setWidth 32) (lift_lane r k))

theorem min_lane (x : IVec S8x1024 32) (r : Fin 8) :
    multiReductionI .minsi [1] S8 x 2147483647#32 reduces_S8x1024_S8 rfl (ix1 r)
      = Finset.univ.fold IntOp.minsi 2147483647#32 fun k : Fin 1024 => x (ix2 r k) := by
  refine (multiReductionI_eq_fold .minsi x 2147483647#32 reduces_S8x1024_S8 rfl (ix1 r)).trans ?_
  refine ((reduces_S8x1024_S8).fold_filter_drop_single IntOp.minsi 2147483647#32 _ (ix1 r)).trans ?_
  exact congrArg (fun f => Finset.univ.fold IntOp.minsi 2147483647#32 f) (funext fun k => congrArg x (lift_lane r k))

/-! ## Layout along a row -/

theorem col_cast {α : Type} (x : S8.Idx → α) (r : Fin 8) : shapeCast S8x1 x shapeCasts_S8_S8x1 (ix2 r 0) = x (ix1 r) :=
  shapeCast_apply x shapeCasts_S8_S8x1 (ix2 r 0) (ix1 r) (by
    rw [Shape.rowMajor_val_one, Shape.rowMajor_val_two]; exact (Nat.mul_one _).symm)

theorem spread_wide {α : Type} (x : S8x1.Idx → α) (r : Fin 8) (j : Fin 100000) :
    broadcastTo S8x100000 x broadcasts_S8x1_S8x100000 (ix2 r j) = x (ix2 r 0) :=
  broadcastTo_apply x broadcasts_S8x1_S8x100000 (ix2 r j) (ix2 r 0) fun a => match a with
    | ⟨0, _⟩ => rfl
    | ⟨1, _⟩ => rfl

theorem spread_lane {α : Type} (x : S8x1.Idx → α) (r : Fin 8) (j : Fin 1024) :
    broadcastTo S8x1024 x broadcasts_S8x1_S8x1024 (ix2 r j) = x (ix2 r 0) :=
  broadcastTo_apply x broadcasts_S8x1_S8x1024 (ix2 r j) (ix2 r 0) fun a => match a with
    | ⟨0, _⟩ => rfl
    | ⟨1, _⟩ => rfl

theorem first_lane {α : Type} (x : S8x1024.Idx → α) (r : Fin 8) :
    extractStridedSlice S8x1 ![0, 0] x slices_S8x1024_o0_0_S8x1 (ix2 r 0) = x (ix2 r 0) :=
  extractStridedSlice_apply ![0, 0] x slices_S8x1024_o0_0_S8x1 (ix2 r 0) (ix2 r 0) fun a => match a with
    | ⟨0, _⟩ => (Nat.zero_add _).symm
    | ⟨1, _⟩ => rfl

/-! ## Arithmetic at an index -/

section At
variable {s : Shape} {φ : FTy}
theorem divf_at (x y : FVec Ideal s φ) (i : s.Idx) : divf x y i = Ideal.div (x i) (y i) := rfl
theorem subf_at (x y : FVec Ideal s φ) (i : s.Idx) : subf x y i = x i - y i := rfl
theorem addf_at (x y : FVec Ideal s φ) (i : s.Idx) : addf x y i = x i + y i := rfl
theorem mulf_at (x y : FVec Ideal s φ) (i : s.Idx) : mulf x y i = x i * y i := rfl
theorem exp_at (x : FVec Ideal s φ) (i : s.Idx) : exp x i = Ideal.exp (x i) := rfl
theorem log_at (x : FVec Ideal s φ) (i : s.Idx) : log x i = Ideal.log (x i) := rfl
theorem maximumf_at (x y : FVec Ideal s φ) (i : s.Idx) : maximumf x y i = max (x i) (y i) := rfl
theorem minimumf_at (x y : FVec Ideal s φ) (i : s.Idx) : minimumf x y i = min (x i) (y i) := rfl
theorem sitofp_at {w : ℕ} (x : IVec s w) (i : s.Idx) : sitofp (F := Ideal) φ x i = (((x i).toInt : ℝ) : EReal) := rfl
theorem cmpf_ole_at (x y : FVec Ideal s φ) (i : s.Idx) : cmpf .ole x y i = BitVec.ofBool (decide (x i ≤ y i)) := rfl
theorem cmpf_olt_at (x y : FVec Ideal s φ) (i : s.Idx) : cmpf .olt x y i = BitVec.ofBool (decide (x i < y i)) := rfl
theorem cmpf_ogt_at (x y : FVec Ideal s φ) (i : s.Idx) : cmpf .ogt x y i = BitVec.ofBool (decide (y i < x i)) := rfl
theorem cmpf_oeq_at (x y : FVec Ideal s φ) (i : s.Idx) : cmpf .oeq x y i = BitVec.ofBool (decide (x i = y i)) := rfl
end At

/-! ## The softmax and the candidates -/

/-- Row `r` of a block of logits. -/
abbrev rowOf (x0 : Vec Ideal S8x100000 .f32) (r : Fin 8) (j : Fin 100000) : EReal := x0 (ix2 r j)

theorem lanes_le : 1024 ≤ 100000 := by decide
theorem wide_pos : 0 < 100000 := by decide

/-- What a block holds for row `r`: a real greatest logit, its candidates the row's entries from the greatest down, and
    an order `ord` of the row's softmax. -/
structure RowOk (x0 : Vec Ideal S8x100000 .f32) (x1 : Vec Ideal S8x1024 .f32) (r : Fin 8) (M : ℝ)
    (π ord : Equiv.Perm (Fin 100000)) : Prop where
  vals : ∀ k : Fin 1024, x1 (ix2 r k) = rowOf x0 r (π (k.castLE lanes_le))
  anti : Antitone (rowOf x0 r ∘ π)
  top : Row.top (rowOf x0 r) = (M : EReal)
  ranked : Ranked (soft (rowOf x0 r)) ord

/-- The sorted softmax of row `r`. -/
abbrev sortedRow (x0 : Vec Ideal S8x100000 .f32) (ord : Equiv.Perm (Fin 100000)) (r : Fin 8) (k : Fin 100000) : EReal :=
  soft (rowOf x0 r) (ord k)

variable {x0 : Vec Ideal S8x100000 .f32} {x1 : Vec Ideal S8x1024 .f32} {r : Fin 8} {M : ℝ} {π ord : Equiv.Perm (Fin 100000)}

theorem RowOk.first (h : RowOk x0 x1 r M π ord) : x1 (ix2 r 0) = Row.top (rowOf x0 r) := by
  rw [h.vals]
  apply le_antisymm (le_top _ _)
  unfold Row.top
  refine (Finset.fold_max_le _).2 ⟨bot_le, fun j _ => ?_⟩
  have := h.anti (show (Fin.castLE lanes_le (0 : Fin 1024)) ≤ π.symm j from Nat.zero_le _)
  simpa using this

theorem pay6_row (h : RowOk x0 x1 r M π ord) : k0_pay6 x1 (ix2 r 0) = Row.top (rowOf x0 r) :=
  (first_lane x1 r).trans h.first

theorem pay7_row (h : RowOk x0 x1 r M π ord) (j : Fin 100000) : k0_pay7 x0 x1 (ix2 r j) = expo (rowOf x0 r) j := by
  unfold k0_pay7
  rw [exp_at, subf_at, spread_wide, pay6_row h, expo]

theorem pay8_row (h : RowOk x0 x1 r M π ord) : k0_pay8 x0 x1 (ix2 r 0) = ∑ j, expo (rowOf x0 r) j := by
  unfold k0_pay8
  refine (col_cast _ r).trans ((sum_wide (k0_pay7 x0 x1) r).trans ?_)
  exact Finset.sum_congr rfl fun j _ => pay7_row h j

/-- The block's softmax. -/
theorem pay9_row (h : RowOk x0 x1 r M π ord) (j : Fin 100000) : k0_pay9 x0 x1 (ix2 r j) = soft (rowOf x0 r) j := by
  unfold k0_pay9
  rw [divf_at, spread_wide, pay8_row h, pay7_row h, soft]

/-- The row's entries from the greatest down have the softmax of the row's order. -/
theorem RowOk.sorted (h : RowOk x0 x1 r M π ord) (k : Fin 100000) : soft (rowOf x0 r) (π k) = sortedRow x0 ord r k := by
  obtain ⟨p, hp, _, hmono⟩ := soft_real (rowOf x0 r) M h.top
  have h1 : Antitone (soft (rowOf x0 r) ∘ π) := fun i j hij => by
    simp only [Function.comp_apply, hp, EReal.coe_le_coe_iff]
    exact hmono _ _ (h.anti hij)
  have h2 : Antitone (soft (rowOf x0 r) ∘ ord) := fun i j hij => by
    simp only [Function.comp_apply]
    exact h.ranked.anti hij
  have h3 := congrFun (anti_unique h1 h2) k
  simp only [Function.comp_apply] at h3
  exact h3

/-- The candidates' probabilities. -/
theorem pay10_row (h : RowOk x0 x1 r M π ord) (k : Fin 1024) :
    k0_pay10 x0 x1 (ix2 r k) = sortedRow x0 ord r (k.castLE lanes_le) := by
  unfold k0_pay10
  rw [divf_at, exp_at, subf_at, spread_lane, spread_lane, pay8_row h, pay6_row h, h.vals, ← h.sorted, soft, expo]

end Cert.KernelIdeal.Gen

end
-- ==== Proof.KernelKeep.lean ====
/- The kept candidates of a row, and the candidate it draws. -/
module

public import proofs.«01_k».proof.Proof.KernelRow
public import Idealize.ShloMosaic.Lib.MatmulPlain

@[expose] public section

set_option maxRecDepth 16384

noncomputable section

namespace Cert.KernelIdeal.Gen

open Idealize.ShloMosaic Idealize.ShloMosaic.TcCoe Idealize.ShloMosaic.ValueIdx Idealize.ShloMosaic.WordCmp
open Cert.Ranks Cert.Row Cert.Words

variable {x0 : Vec Ideal S8x100000 .f32} {x1 : Vec Ideal S8x1024 .f32} {r : Fin 8} {M : ℝ} {π ord : Equiv.Perm (Fin 100000)}
variable {x2 x3 : Vec Ideal S8x1 .f32} {x4 x5 x6 : Vec Ideal S8x1 .i32} {tk : ℕ}

theorem lanes_at (k : Fin 1024) : lanes (ix2 r k) = BitVec.ofNat 32 k.val :=
  congrArg (BitVec.ofNat 32) (by show 0 * 1024 + k.val = k.val; omega)

theorem cols_at (j : Fin 100000) : cols (ix2 r j) = BitVec.ofNat 32 j.val :=
  congrArg (BitVec.ofNat 32) (by show 0 * 100000 + j.val = j.val; omega)

theorem muli_at {s : Shape} {w : ℕ} (x y : IVec s w) (i : s.Idx) : muli x y i = IntOp.muli (x i) (y i) := rfl
theorem addi_at {s : Shape} {w : ℕ} (x y : IVec s w) (i : s.Idx) : addi x y i = IntOp.addi (x i) (y i) := rfl
theorem subi_at {s : Shape} {w : ℕ} (x y : IVec s w) (i : s.Idx) : subi x y i = IntOp.subi (x i) (y i) := rfl
theorem ori_at {s : Shape} {w : ℕ} (x y : IVec s w) (i : s.Idx) : ori x y i = IntOp.ori (x i) (y i) := rfl

theorem same_cast {α : Type} (x : S8x1.Idx → α) (i : S8x1.Idx) : shapeCast S8x1 x shapeCasts_S8x1_S8x1 i = x i :=
  shapeCast_apply x shapeCasts_S8x1_S8x1 i i rfl

theorem square_row (i k : Fin 1024) : iota .tc S1024x1024 32 [0] iota_S1024x1024_d0_w32 (ix2 i k) = BitVec.ofNat 32 i.val :=
  congrArg (BitVec.ofNat 32) (by show 0 * 1024 + i.val = i.val; omega)

theorem square_col (i k : Fin 1024) : iota .tc S1024x1024 32 [1] iota_S1024x1024_d1_w32 (ix2 i k) = BitVec.ofNat 32 k.val :=
  congrArg (BitVec.ofNat 32) (by show 0 * 1024 + k.val = k.val; omega)

/-- The product with the triangle of ones is the running sum. -/
theorem running_row (h : RowOk x0 x1 r M π ord) (k : Fin 1024) :
    matmul dot_S8x1024_S1024x1024_S8x1024_1_0_0_1_n_n (some .fp32) (k0_pay10 x0 x1)
      (sitofp (F := Ideal) .f32 (extui 32 (cmpi .sle (iota .tc S1024x1024 32 [0] iota_S1024x1024_d0_w32)
        (iota .tc S1024x1024 32 [1] iota_S1024x1024_d1_w32)) natLt_1_32)) (constant S8x1024 .f32 0x00000000#32) (ix2 r k)
      = cum (sortedRow x0 ord r) (k.castLE lanes_le) := by
  refine (Ideal.matmul_plain_apply (some .fp32) (k0_pay10 x0 x1) _ (constant S8x1024 .f32 0x00000000#32) r k).trans ?_
  refine (congrArg₂ (· + ·) bits_zero rfl).trans ((zero_add _).trans ?_)
  rw [← cum_masked lanes_le k]
  refine Finset.sum_congr rfl fun i _ => ?_
  rw [pay10_row h]
  refine congrArg _ ?_
  rw [sitofp_at]
  show ((((cmpi .sle (iota .tc S1024x1024 32 [0] iota_S1024x1024_d0_w32)
        (iota .tc S1024x1024 32 [1] iota_S1024x1024_d1_w32) (ix2 i k)).setWidth 32).toInt : ℝ) : EReal) = _
  rw [cmpi_at, square_row, square_col, cmpi_sle_ofNat (by have := i.2; omega) (by have := k.2; omega)]
  by_cases hik : i ≤ k
  · rw [if_pos hik, decide_eq_true (show i.val ≤ k.val from hik)]
    simp
  · rw [if_neg hik, decide_eq_false (show ¬ i.val ≤ k.val from hik)]
    simp

/-- The kernel's test keeps a candidate when the three filters do. -/
theorem pay11_row (h : RowOk x0 x1 r M π ord) (h4 : x4 (ix2 r 0) = BitVec.ofNat 32 tk) (htk : tk ≤ 1024) (k : Fin 1024) :
    k0_pay11 x0 x1 x2 x3 x4 (ix2 r k) = 1#1
      ↔ Keep (sortedRow x0 ord r) wide_pos (x2 (ix2 r 0)) (x3 (ix2 r 0)) tk (k.castLE lanes_le) := by
  unfold k0_pay11
  rw [andi_at, andi_at, xori_at, cmpi_at, cmpf_ole_at, cmpf_olt_at, subf_at, spread_lane, spread_lane, spread_lane, mulf_at,
    first_lane, same_cast, same_cast, same_cast, h4, pay10_row h, pay10_row h, running_row h]
  rw [show iota .tc S8x1024 32 [1] iota_S8x1024_d1_w32 (ix2 r k) = BitVec.ofNat 32 k.val from lanes_at k,
    show constantI S8x1024 1 1#1 (ix2 r k) = BitVec.ofBool true from rfl]
  rw [cmpi_slt_ofNat (by have := k.2; omega) (by omega), andi_ofBool, xori_ofBool, andi_ofBool]
  unfold Keep
  have : ∀ b : Bool, BitVec.ofBool b = 1#1 ↔ b = true := by decide
  rw [this]
  simp only [Bool.and_eq_true, decide_eq_true_eq, Bool.xor_true, Bool.not_eq_true', decide_eq_false_iff_not, and_assoc]
  exact Iff.rfl

/-- The kept probabilities. -/
theorem pay12_row (h : RowOk x0 x1 r M π ord) (h4 : x4 (ix2 r 0) = BitVec.ofNat 32 tk) (htk : tk ≤ 1024) (k : Fin 1024) :
    k0_pay12 x0 x1 x2 x3 x4 (ix2 r k)
      = filtered (sortedRow x0 ord r) wide_pos (x2 (ix2 r 0)) (x3 (ix2 r 0)) tk (k.castLE lanes_le) := by
  unfold k0_pay12
  rw [filtered]
  show Scalar.select (k0_pay11 x0 x1 x2 x3 x4 (ix2 r k)) _ _ = _
  by_cases hk : Keep (sortedRow x0 ord r) wide_pos (x2 (ix2 r 0)) (x3 (ix2 r 0)) tk (k.castLE lanes_le)
  · rw [if_pos hk, (pay11_row h h4 htk k).2 hk, ValueIdx.select_one, pay10_row h]
  · rw [if_neg hk, eq_zero_of_ne_one fun hc => hk ((pay11_row h h4 htk k).1 hc), ValueIdx.select_zero]
    exact bits_zero

open scoped Classical in
/-- How many candidates are kept. -/
theorem kept_row (h : RowOk x0 x1 r M π ord) (h4 : x4 (ix2 r 0) = BitVec.ofNat 32 tk) (htk : tk ≤ 1024) :
    keptCount x0 x1 x2 x3 x4 (ix2 r 0) = BitVec.ofNat 32 (Finset.univ.filter fun i : Fin 1024 =>
      Keep (sortedRow x0 ord r) wide_pos (x2 (ix2 r 0)) (x3 (ix2 r 0)) tk (i.castLE lanes_le)).card := by
  unfold keptCount k0_pay14 k0_pay13
  rw [col_cast, count_lane]
  refine congrArg (fun s : Finset (Fin 1024) => BitVec.ofNat 32 s.card) ?_
  ext i
  simp only [Finset.mem_filter, Finset.mem_univ, true_and]
  exact pay11_row h h4 htk i

/-- Signed minima of numbers below `2 ^ 31` are their minima. -/
theorem fold_least {ι : Type} [DecidableEq ι] (S : Finset ι) (N : ℕ) (hN : N < 2 ^ 31) (g : ι → ℕ) (hg : ∀ i, g i < 2 ^ 31) :
    S.fold IntOp.minsi (BitVec.ofNat 32 N) (fun i => BitVec.ofNat 32 (g i)) = BitVec.ofNat 32 (S.fold min N g)
      ∧ S.fold min N g < 2 ^ 31 := by
  induction S using Finset.cons_induction with
  | empty => exact ⟨rfl, hN⟩
  | cons a S ha ih =>
    rw [Finset.fold_cons, Finset.fold_cons, ih.1]
    have h1 := hg a
    refine ⟨?_, lt_of_le_of_lt (min_le_left _ _) h1⟩
    have e1 : (BitVec.ofNat 32 (g a)).toInt = (g a : ℤ) := toInt_ofNat_of_lt (w := 32) h1
    have e2 : (BitVec.ofNat 32 (S.fold min N g)).toInt = ((S.fold min N g : ℕ) : ℤ) := toInt_ofNat_of_lt (w := 32) ih.2
    unfold IntOp.minsi
    rcases le_total (g a) (S.fold min N g) with hle | hle
    · rw [min_eq_left hle]
      split
      · rfl
      · next hc =>
        simp only [BitVec.sle, BitVec.slt, e1, e2, decide_eq_true_eq] at hc
        exact congrArg _ (by omega)
    · rw [min_eq_right hle]
      split
      · next hc =>
        simp only [BitVec.sle, BitVec.slt, e1, e2, decide_eq_true_eq] at hc
        exact congrArg _ (by omega)
      · rfl

/-- The least lane that holds the row's greatest value is its first greatest lane. -/
theorem pick_row (V : FVec Ideal S8x1024 .f32) (y : Fin 1024 → EReal) (hV : ∀ k, V (ix2 r k) = y k) (s : Fin 1024)
    (hs : FirstMax y s) :
    multiReductionI .minsi [1] S8 (select (cmpf .oeq V (broadcastTo S8x1024 (shapeCast S8x1
        (multiReduction .maximumf [1] S8 V 0xFF800000#32 reduces_S8x1024_S8 (.inl rfl) rfl) shapeCasts_S8_S8x1)
        broadcasts_S8x1_S8x1024)) lanes (broadcast S8x1024 1024#32)) 2147483647#32 reduces_S8x1024_S8 rfl (ix1 r)
      = BitVec.ofNat 32 s.val := by
  have hT : (Finset.univ.fold max ⊥ fun k : Fin 1024 => V (ix2 r k)) = y s := by
    apply le_antisymm
    · exact (Finset.fold_max_le _).2 ⟨bot_le, fun k _ => by rw [hV]; exact hs.1 k⟩
    · exact (Finset.le_fold_max _).2 (.inr ⟨s, Finset.mem_univ s, (hV s).ge⟩)
  refine (min_lane _ r).trans ?_
  have hval : ∀ k : Fin 1024, select (cmpf .oeq V (broadcastTo S8x1024 (shapeCast S8x1
        (multiReduction .maximumf [1] S8 V 0xFF800000#32 reduces_S8x1024_S8 (.inl rfl) rfl) shapeCasts_S8_S8x1)
        broadcasts_S8x1_S8x1024)) lanes (broadcast S8x1024 1024#32) (ix2 r k)
      = BitVec.ofNat 32 (if y k = y s then k.val else 1024) := fun k => by
    rw [select_at, cmpf_oeq_at, spread_lane, col_cast, max_lane, hT, hV, lanes_at]
    by_cases hk : y k = y s
    · rw [if_pos hk, decide_eq_true hk]; rfl
    · rw [if_neg hk, decide_eq_false hk]; rfl
  refine (congrArg (fun f => Finset.univ.fold IntOp.minsi 2147483647#32 f) (funext hval)).trans ?_
  refine (fold_least Finset.univ 2147483647 (by decide) _ fun k => ?_).1.trans (congrArg (BitVec.ofNat 32) ?_)
  · have := k.2; beta_reduce; split <;> omega
  · apply le_antisymm
    · exact (Finset.fold_min_le _).2 (.inr ⟨s, Finset.mem_univ s, by rw [if_pos rfl]⟩)
    · refine (Finset.le_fold_min _).2 ⟨by have := s.2; omega, fun k _ => ?_⟩
      split
      · next he => exact not_lt.1 fun hlt => absurd he (hs.2 k hlt).ne
      · exact s.2.le

/-- The candidate a row draws is the first of the greatest scores. -/
theorem drawn_row (h : RowOk x0 x1 r M π ord) (h4 : x4 (ix2 r 0) = BitVec.ofNat 32 tk) (htk : tk ≤ 1024) (s : Fin 1024)
    (hs : FirstMax (fun k : Fin 1024 => score (sortedRow x0 ord r) wide_pos (x2 (ix2 r 0)) (x3 (ix2 r 0)) tk eps
      (noise (x5 (ix2 r 0)) (x6 (ix2 r 0))) (k.castLE lanes_le)) s) :
    drawn x0 x1 x2 x3 x4 x5 x6 (ix1 r) = BitVec.ofNat 32 s.val := by
  unfold drawn k0_pay15
  refine pick_row _ _ (fun k => ?_) s hs
  rw [score, addf_at, log_at, addf_at, pay12_row h h4 htk, subf_at, log_at, subf_at, log_at, minimumf_at, maximumf_at,
    divf_at, sitofp_at, andi_at, xori_at, spread_lane, muli_at, muli_at, xori_at, muli_at, muli_at, same_cast, same_cast,
    lanes_at]
  simp only [broadcast_apply]
  refine congrArg₂ (· + ·) rfl ?_
  unfold noise gumbel
  rw [bits_zero, zero_sub, zero_sub]
  refine congrArg (fun u : EReal => -Ideal.log (-Ideal.log (min (FloatOps.ofBits (F := Ideal) .f32 0x3F800000#32)
    (max eps (Ideal.div u (FloatOps.ofBits (F := Ideal) .f32 0x4B800000#32)))))) ?_
  refine congrArg (fun x : ℝ => (x : EReal)) ?_
  refine (congrArg (fun z : ℤ => (z : ℝ)) (toInt_mask (hash (x5 (ix2 r 0)) (x6 (ix2 r 0)) k.val))).trans ?_
  exact Int.cast_natCast _

end Cert.KernelIdeal.Gen

end
-- ==== Proof.KernelSearch.lean ====
/- The two searches by halving, and the block's two outputs along a row. -/
module

public import proofs.«01_k».proof.Proof.KernelKeep

@[expose] public section

set_option maxRecDepth 16384

noncomputable section

namespace Cert.KernelIdeal.Gen

open Idealize.ShloMosaic Idealize.ShloMosaic.TcCoe Idealize.ShloMosaic.ValueIdx Idealize.ShloMosaic.WordCmp
open Cert.Ranks Cert.Row Cert.Words

variable {x0 : Vec Ideal S8x100000 .f32} {x1 : Vec Ideal S8x1024 .f32} {r : Fin 8} {M : ℝ} {π ord : Equiv.Perm (Fin 100000)}
variable {x2 x3 : Vec Ideal S8x1 .f32} {x4 x5 x6 : Vec Ideal S8x1 .i32} {tk : ℕ}

/-! ## The value at a rank, and what is above it -/

/-- The probability at the rank a word names. -/
def valueAt (p10 : FVec Ideal S8x1024 .f32) (w : IVec S8x1 32) : FVec Ideal S8x1 .f32 :=
  shapeCast S8x1 (multiReduction .maximumf [1] S8 (select (cmpi .eq lanes (broadcastTo S8x1024 w broadcasts_S8x1_S8x1024)) p10
    (broadcast S8x1024 (Scalar.ofBits .f32 0xBF800000#32))) 0xFF800000#32 reduces_S8x1024_S8 (.inl rfl) rfl) shapeCasts_S8_S8x1

/-- The number of candidates above a value. -/
def countAbove (p10 : FVec Ideal S8x1024 .f32) (t : FVec Ideal S8x1 .f32) : IVec S8x1 32 :=
  shapeCast S8x1 (multiReductionI .add [1] S8 (extui 32 (cmpf .ogt p10 (broadcastTo S8x1024 t broadcasts_S8x1_S8x1024))
    natLt_1_32) 0#32 reduces_S8x1024_S8 rfl) shapeCasts_S8_S8x1

/-- The lanes of the row that hold a value. -/
def holds (p9 : FVec Ideal S8x100000 .f32) (t : FVec Ideal S8x1 .f32) : IVec S8x100000 1 :=
  cmpf .oeq p9 (broadcastTo S8x100000 t broadcasts_S8x1_S8x100000)

theorem idsStep_eq (p9 : FVec Ideal S8x100000 .f32) (p10 : FVec Ideal S8x1024 .f32) (s : IVec S8 32) (a : IVec S8x1 32 × IVec S8x1 32) :
    idsStep p9 p10 s a = outStep (subi (shapeCast S8x1 s shapeCasts_S8_S8x1)
      (countAbove p10 (valueAt p10 (shapeCast S8x1 s shapeCasts_S8_S8x1))))
      (holds p9 (valueAt p10 (shapeCast S8x1 s shapeCasts_S8_S8x1))) a := rfl

theorem pay23_eq (p10 : FVec Ideal S8x1024 .f32) (n : IVec S8x1 32) :
    k0_pay23 p10 lanes n = valueAt p10 (subi n (broadcast S8x1 1#32)) := rfl

theorem pay24_eq (p10 : FVec Ideal S8x1024 .f32) (n : IVec S8x1 32) :
    k0_pay24 p10 lanes n = subi n (countAbove p10 (valueAt p10 (subi n (broadcast S8x1 1#32)))) := rfl

theorem pay25_eq (p9 : FVec Ideal S8x100000 .f32) (p10 : FVec Ideal S8x1024 .f32) (n : IVec S8x1 32) :
    k0_pay25 p9 p10 lanes n = holds p9 (valueAt p10 (subi n (broadcast S8x1 1#32))) := rfl

theorem valueAt_row (h : RowOk x0 x1 r M π ord) (w : IVec S8x1 32) (s : Fin 1024) (hw : w (ix2 r 0) = BitVec.ofNat 32 s.val) :
    valueAt (k0_pay10 x0 x1) w (ix2 r 0) = sortedRow x0 ord r (s.castLE lanes_le) := by
  obtain ⟨p, hp, h0, _⟩ := soft_real (rowOf x0 r) M h.top
  have hnn : (0 : EReal) ≤ sortedRow x0 ord r (s.castLE lanes_le) := by
    show 0 ≤ soft (rowOf x0 r) _
    rw [hp]; exact_mod_cast h0 _
  unfold valueAt
  rw [col_cast, max_lane]
  have hval : ∀ k : Fin 1024, select (cmpi .eq lanes (broadcastTo S8x1024 w broadcasts_S8x1_S8x1024)) (k0_pay10 x0 x1)
      (broadcast S8x1024 (Scalar.ofBits .f32 0xBF800000#32)) (ix2 r k)
      = if k = s then sortedRow x0 ord r (s.castLE lanes_le) else FloatOps.ofBits (F := Ideal) .f32 0xBF800000#32 := fun k => by
    rw [select_at, cmpi_at, spread_lane, hw, lanes_at, cmpi_eq_ofNat (by have := k.2; omega) (by have := s.2; omega)]
    by_cases hk : k = s
    · subst hk
      rw [if_pos rfl, decide_eq_true rfl, ← pay10_row h]; rfl
    · rw [if_neg hk, decide_eq_false (fun hc => hk (Fin.ext hc))]; rfl
  refine (congrArg (fun f => Finset.univ.fold max ⊥ f) (funext hval)).trans ?_
  apply le_antisymm
  · refine (Finset.fold_max_le _).2 ⟨bot_le, fun k _ => ?_⟩
    split
    · exact le_rfl
    · exact bits_neg_one_le.trans hnn
  · exact (Finset.le_fold_max _).2 (.inr ⟨s, Finset.mem_univ s, by rw [if_pos rfl]⟩)

theorem countAbove_row (h : RowOk x0 x1 r M π ord) (t : FVec Ideal S8x1 .f32) (s : Fin 1024)
    (ht : t (ix2 r 0) = sortedRow x0 ord r (s.castLE lanes_le)) :
    countAbove (k0_pay10 x0 x1) t (ix2 r 0)
      = BitVec.ofNat 32 (above (soft (rowOf x0 r)) (soft (rowOf x0 r) (ord (s.castLE lanes_le)))) := by
  unfold countAbove
  rw [col_cast, count_lane, ← h.ranked.above_prefix lanes_le s]
  refine congrArg (fun s : Finset (Fin 1024) => BitVec.ofNat 32 s.card) ?_
  ext i
  simp only [Finset.mem_filter, Finset.mem_univ, true_and]
  rw [cmpf_ogt_at, spread_lane, ht, pay10_row h, ofBool_decide_eq_one_iff]

theorem holds_row (h : RowOk x0 x1 r M π ord) (t : FVec Ideal S8x1 .f32) (s : Fin 1024)
    (ht : t (ix2 r 0) = sortedRow x0 ord r (s.castLE lanes_le)) (j : Fin 100000) :
    holds (k0_pay9 x0 x1) t (ix2 r j) = 1#1
      ↔ soft (rowOf x0 r) j = soft (rowOf x0 r) (ord (s.castLE lanes_le)) := by
  unfold holds
  rw [cmpf_oeq_at, spread_wide, ht, pay9_row h, ofBool_decide_eq_one_iff]

/-! ## One halving -/

theorem mid_at (a b : IVec S8x1 32) (i : S8x1.Idx) : k0_pay1 a b i = half (IntOp.addi (a i) (b i)) := rfl

theorem mid_row (a b : IVec S8x1 32) (i : S8x1.Idx) (l u : ℕ) (ha : a i = BitVec.ofNat 32 l) (hb : b i = BitVec.ofNat 32 u)
    (hl : l ≤ 100000) (hu : u ≤ 100000) : k0_pay1 a b i = BitVec.ofNat 32 ((l + u) / 2) := by
  rw [mid_at, ha, hb, addi_ofNat, half_ofNat _ (by omega)]

/-- The halving's test asks whether the ties from the middle on fit in the room left. -/
theorem test_row {p : Fin 100000 → EReal} {t : EReal} {m : ℕ} (room : IVec S8x1 32) (tie : IVec S8x100000 1)
    (hroom : room (ix2 r 0) = BitVec.ofNat 32 m) (hm : m < 2 ^ 31) (htie : ∀ j, tie (ix2 r j) = 1#1 ↔ p j = t)
    (a b : IVec S8x1 32) (l u : ℕ) (ha : a (ix2 r 0) = BitVec.ofNat 32 l) (hb : b (ix2 r 0) = BitVec.ofNat 32 u)
    (hl : l ≤ 100000) (hu : u ≤ 100000) :
    k0_pay2 cols room tie a b (ix2 r 0) = BitVec.ofBool (decide (ties p t ((l + u) / 2) ≤ m)) := by
  have hc : ties p t ((l + u) / 2) ≤ 100000 := by
    unfold ties
    exact (Finset.card_le_univ _).trans (by rw [Fintype.card_fin])
  unfold k0_pay2
  rw [cmpi_at, col_cast, count_wide, hroom]
  refine Eq.trans (congrArg (fun x => IntOp.cmpi .sle (BitVec.ofNat 32 x) (BitVec.ofNat 32 m)) ?_)
    (cmpi_sle_ofNat (by omega) (by omega))
  unfold ties
  refine congrArg Finset.card ?_
  ext j
  simp only [Finset.mem_filter, Finset.mem_univ, true_and]
  rw [andi_at, cmpi_at, spread_wide, mid_row a b _ l u ha hb hl hu, cols_at,
    cmpi_sge_ofNat (by have := j.2; omega) (by omega), ← htie j]
  have : ∀ (x : BitVec 1) (b : Bool), IntOp.andi x (BitVec.ofBool b) = 1#1 ↔ x = 1#1 ∧ b = true := by decide
  rw [this, decide_eq_true_eq]

/-- Seventeen halvings find the least position from which the ties fit. -/
theorem search_row {p : Fin 100000 → EReal} {t : EReal} {A B : ℕ} (hAB : A ≤ B) (hB : B < 2 ^ 31) (room : IVec S8x1 32)
    (tie : IVec S8x100000 1) (hroom : room (ix2 r 0) = BitVec.ofNat 32 (B - A)) (htie : ∀ j, tie (ix2 r j) = 1#1 ↔ p j = t)
    (n : ℕ) (hn : n = 17) :
    ∃ cut : ℕ, (Scf.fold (n := n) (fun _ a => outStep room tie a) (k0_pay26, k0_pay27)).2 (ix2 r 0) = BitVec.ofNat 32 cut
      ∧ cut ≤ 100000 ∧ ∀ c ≤ 100000, cut ≤ c ↔ ties p t c + A ≤ B := by
  subst hn
  let P : ℕ → Prop := fun c => ties p t c + A ≤ B
  have mono : ∀ a b, a ≤ b → P a → P b := fun a b hab hP => le_trans (Nat.add_le_add_right (ties_anti t hab) A) hP
  have hN : P 100000 := by show ties p t 100000 + A ≤ B; rw [ties_end]; omega
  have step : ∀ (a : IVec S8x1 32 × IVec S8x1 32) (lu : ℕ × ℕ), Bracket P 100000 lu → a.1 (ix2 r 0) = BitVec.ofNat 32 lu.1 →
      a.2 (ix2 r 0) = BitVec.ofNat 32 lu.2 → (outStep room tie a).1 (ix2 r 0) = BitVec.ofNat 32 (halve P lu).1
        ∧ (outStep room tie a).2 (ix2 r 0) = BitVec.ofNat 32 (halve P lu).2 := by
    intro a lu hb h1 h2
    have hle := hb.le
    have htop := hb.top
    have ht := test_row (p := p) (t := t) room tie hroom (by omega) htie a.1 a.2 lu.1 lu.2 h1 h2 (by omega) htop
    have hmid := mid_row a.1 a.2 (ix2 r 0) lu.1 lu.2 h1 h2 (by omega) htop
    unfold outStep k0_pay3 k0_pay4 halve
    dsimp only
    rw [select_at, select_at, addi_at, ht, hmid, h1, h2, broadcast_apply]
    by_cases hP : P ((lu.1 + lu.2) / 2)
    · rw [if_pos hP, decide_eq_true (show ties p t ((lu.1 + lu.2) / 2) ≤ B - A from by have : _ + A ≤ B := hP; omega)]
      exact ⟨rfl, rfl⟩
    · rw [if_neg hP, decide_eq_false (fun hc : ties p t ((lu.1 + lu.2) / 2) ≤ B - A => hP (show _ + A ≤ B by omega))]
      exact ⟨addi_ofNat _ 1, rfl⟩
  have iter : ∀ (L : List (Fin 17)) (a : IVec S8x1 32 × IVec S8x1 32) (lu : ℕ × ℕ), Bracket P 100000 lu →
      a.1 (ix2 r 0) = BitVec.ofNat 32 lu.1 → a.2 (ix2 r 0) = BitVec.ofNat 32 lu.2 →
      (L.foldl (fun acc _ => outStep room tie acc) a).2 (ix2 r 0) = BitVec.ofNat 32 ((halve P)^[L.length] lu).2 := by
    intro L
    induction L with
    | nil => intro a lu _ _ h2; exact h2
    | cons k L ih =>
      intro a lu hb h1 h2
      rw [List.foldl_cons, List.length_cons, Function.iterate_succ_apply]
      exact ih _ _ (hb.halve mono) (step a lu hb h1 h2).1 (step a lu hb h1 h2).2
  obtain ⟨hle, hc⟩ := halve_finds (N := 100000) mono hN 17 (by decide)
  refine ⟨((halve P)^[17] (0, 100000)).2, ?_, hle, fun c _ => hc c⟩
  rw [Scf.fold_eq]
  refine (iter (List.finRange 17) (k0_pay26, k0_pay27) (0, 100000) ⟨Nat.zero_le _, le_rfl, hN, fun c hc => absurd hc (Nat.not_lt_zero c)⟩
    rfl rfl).trans ?_
  rw [List.length_finRange]

/-! ## The two blocks along a row -/

theorem subi_nat (a b : ℕ) (h : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

theorem above_le (h : RowOk x0 x1 r M π ord) (s : Fin 100000) :
    above (soft (rowOf x0 r)) (soft (rowOf x0 r) (ord s)) ≤ s.val := by
  have := h.ranked.rank (ord s)
  rw [Equiv.symm_apply_apply] at this
  omega

theorem trips1 : k0_t1_loop.trips = 17 := by decide
theorem trips2 : k0_t2_loop.trips = 17 := by decide

/-- The row's token id is the token at the rank drawn. -/
theorem ids_row (h : RowOk x0 x1 r M π ord) (s : Fin 1024) (hs : drawn x0 x1 x2 x3 x4 x5 x6 (ix1 r) = BitVec.ofNat 32 s.val) :
    idsBlock x0 x1 x2 x3 x4 x5 x6 (ix2 r 0) = BitVec.ofNat 32 (ord (s.castLE lanes_le)).val := by
  have hw : shapeCast S8x1 (drawn x0 x1 x2 x3 x4 x5 x6) shapeCasts_S8_S8x1 (ix2 r 0) = BitVec.ofNat 32 s.val := by
    rw [col_cast, hs]
  have hv := valueAt_row h _ s hw
  have hab := above_le h (s.castLE lanes_le)
  have hab' : above (soft (rowOf x0 r)) (soft (rowOf x0 r) (ord (s.castLE lanes_le))) ≤ s.val := hab
  have hsl := s.2
  have hroom : subi (shapeCast S8x1 (drawn x0 x1 x2 x3 x4 x5 x6) shapeCasts_S8_S8x1) (countAbove (k0_pay10 x0 x1)
      (valueAt (k0_pay10 x0 x1) (shapeCast S8x1 (drawn x0 x1 x2 x3 x4 x5 x6) shapeCasts_S8_S8x1))) (ix2 r 0)
      = BitVec.ofNat 32 (s.val - above (soft (rowOf x0 r)) (soft (rowOf x0 r) (ord (s.castLE lanes_le)))) := by
    rw [subi_at, hw, countAbove_row h _ s hv, subi_nat _ _ hab' (by omega)]
  obtain ⟨cut, hcut, hle, hfind⟩ := search_row (p := soft (rowOf x0 r)) hab' (by omega) _ _ hroom
    (holds_row h _ s hv) k0_t1_loop.trips trips1
  have he := h.ranked.cut_eq (s.castLE lanes_le) cut hfind
  unfold idsBlock k0_pay22
  rw [subi_at]
  refine (congrArg (fun x => IntOp.subi x 1#32) (hcut : _)).trans ?_
  rw [he, subi_nat _ 1 (by omega) (by have := (ord (s.castLE lanes_le)).2; omega)]
  rfl

/-- The row's filtered probabilities, token by token. -/
theorem out_row (h : RowOk x0 x1 r M π ord) (h4 : x4 (ix2 r 0) = BitVec.ofNat 32 tk) (htk : tk ≤ 1024)
    (g : Good (sortedRow x0 ord r) (x2 (ix2 r 0)) (x3 (ix2 r 0)) tk) (j : Fin 100000) :
    outBlock x0 x1 x2 x3 x4 (ix2 r j)
      = filtered (sortedRow x0 ord r) wide_pos (x2 (ix2 r 0)) (x3 (ix2 r 0)) tk (ord.symm j) := by
  classical
  have hn := kept_row (x2 := x2) (x3 := x3) h h4 htk
  have hkeep := g.keep_iff (h0 := wide_pos) lanes_le htk
  have h0 : Keep (sortedRow x0 ord r) wide_pos (x2 (ix2 r 0)) (x3 (ix2 r 0)) tk ⟨0, wide_pos⟩ := g.keep_zero
  have hpos := (hkeep ⟨0, wide_pos⟩).1 h0
  have hcard : (Finset.univ.filter fun i : Fin 1024 =>
      Keep (sortedRow x0 ord r) wide_pos (x2 (ix2 r 0)) (x3 (ix2 r 0)) tk (i.castLE lanes_le)).card ≤ 1024 :=
    (Finset.card_le_univ _).trans (by rw [Fintype.card_fin])
  generalize hcn : (Finset.univ.filter fun i : Fin 1024 =>
      Keep (sortedRow x0 ord r) wide_pos (x2 (ix2 r 0)) (x3 (ix2 r 0)) tk (i.castLE lanes_le)).card = n at hn hkeep hpos hcard
  let s : Fin 1024 := ⟨n - 1, by omega⟩
  have hw : subi (keptCount x0 x1 x2 x3 x4) (broadcast S8x1 1#32) (ix2 r 0) = BitVec.ofNat 32 s.val := by
    rw [subi_at, hn, broadcast_apply]; exact subi_nat n 1 (by omega) (by omega)
  have hv := valueAt_row h _ s hw
  have hab' : above (soft (rowOf x0 r)) (soft (rowOf x0 r) (ord (s.castLE lanes_le))) ≤ s.val := above_le h (s.castLE lanes_le)
  have hsv : s.val = n - 1 := rfl
  have hroom : subi (keptCount x0 x1 x2 x3 x4) (countAbove (k0_pay10 x0 x1)
      (valueAt (k0_pay10 x0 x1) (subi (keptCount x0 x1 x2 x3 x4) (broadcast S8x1 1#32)))) (ix2 r 0)
      = BitVec.ofNat 32 (n - above (soft (rowOf x0 r)) (soft (rowOf x0 r) (ord (s.castLE lanes_le)))) := by
    rw [subi_at, hn, countAbove_row h _ s hv, subi_nat _ _ (by omega) (by omega)]
  obtain ⟨cut, hcut, hle, hfind⟩ := search_row (p := soft (rowOf x0 r)) (by omega) (by omega) _ _ hroom
    (holds_row h _ s hv) k0_t2_loop.trips trips2
  have hlt := h.ranked.lt_cut (s.castLE lanes_le) cut (fun c hc => by
    rw [hfind c hc, show (s.castLE lanes_le).val = n - 1 from rfl]; constructor <;> intro _ <;> omega) j
  have hq : sortedRow x0 ord r (ord.symm j) = soft (rowOf x0 r) j := by
    show soft (rowOf x0 r) (ord (ord.symm j)) = _
    rw [Equiv.apply_symm_apply]
  unfold outBlock
  rw [pay23_eq, pay24_eq, pay25_eq]
  unfold k0_pay5
  rw [select_at, ori_at, cmpf_ogt_at, andi_at, cmpf_oeq_at, cmpi_at, spread_wide, spread_wide, hv, pay9_row h, cols_at, broadcast_apply]
  refine (congrArg (fun x => Scalar.select (IntOp.ori _ (IntOp.andi _ (IntOp.cmpi .sge (BitVec.ofNat 32 j.val) x))) _ _) (hcut : _)).trans ?_
  rw [cmpi_sge_ofNat (by have := j.2; omega) (by omega), andi_ofBool, ori_ofBool]
  unfold filtered
  by_cases hk : Keep (sortedRow x0 ord r) wide_pos (x2 (ix2 r 0)) (x3 (ix2 r 0)) tk (ord.symm j)
  · rw [if_pos hk, hq]
    have h1 := hlt.1 (by have := (hkeep _).1 hk; show _ ≤ n - 1; omega)
    have : (decide (sortedRow x0 ord r (s.castLE lanes_le) < soft (rowOf x0 r) j) ||
        (decide (soft (rowOf x0 r) j = sortedRow x0 ord r (s.castLE lanes_le)) && decide (cut ≤ j.val))) = true := by
      simpa using h1
    rw [this]; rfl
  · rw [if_neg hk]
    have h1 : ¬ _ := fun hc => hk ((hkeep _).2 (by have : _ ≤ n - 1 := hlt.2 hc; omega))
    have : (decide (sortedRow x0 ord r (s.castLE lanes_le) < soft (rowOf x0 r) j) ||
        (decide (soft (rowOf x0 r) j = sortedRow x0 ord r (s.castLE lanes_le)) && decide (cut ≤ j.val))) = false := by
      rw [Bool.eq_false_iff]
      intro hc
      exact h1 (by simpa using hc)
    rw [this]; exact bits_zero

end Cert.KernelIdeal.Gen

end
-- ==== Proof.Sorted.lean ====
/- Sorts along the rows of a matrix, and the two orders of a row: its entries from the greatest down, and its ranks. -/
module

public import proofs.«01_k».proof.Proof.Ranks
public import Idealize.ShloMosaic.Lib.ValueIdx
public import Idealize.ShloMosaic.Lib.Pipeline.Value
public import Idealize.ShloMosaic.PureOps.Ideal.Laws

@[expose] public section

noncomputable section

namespace Cert.Sorted

open Idealize.ShloMosaic Idealize.ShloMosaic.ValueIdx
open Cert.Ranks

/-! ## The two orders -/

section
variable {α : Type} [LinearOrder α] {n : ℕ}

/-- The positions by value from the greatest down, equal ones in place order. -/
def descending (x : Fin n → α) : Equiv.Perm (Fin n) := sortPerm (byKey (OrderDual.toDual ∘ x))

theorem descending_anti (x : Fin n → α) : Antitone (x ∘ descending x) := by
  intro i j hij
  rcases hij.lt_or_eq with h | rfl
  · rcases sortedFrom_before (OrderDual.toDual ∘ x) i j h with h1 | ⟨h1, _⟩
    · exact (OrderDual.toDual_lt_toDual.1 h1).le
    · exact (OrderDual.toDual_inj.1 h1).ge
  · exact le_rfl

/-- The positions by value from the greatest down, equal ones from the last down: the ascending order read backwards. -/
def ranks (p : Fin n → α) : Equiv.Perm (Fin n) := Fin.revPerm.trans (sortPerm (byKey p))

theorem ranks_apply (p : Fin n → α) (k : Fin n) : ranks p k = sortedFrom (byKey p) k.rev := rfl

theorem ranks_ranked (p : Fin n → α) : Ranked p (ranks p) := by
  intro i j hij
  rcases sortedFrom_before p j.rev i.rev (Fin.rev_lt_rev.2 hij) with h1 | ⟨h1, h2⟩
  · exact .inl h1
  · exact .inr ⟨h1, h2⟩
end

/-! ## Sorting along the rows -/

section
variable {R N : ℕ} {α β : Type}

theorem along_row (r : Fin R) (k k' : Fin N) : Shape.Idx.along (s := ⟨2, ![R, N]⟩) (ix2 r k) (1 : Fin 2) k' = ix2 r k' :=
  funext fun a => match a with
    | ⟨0, _⟩ => rfl
    | ⟨1, _⟩ => rfl

/-- The source of rank `k` in a row's sort. -/
abbrev rowSource (cmp : α × β → α × β → BitVec 1) (x : (⟨2, ![R, N]⟩ : Shape).Idx → α) (y : (⟨2, ![R, N]⟩ : Shape).Idx → β)
    (r : Fin R) (k : Fin N) : Fin N :=
  sortedFrom (fun k k' => cmp (x (ix2 r k), y (ix2 r k)) (x (ix2 r k'), y (ix2 r k')) == 1#1) k

theorem sort2_fst (cmp : α × β → α × β → BitVec 1) (x : (⟨2, ![R, N]⟩ : Shape).Idx → α) (y : (⟨2, ![R, N]⟩ : Shape).Idx → β)
    (r : Fin R) (k : Fin N) : (Host.sort2 ⟨2, ![R, N]⟩ 1 cmp x y).1 (ix2 r k) = x (ix2 r (rowSource cmp x y r k)) := by
  unfold Host.sort2
  rw [dif_pos (show 1 < (⟨2, ![R, N]⟩ : Shape).rank from Nat.lt_succ_self 1)]
  refine congrArg x ((along_row r k _).trans (congrArg (ix2 r) ?_))
  refine congrArg (fun f => sortedFrom f k) (funext fun a => funext fun b => ?_)
  exact congrArg₂ (fun i j => cmp (x i, y i) (x j, y j) == 1#1) (along_row r k a) (along_row r k b)

theorem sort2_snd (cmp : α × β → α × β → BitVec 1) (x : (⟨2, ![R, N]⟩ : Shape).Idx → α) (y : (⟨2, ![R, N]⟩ : Shape).Idx → β)
    (r : Fin R) (k : Fin N) : (Host.sort2 ⟨2, ![R, N]⟩ 1 cmp x y).2 (ix2 r k) = y (ix2 r (rowSource cmp x y r k)) := by
  unfold Host.sort2
  rw [dif_pos (show 1 < (⟨2, ![R, N]⟩ : Shape).rank from Nat.lt_succ_self 1)]
  refine congrArg y ((along_row r k _).trans (congrArg (ix2 r) ?_))
  refine congrArg (fun f => sortedFrom f k) (funext fun a => funext fun b => ?_)
  exact congrArg₂ (fun i j => cmp (x i, y i) (x j, y j) == 1#1) (along_row r k a) (along_row r k b)
end

/-- The greatest entries of a row, from the greatest down. -/
theorem topK_row {R N K : ℕ} (hK : K ≤ N) (x : FVec Ideal ⟨2, ![R, N]⟩ .f32)
    (h : (⟨2, ![R, N]⟩ : Shape).Slices (fun _ => 0) ⟨2, ![R, K]⟩) (r : Fin R) (k : Fin K) :
    (Host.topK ⟨2, ![R, K]⟩ 1 (FloatOps.cmpfTotal (F := Ideal) (φ := .f32) .gt) x h).1 (ix2 r k)
      = x (ix2 r (descending (fun j => x (ix2 r j)) (k.castLE hK))) := by
  unfold Host.topK
  let idx : IVec ⟨2, ![R, N]⟩ 32 := fun i => if hd : 1 < (⟨2, ![R, N]⟩ : Shape).rank then iotaInDim ⟨2, ![R, N]⟩ 32 ⟨1, hd⟩ i else 0#32
  refine (extractStridedSlice_apply (fun _ => 0)
    (Host.sort2 ⟨2, ![R, N]⟩ 1 (fun l r => FloatOps.cmpfTotal (F := Ideal) (φ := .f32) .gt l.1 r.1) x idx).1 h (ix2 r k) (ix2 r (k.castLE hK)) fun a => match a with
    | ⟨0, _⟩ => (Nat.zero_add _).symm
    | ⟨1, _⟩ => (Nat.zero_add _).symm).trans ?_
  refine (sort2_fst _ x idx r (k.castLE hK)).trans (congrArg (fun c => x (ix2 r c)) ?_)
  refine congrArg (fun f => sortedFrom f (k.castLE hK)) (funext fun a => funext fun b => ?_)
  show (BitVec.ofBool (decide (x (ix2 r b) < x (ix2 r a))) == 1#1) = decide (x (ix2 r b) < x (ix2 r a))
  cases decide (x (ix2 r b) < x (ix2 r a)) <;> rfl

end Cert.Sorted

end
-- ==== Proof.KernelArrays.lean ====
/- What the kernel's two result arrays hold, row by row. -/
module

public import proofs.«01_k».proof.Proof.KernelSearch
public import proofs.«01_k».proof.Proof.Sorted

@[expose] public section

set_option maxRecDepth 16384

noncomputable section

namespace Cert.KernelIdeal.Gen

open Idealize.ShloMosaic Idealize.ShloMosaic.TcCoe Idealize.ShloMosaic.ValueIdx Idealize.ShloMosaic.WordCmp Idealize.SL.Sem
open Cert.Ranks Cert.Row Cert.Words Cert.Sorted

variable (m : (ℓ : Loc nD τ sig) → Buf (Elt Ideal) ℓ) (c : Dev nD)

/-! ## The arrays the region finds -/

/-- The launch's arrays, at their own shapes. -/
abbrev arg0 : FVec Ideal S128x100000 .f32 := m ((c : Thread nD τ).loc main_arg0)
abbrev arg1 : FVec Ideal S128 .f32 := m ((c : Thread nD τ).loc main_arg1)
abbrev arg2 : FVec Ideal S128 .f32 := m ((c : Thread nD τ).loc main_arg2)
abbrev arg3 : IVec S128 32 := m ((c : Thread nD τ).loc main_arg3)
abbrev arg4 : IVec S128 32 := m ((c : Thread nD τ).loc main_arg4)
abbrev arg5 : IVec S128 32 := m ((c : Thread nD τ).loc main_arg5)

theorem entry_values : V m c main_call0_values
    = (Host.topK S128x1024 1 (FloatOps.cmpfTotal (F := Ideal) (φ := .f32) .gt) (arg0 m c) sliceFits_S128x100000_S128x1024).1 := by
  show StableHlo.after hostOps0 (fun b => m (c, b)) (Proc.devRef .tc main_call0_values) = _
  after_results; rfl

theorem entry_v0 : V m c main_call0_v0 = shapeCast S128x1 (arg1 m c) shapeCasts_S128_S128x1 := by
  show StableHlo.after hostOps0 (fun b => m (c, b)) (Proc.devRef .tc main_call0_v0) = _
  after_results; rfl

theorem entry_v1 : V m c main_call0_v1 = shapeCast S128x1 (arg2 m c) shapeCasts_S128_S128x1 := by
  show StableHlo.after hostOps0 (fun b => m (c, b)) (Proc.devRef .tc main_call0_v1) = _
  after_results; rfl

theorem entry_v2 : V m c main_call0_v2 = shapeCast S128x1 (arg3 m c) shapeCasts_S128_S128x1 := by
  show StableHlo.after hostOps0 (fun b => m (c, b)) (Proc.devRef .tc main_call0_v2) = _
  after_results; rfl

theorem entry_v3 : V m c main_call0_v3 = shapeCast S128x1 (arg4 m c) shapeCasts_S128_S128x1 := by
  show StableHlo.after hostOps0 (fun b => m (c, b)) (Proc.devRef .tc main_call0_v3) = _
  after_results; rfl

theorem entry_v4 : V m c main_call0_v4 = shapeCast S128x1 (arg5 m c) shapeCasts_S128_S128x1 := by
  show StableHlo.after hostOps0 (fun b => m (c, b)) (Proc.devRef .tc main_call0_v4) = _
  after_results; rfl

theorem tall_cast {α : Type} (x : S128.Idx → α) (R : Fin 128) : shapeCast S128x1 x shapeCasts_S128_S128x1 (ix2 R 0) = x (ix1 R) :=
  shapeCast_apply x shapeCasts_S128_S128x1 (ix2 R 0) (ix1 R) (by
    rw [Shape.rowMajor_val_one, Shape.rowMajor_val_two]; exact (Nat.mul_one _).symm)

/-! ## Where a block lies -/

/-- Row `r` of block `t` is row `8 t + r` of the array. -/
def rowIx (t : Fin cfg0.N) (r : Fin 8) : Fin 128 := ⟨t.val * 8 + r.val, by have := t.2; have : cfg0.N = 16 := rfl; have := r.2; omega⟩

theorem starts : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem always7 : ∀ t : Fin cfg0.N, (cfg0.win 7).flush t = true := (by decide +kernel : ∀ t : Fin grid0.N, win0_7.flush t = true)
theorem always8 : ∀ t : Fin cfg0.N, (cfg0.win 8).flush t = true := (by decide +kernel : ∀ t : Fin grid0.N, win0_8.flush t = true)

section
variable (t : Fin cfg0.N) (r : Fin 8)

theorem place0 (j : Fin 100000) : ((cfg0.win 0).blk t).view.emb (ix2 r j) = ix2 (rowIx t r) j := by
  obtain ⟨⟨e0, e1⟩, _⟩ := starts t
  funext a; apply Fin.ext
  match a with
  | ⟨0, _⟩ => show win0_0.index t (0 : Fin 2) * 8 + 1 * r.val = t.val * 8 + r.val; omega
  | ⟨1, _⟩ => show win0_0.index t (1 : Fin 2) * 100000 + 1 * j.val = j.val; omega

theorem place1 (k : Fin 1024) : ((cfg0.win 1).blk t).view.emb (ix2 r k) = ix2 (rowIx t r) k := by
  obtain ⟨_, ⟨e0, e1⟩, _⟩ := starts t
  funext a; apply Fin.ext
  match a with
  | ⟨0, _⟩ => show win0_1.index t (0 : Fin 2) * 8 + 1 * r.val = t.val * 8 + r.val; omega
  | ⟨1, _⟩ => show win0_1.index t (1 : Fin 2) * 1024 + 1 * k.val = k.val; omega

theorem place2 : ((cfg0.win 2).blk t).view.emb (ix2 r (0 : Fin 1)) = ix2 (rowIx t r) (0 : Fin 1) := by
  obtain ⟨_, _, ⟨e0, e1⟩, _⟩ := starts t
  funext a; apply Fin.ext
  match a with
  | ⟨0, _⟩ => show win0_2.index t (0 : Fin 2) * 8 + 1 * r.val = t.val * 8 + r.val; omega
  | ⟨1, _⟩ => show win0_2.index t (1 : Fin 2) * 1 + 1 * 0 = 0; omega

theorem place3 : ((cfg0.win 3).blk t).view.emb (ix2 r (0 : Fin 1)) = ix2 (rowIx t r) (0 : Fin 1) := by
  obtain ⟨_, _, _, ⟨e0, e1⟩, _⟩ := starts t
  funext a; apply Fin.ext
  match a with
  | ⟨0, _⟩ => show win0_3.index t (0 : Fin 2) * 8 + 1 * r.val = t.val * 8 + r.val; omega
  | ⟨1, _⟩ => show win0_3.index t (1 : Fin 2) * 1 + 1 * 0 = 0; omega

theorem place4 : ((cfg0.win 4).blk t).view.emb (ix2 r (0 : Fin 1)) = ix2 (rowIx t r) (0 : Fin 1) := by
  obtain ⟨_, _, _, _, ⟨e0, e1⟩, _⟩ := starts t
  funext a; apply Fin.ext
  match a with
  | ⟨0, _⟩ => show win0_4.index t (0 : Fin 2) * 8 + 1 * r.val = t.val * 8 + r.val; omega
  | ⟨1, _⟩ => show win0_4.index t (1 : Fin 2) * 1 + 1 * 0 = 0; omega

theorem place5 : ((cfg0.win 5).blk t).view.emb (ix2 r (0 : Fin 1)) = ix2 (rowIx t r) (0 : Fin 1) := by
  obtain ⟨_, _, _, _, _, ⟨e0, e1⟩, _⟩ := starts t
  funext a; apply Fin.ext
  match a with
  | ⟨0, _⟩ => show win0_5.index t (0 : Fin 2) * 8 + 1 * r.val = t.val * 8 + r.val; omega
  | ⟨1, _⟩ => show win0_5.index t (1 : Fin 2) * 1 + 1 * 0 = 0; omega

theorem place6 : ((cfg0.win 6).blk t).view.emb (ix2 r (0 : Fin 1)) = ix2 (rowIx t r) (0 : Fin 1) := by
  obtain ⟨_, _, _, _, _, _, ⟨e0, e1⟩, _⟩ := starts t
  funext a; apply Fin.ext
  match a with
  | ⟨0, _⟩ => show win0_6.index t (0 : Fin 2) * 8 + 1 * r.val = t.val * 8 + r.val; omega
  | ⟨1, _⟩ => show win0_6.index t (1 : Fin 2) * 1 + 1 * 0 = 0; omega

theorem place7 : ((cfg0.win 7).blk t).view.emb (ix2 r (0 : Fin 1)) = ix2 (rowIx t r) (0 : Fin 1) := by
  obtain ⟨_, _, _, _, _, _, _, ⟨e0, e1⟩, _⟩ := starts t
  funext a; apply Fin.ext
  match a with
  | ⟨0, _⟩ => show win0_7.index t (0 : Fin 2) * 8 + 1 * r.val = t.val * 8 + r.val; omega
  | ⟨1, _⟩ => show win0_7.index t (1 : Fin 2) * 1 + 1 * 0 = 0; omega

theorem place8 (j : Fin 100000) : ((cfg0.win 8).blk t).view.emb (ix2 r j) = ix2 (rowIx t r) j := by
  obtain ⟨_, _, _, _, _, _, _, _, e0, e1⟩ := starts t
  funext a; apply Fin.ext
  match a with
  | ⟨0, _⟩ => show win0_8.index t (0 : Fin 2) * 8 + 1 * r.val = t.val * 8 + r.val; omega
  | ⟨1, _⟩ => show win0_8.index t (1 : Fin 2) * 100000 + 1 * j.val = j.val; omega

/-! ## What each block reads -/

theorem block0 (j : Fin 100000) : (iblk m c 0 t : Vec Ideal S8x100000 .f32) (ix2 r j) = arg0 m c (ix2 (rowIx t r) j) := by
  show V m c main_arg0 (((cfg0.win 0).blk t).view.emb (ix2 r j)) = _
  rw [place0, V_main_arg0]

theorem block1 (k : Fin 1024) : (iblk m c 1 t : Vec Ideal S8x1024 .f32) (ix2 r k)
    = arg0 m c (ix2 (rowIx t r) (descending (fun j => arg0 m c (ix2 (rowIx t r) j)) (k.castLE lanes_le))) := by
  show V m c main_call0_values (((cfg0.win 1).blk t).view.emb (ix2 r k)) = _
  rw [place1, entry_values]
  exact topK_row lanes_le (arg0 m c) sliceFits_S128x100000_S128x1024 (rowIx t r) k

theorem block2 : (iblk m c 2 t : Vec Ideal S8x1 .f32) (ix2 r 0) = arg1 m c (ix1 (rowIx t r)) := by
  show V m c main_call0_v0 (((cfg0.win 2).blk t).view.emb (ix2 r (0 : Fin 1))) = _
  rw [place2, entry_v0, tall_cast]

theorem block3 : (iblk m c 3 t : Vec Ideal S8x1 .f32) (ix2 r 0) = arg2 m c (ix1 (rowIx t r)) := by
  show V m c main_call0_v1 (((cfg0.win 3).blk t).view.emb (ix2 r (0 : Fin 1))) = _
  rw [place3, entry_v1, tall_cast]

theorem block4 : (iblk m c 4 t : Vec Ideal S8x1 .i32) (ix2 r 0) = arg3 m c (ix1 (rowIx t r)) := by
  show V m c main_call0_v2 (((cfg0.win 4).blk t).view.emb (ix2 r (0 : Fin 1))) = _
  rw [place4, entry_v2, tall_cast]

theorem block5 : (iblk m c 5 t : Vec Ideal S8x1 .i32) (ix2 r 0) = arg4 m c (ix1 (rowIx t r)) := by
  show V m c main_call0_v3 (((cfg0.win 5).blk t).view.emb (ix2 r (0 : Fin 1))) = _
  rw [place5, entry_v3, tall_cast]

theorem block6 : (iblk m c 6 t : Vec Ideal S8x1 .i32) (ix2 r 0) = arg5 m c (ix1 (rowIx t r)) := by
  show V m c main_call0_v4 (((cfg0.win 6).blk t).view.emb (ix2 r (0 : Fin 1))) = _
  rw [place6, entry_v4, tall_cast]

/-! ## What each block writes -/

theorem final7 : ((dats m 0 c).arrAt 7 cfg0.N : S128x1.Idx → BitVec 32) (ix2 (rowIx t r) 0)
    = idsBlock (iblk m c 0 t) (iblk m c 1 t) (iblk m c 2 t) (iblk m c 3 t) (iblk m c 4 t) (iblk m c 5 t) (iblk m c 6 t) (ix2 r 0) := by
  have b := congrFun (Value.blocks7 m c t (always7 t)) (ix2 r (0 : Fin 1))
  rw [Value.flushed7_A, out0_A_7_eq] at b
  have b' : (dats m 0 c).arrAt 7 cfg0.N (((cfg0.win 7).blk t).view.emb (ix2 r (0 : Fin 1))) = _ := b
  rw [place7] at b'
  exact b'

theorem read8 (j : Fin 100000) (f : S128x100000.Idx → EReal) :
    (((cfg0.win 8).blk t).view.read (Elt Ideal) f : S8x100000.Idx → EReal) (ix2 r j) = f (ix2 (rowIx t r) j) := by
  show f (((cfg0.win 8).blk t).view.emb (ix2 r j)) = _
  rw [place8]

theorem cut8 (j : Fin 100000) (x : S8x100000.Idx → EReal) :
    ((cfg0.win 8).cut (α := EReal) (grid0.coords t) x : S8x100000.Idx → EReal) (ix2 r j) = x (ix2 r j) := rfl

theorem final8 (j : Fin 100000) : ((dats m 0 c).arrAt 8 cfg0.N : S128x100000.Idx → EReal) (ix2 (rowIx t r) j)
    = outBlock (iblk m c 0 t) (iblk m c 1 t) (iblk m c 2 t) (iblk m c 3 t) (iblk m c 4 t) (ix2 r j) := by
  have b := congrFun (Value.blocks8 m c t (always8 t)) (ix2 r j)
  rw [Value.flushed8_A, out0_A_8_eq] at b
  exact (read8 t r j _).symm.trans (b.trans (cut8 t r j _))

end

/-! ## The arrays -/

/-- Row `R` of the logits. -/
abbrev logits (R : Fin 128) (j : Fin 100000) : EReal := arg0 m c (ix2 R j)

/-- The tokens of row `R` from the most probable down, and their probabilities. -/
abbrev order (R : Fin 128) : Equiv.Perm (Fin 100000) := ranks (soft (logits m c R))
abbrev sortedProbs (R : Fin 128) (k : Fin 100000) : EReal := soft (logits m c R) (order m c R k)

theorem rowIx_of (R : Fin 128) : ∃ (t : Fin cfg0.N) (r : Fin 8), rowIx t r = R :=
  ⟨⟨R.val / 8, by have := R.2; have : cfg0.N = 16 := rfl; omega⟩, ⟨R.val % 8, Nat.mod_lt _ (by decide)⟩, Fin.ext (by
    show R.val / 8 * 8 + R.val % 8 = R.val; omega)⟩

theorem block_ok (t : Fin cfg0.N) (r : Fin 8) (M : ℝ) (hM : Row.top (logits m c (rowIx t r)) = (M : EReal)) :
    RowOk (iblk m c 0 t) (iblk m c 1 t) r M (descending (logits m c (rowIx t r))) (order m c (rowIx t r)) := by
  have hrow : rowOf (iblk m c 0 t) r = logits m c (rowIx t r) := funext fun j => block0 m c t r j
  refine ⟨fun k => ?_, ?_, ?_, ?_⟩
  · rw [hrow]; exact block1 m c t r k
  · rw [hrow]; exact descending_anti _
  · rw [hrow]; exact hM
  · rw [hrow]; exact ranks_ranked _

theorem block_sorted (t : Fin cfg0.N) (r : Fin 8) :
    sortedRow (iblk m c 0 t) (order m c (rowIx t r)) r = sortedProbs m c (rowIx t r) := by
  have hrow : rowOf (iblk m c 0 t) r = logits m c (rowIx t r) := funext fun j => block0 m c t r j
  funext k
  show soft (rowOf (iblk m c 0 t) r) _ = _
  rw [hrow]

/-- Row `R`'s token id is the token at the first rank, among the first 1024, of the greatest score. -/
theorem ids_array (R : Fin 128) (M : ℝ) (hM : Row.top (logits m c R) = (M : EReal)) (tk : ℕ)
    (h4 : arg3 m c (ix1 R) = BitVec.ofNat 32 tk) (htk : tk ≤ 1024) (s : Fin 1024)
    (hs : FirstMax (fun k : Fin 1024 => score (sortedProbs m c R) wide_pos (arg1 m c (ix1 R)) (arg2 m c (ix1 R)) tk eps
      (noise (arg4 m c (ix1 R)) (arg5 m c (ix1 R))) (k.castLE lanes_le)) s) :
    ((dats m 0 c).arrAt 7 cfg0.N : S128x1.Idx → BitVec 32) (ix2 R 0) = BitVec.ofNat 32 (order m c R (s.castLE lanes_le)).val := by
  obtain ⟨t, r, rfl⟩ := rowIx_of R
  have h := block_ok m c t r M hM
  rw [final7]
  refine ids_row h s (drawn_row h ((block4 m c t r).trans h4) htk s ?_)
  rw [block_sorted, block2, block3, block5, block6]
  exact hs

/-- Row `R`'s probabilities are the filtered ones, each at its token. -/
theorem out_array (R : Fin 128) (M : ℝ) (hM : Row.top (logits m c R) = (M : EReal)) (tk : ℕ)
    (h4 : arg3 m c (ix1 R) = BitVec.ofNat 32 tk) (htk : tk ≤ 1024)
    (g : Good (sortedProbs m c R) (arg1 m c (ix1 R)) (arg2 m c (ix1 R)) tk) (j : Fin 100000) :
    ((dats m 0 c).arrAt 8 cfg0.N : S128x100000.Idx → EReal) (ix2 R j)
      = filtered (sortedProbs m c R) wide_pos (arg1 m c (ix1 R)) (arg2 m c (ix1 R)) tk ((order m c R).symm j) := by
  obtain ⟨t, r, rfl⟩ := rowIx_of R
  have h := block_ok m c t r M hM
  rw [final8]
  refine (out_row h ((block4 m c t r).trans h4) htk (by rw [block_sorted, block2, block3]; exact g) j).trans ?_
  rw [block_sorted, block2, block3]

end Cert.KernelIdeal.Gen

end
-- ==== Proof.RefRead.lean ====
/- The reference program one operation at a time: `val_<buffer>` is the value an operation writes as a function of the
   arguments; `val_<buffer>_apply` reads it at an index from its operands; the result terms of the run equal these values. -/
module

public import proofs.«01_k».proof.Proof.RefRun
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %0 = stablehlo.reduce(%arg0 init: %cst) applies stablehlo.maximum across dimensions = [1] : (tensor<128x100000xf32>, tensor<f32>) -> tensor<128xf32> {
def val_main_v0 (x0 : (⟨S128x100000, .f32⟩ : BufTy).Contents (Elt F)) : (⟨S128, .f32⟩ : BufTy).Contents (Elt F) :=
  Host.reduce FloatOps.maximumf (x0) (val_main_cst (F := F)) reducesTo_S128x100000_S128_d1 h_S_

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %1 = stablehlo.broadcast_in_dim %cst_0, dims = [] : (tensor<f32>) -> tensor<128xf32>
def val_main_v1 : (⟨S128, .f32⟩ : BufTy).Contents (Elt F) :=
  broadcastInDim S128 ![] bcast_S_S128 (val_main_cst_0 (F := F))
abbrev idx_main_v1 (i : S128.Idx) : S_.Idx := fun a => a.elim0
theorem val_main_v1_apply (i : S128.Idx) :
    val_main_v1 (F := F) i = val_main_cst_0 (F := F) (idx_main_v1 i) := by
  unfold val_main_v1
  generalize val_main_cst_0 (F := F) = y
  exact broadcastInDim_apply _ bcast_S_S128 y i (idx_main_v1 i) (fun a => a.elim0)

-- %2 = stablehlo.maximum %1, %0 : tensor<128xf32>
def val_main_v2 (x0 : (⟨S128x100000, .f32⟩ : BufTy).Contents (Elt F)) : (⟨S128, .f32⟩ : BufTy).Contents (Elt F) :=
  maximumf (val_main_v1 (F := F)) (val_main_v0 (F := F) x0)
theorem val_main_v2_apply (x0 : (⟨S128x100000, .f32⟩ : BufTy).Contents (Elt F)) (i : S128.Idx) :
    val_main_v2 (F := F) x0 i = FloatOps.maximumf (val_main_v1 (F := F) i) (val_main_v0 (F := F) x0 i) := rfl

-- %3 = stablehlo.broadcast_in_dim %2, dims = [0] : (tensor<128xf32>) -> tensor<128x1xf32>
def val_main_v3 (x0 : (⟨S128x100000, .f32⟩ : BufTy).Contents (Elt F)) : (⟨S128x1, .f32⟩ : BufTy).Contents (Elt F) :=
  broadcastInDim S128x1 ![0] bcast_S128_S128x1_0 (val_main_v2 (F := F) x0)
abbrev idx_main_v3 (i : S128x1.Idx) : S128.Idx := fun a => match a with
  | ⟨0, _⟩ => ⟨(i 0).val, (i 0).isLt⟩
theorem val_main_v3_apply (x0 : (⟨S128x100000, .f32⟩ : BufTy).Contents (Elt F)) (i : S128x1.Idx) :
    val_main_v3 (F := F) x0 i = val_main_v2 (F := F) x0 (idx_main_v3 i) := by
  unfold val_main_v3
  generalize val_main_v2 (F := F) x0 = y
  exact broadcastInDim_apply _ bcast_S128_S128x1_0 y i (idx_main_v3 i) (fun a => match a with
    | ⟨0, _⟩ => by show (i 0).val = if (128 : Nat) = 1 then 0 else (i 0).val; rw [if_neg (by decide)])

-- %4 = stablehlo.broadcast_in_dim %3, dims = [0, 1] : (tensor<128x1xf32>) -> tensor<128x100000xf32>
def val_main_v4 (x0 : (⟨S128x100000, .f32⟩ : BufTy).Contents (Elt F)) : (⟨S128x100000, .f32⟩ : BufTy).Contents (Elt F) :=
  broadcastInDim S128x100000 ![0, 1] bcast_S128x1_S128x100000_0_1 (val_main_v3 (F := F) x0)
abbrev idx_main_v4 (i : S128x100000.Idx) : S128x1.Idx := fun a => match a with
  | ⟨0, _⟩ => ⟨(i 0).val, (i 0).isLt⟩
  | ⟨1, _⟩ => ⟨0, Nat.one_pos⟩
theorem val_main_v4_apply (x0 : (⟨S128x100000, .f32⟩ : BufTy).Contents (Elt F)) (i : S128x100000.Idx) :
    val_main_v4 (F := F) x0 i = val_main_v3 (F := F) x0 (idx_main_v4 i) := by
  unfold val_main_v4
  generalize val_main_v3 (F := F) x0 = y
  exact broadcastInDim_apply _ bcast_S128x1_S128x100000_0_1 y i (idx_main_v4 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %5 = stablehlo.subtract %arg0, %4 : tensor<128x100000xf32>
def val_main_v5 (x0 : (⟨S128x100000, .f32⟩ : BufTy).Contents (Elt F)) : (⟨S128x100000, .f32⟩ : BufTy).Contents (Elt F) :=
  subf (x0) (val_main_v4 (F := F) x0)
theorem val_main_v5_apply (x0 : (⟨S128x100000, .f32⟩ : BufTy).Contents (Elt F)) (i : S128x100000.Idx) :
    val_main_v5 (F := F) x0 i = FloatOps.subf (x0 i) (val_main_v4 (F := F) x0 i) := rfl

-- %6 = stablehlo.exponential %5 : tensor<128x100000xf32>
def val_main_v6 (x0 : (⟨S128x100000, .f32⟩ : BufTy).Contents (Elt F)) : (⟨S128x100000, .f32⟩ : BufTy).Contents (Elt F) :=
  Host.exp (val_main_v5 (F := F) x0)
theorem val_main_v6_apply (x0 : (⟨S128x100000, .f32⟩ : BufTy).Contents (Elt F)) (i : S128x100000.Idx) :
    val_main_v6 (F := F) x0 i = FloatOps.hostUnary .exp (val_main_v5 (F := F) x0 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %7 = stablehlo.reduce(%6 init: %cst_1) applies stablehlo.add across dimensions = [1] : (tensor<128x100000xf32>, tensor<f32>) -> tensor<128xf32> {
def val_main_v7 (x0 : (⟨S128x100000, .f32⟩ : BufTy).Contents (Elt F)) : (⟨S128, .f32⟩ : BufTy).Contents (Elt F) :=
  Host.reduceAdd (val_main_v6 (F := F) x0) (val_main_cst_1 (F := F)) reducesTo_S128x100000_S128_d1 h_S_
abbrev idx_main_v7 (i : S128.Idx) (k : Fin 100000) : S128x100000.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v7_apply (x0 : (⟨S128x100000, .f32⟩ : BufTy).Contents (Elt Ideal)) (i : S128.Idx) :
    val_main_v7 (F := Ideal) x0 i = (val_main_cst_1 (F := Ideal)) (Shape.Idx.first h_S_) + ∑ k : Fin 100000, (val_main_v6 (F := Ideal) x0) (idx_main_v7 i k) := by
  unfold val_main_v7
  generalize val_main_v6 (F := Ideal) x0 = y0
  simp only [Host.reduceAdd, Ideal.hostReduceAdd_def]
  rw [Ideal.hostReduceAdd_single reducesTo_S128x100000_S128_d1 (by decide)]
  refine congrArg (_ + ·) (Finset.sum_congr rfl fun k _ => ?_)
  exact congrArg y0 (funext fun a => Fin.ext (by match a with | ⟨0, _⟩ => rfl | ⟨1, _⟩ => rfl))

-- %8 = stablehlo.broadcast_in_dim %7, dims = [0] : (tensor<128xf32>) -> tensor<128x1xf32>
def val_main_v8 (x0 : (⟨S128x100000, .f32⟩ : BufTy).Contents (Elt F)) : (⟨S128x1, .f32⟩ : BufTy).Contents (Elt F) :=
  broadcastInDim S128x1 ![0] bcast_S128_S128x1_0 (val_main_v7 (F := F) x0)
abbrev idx_main_v8 (i : S128x1.Idx) : S128.Idx := fun a => match a with
  | ⟨0, _⟩ => ⟨(i 0).val, (i 0).isLt⟩
theorem val_main_v8_apply (x0 : (⟨S128x100000, .f32⟩ : BufTy).Contents (Elt F)) (i : S128x1.Idx) :
    val_main_v8 (F := F) x0 i = val_main_v7 (F := F) x0 (idx_main_v8 i) := by
  unfold val_main_v8
  generalize val_main_v7 (F := F) x0 = y
  exact broadcastInDim_apply _ bcast_S128_S128x1_0 y i (idx_main_v8 i) (fun a => match a with
    | ⟨0, _⟩ => by show (i 0).val = if (128 : Nat) = 1 then 0 else (i 0).val; rw [if_neg (by decide)])

-- %9 = stablehlo.broadcast_in_dim %8, dims = [0, 1] : (tensor<128x1xf32>) -> tensor<128x100000xf32>
def val_main_v9 (x0 : (⟨S128x100000, .f32⟩ : BufTy).Contents (Elt F)) : (⟨S128x100000, .f32⟩ : BufTy).Contents (Elt F) :=
  broadcastInDim S128x100000 ![0, 1] bcast_S128x1_S128x100000_0_1 (val_main_v8 (F := F) x0)
abbrev idx_main_v9 (i : S128x100000.Idx) : S128x1.Idx := fun a => match a with
  | ⟨0, _⟩ => ⟨(i 0).val, (i 0).isLt⟩
  | ⟨1, _⟩ => ⟨0, Nat.one_pos⟩
theorem val_main_v9_apply (x0 : (⟨S128x100000, .f32⟩ : BufTy).Contents (Elt F)) (i : S128x100000.Idx) :
    val_main_v9 (F := F) x0 i = val_main_v8 (F := F) x0 (idx_main_v9 i) := by
  unfold val_main_v9
  generalize val_main_v8 (F := F) x0 = y
  exact broadcastInDim_apply _ bcast_S128x1_S128x100000_0_1 y i (idx_main_v9 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %10 = stablehlo.divide %6, %9 : tensor<128x100000xf32>
def val_main_v10 (x0 : (⟨S128x100000, .f32⟩ : BufTy).Contents (Elt F)) : (⟨S128x100000, .f32⟩ : BufTy).Contents (Elt F) :=
  Host.divf (val_main_v6 (F := F) x0) (val_main_v9 (F := F) x0)
theorem val_main_v10_apply (x0 : (⟨S128x100000, .f32⟩ : BufTy).Contents (Elt F)) (i : S128x100000.Idx) :
    val_main_v10 (F := F) x0 i = FloatOps.hostDivf (val_main_v6 (F := F) x0 i) (val_main_v9 (F := F) x0 i) := rfl

-- @argsort's %0 = stablehlo.iota dim = 1 : tensor<128x100000xi32>, in %11 = func.call @argsort(…) (record main_call0)
def val_main_call0_v0 : (⟨S128x100000, .i32⟩ : BufTy).Contents (Elt F) :=
  iotaInDim S128x100000 32 1
theorem val_main_call0_v0_apply (i : S128x100000.Idx) :
    val_main_call0_v0 (F := F) i = BitVec.ofNat 32 (i 1).val := rfl

-- @argsort's %1:2 = "stablehlo.sort"(%arg0, %0) <{dimension = 1 : i64, is_stable = true}> ( {, in %11 = func.call @argsort(…) (record main_call0)
def val_main_call0_v1_0 (x0 : (⟨S128x100000, .f32⟩ : BufTy).Contents (Elt F)) : (⟨S128x100000, .f32⟩ : BufTy).Contents (Elt F) :=
  (Host.sort2 S128x100000 1 comparator_f32_i32_d1 (val_main_v10 (F := F) x0) (val_main_call0_v0 (F := F))).1

-- %11 = func.call @argsort(…) (record main_call0) result 0: @argsort's %1:2 = "stablehlo.sort"(%arg0, %0) <{dimension = 1 : i64, is_stable = true}> ( {
def val_main_v11 (x0 : (⟨S128x100000, .f32⟩ : BufTy).Contents (Elt F)) : (⟨S128x100000, .i32⟩ : BufTy).Contents (Elt F) :=
  (Host.sort2 S128x100000 1 comparator_f32_i32_d1 (val_main_v10 (F := F) x0) (val_main_call0_v0 (F := F))).2

-- %12 = stablehlo.reverse %11, dims = [1] : tensor<128x100000xi32>
def val_main_v12 (x0 : (⟨S128x100000, .f32⟩ : BufTy).Contents (Elt F)) : (⟨S128x100000, .i32⟩ : BufTy).Contents (Elt F) :=
  Host.reverse [1] (val_main_v11 (F := F) x0)

-- @take_along_axis's %c = stablehlo.constant dense<0> : tensor<i32>, in %13 = func.call @take_along_axis(…) (record main_call1)
def val_main_call1_c : (⟨S_, .i32⟩ : BufTy).Contents (Elt F) :=
  constantI S_ 32 0#32
theorem val_main_call1_c_apply (i : S_.Idx) :
    val_main_call1_c (F := F) i = 0#32 := rfl

-- @take_along_axis's %0 = stablehlo.broadcast_in_dim %c, dims = [] : (tensor<i32>) -> tensor<128x100000xi32>, in %13 = func.call @take_along_axis(…) (record main_call1)
def val_main_call1_v0 : (⟨S128x100000, .i32⟩ : BufTy).Contents (Elt F) :=
  broadcastInDim S128x100000 ![] bcast_S_S128x100000 (val_main_call1_c (F := F))
abbrev idx_main_call1_v0 (i : S128x100000.Idx) : S_.Idx := fun a => a.elim0
theorem val_main_call1_v0_apply (i : S128x100000.Idx) :
    val_main_call1_v0 (F := F) i = val_main_call1_c (F := F) (idx_main_call1_v0 i) := by
  unfold val_main_call1_v0
  generalize val_main_call1_c (F := F) = y
  exact broadcastInDim_apply _ bcast_S_S128x100000 y i (idx_main_call1_v0 i) (fun a => a.elim0)

-- @take_along_axis's %1 = stablehlo.compare LT, %arg1, %0, SIGNED : (tensor<128x100000xi32>, tensor<128x100000xi32>) -> tensor<128x100000xi1>, in %13 = func.call @take_along_axis(…) (record main_call1)
def val_main_call1_v1 (x0 : (⟨S128x100000, .f32⟩ : BufTy).Contents (Elt F)) : (⟨S128x100000, .i1⟩ : BufTy).Contents (Elt F) :=
  cmpi .slt (val_main_v12 (F := F) x0) (val_main_call1_v0 (F := F))
theorem val_main_call1_v1_apply (x0 : (⟨S128x100000, .f32⟩ : BufTy).Contents (Elt F)) (i : S128x100000.Idx) :
    val_main_call1_v1 (F := F) x0 i = IntOp.cmpi .slt (val_main_v12 (F := F) x0 i) (val_main_call1_v0 (F := F) i) := rfl

-- @take_along_axis's %c_0 = stablehlo.constant dense<100000> : tensor<i32>, in %13 = func.call @take_along_axis(…) (record main_call1)
def val_main_call1_c_0 : (⟨S_, .i32⟩ : BufTy).Contents (Elt F) :=
  constantI S_ 32 100000#32
theorem val_main_call1_c_0_apply (i : S_.Idx) :
    val_main_call1_c_0 (F := F) i = 100000#32 := rfl

-- @take_along_axis's %2 = stablehlo.broadcast_in_dim %c_0, dims = [] : (tensor<i32>) -> tensor<128x100000xi32>, in %13 = func.call @take_along_axis(…) (record main_call1)
def val_main_call1_v2 : (⟨S128x100000, .i32⟩ : BufTy).Contents (Elt F) :=
  broadcastInDim S128x100000 ![] bcast_S_S128x100000 (val_main_call1_c_0 (F := F))
abbrev idx_main_call1_v2 (i : S128x100000.Idx) : S_.Idx := fun a => a.elim0
theorem val_main_call1_v2_apply (i : S128x100000.Idx) :
    val_main_call1_v2 (F := F) i = val_main_call1_c_0 (F := F) (idx_main_call1_v2 i) := by
  unfold val_main_call1_v2
  generalize val_main_call1_c_0 (F := F) = y
  exact broadcastInDim_apply _ bcast_S_S128x100000 y i (idx_main_call1_v2 i) (fun a => a.elim0)

-- @take_along_axis's %3 = stablehlo.add %arg1, %2 : tensor<128x100000xi32>, in %13 = func.call @take_along_axis(…) (record main_call1)
def val_main_call1_v3 (x0 : (⟨S128x100000, .f32⟩ : BufTy).Contents (Elt F)) : (⟨S128x100000, .i32⟩ : BufTy).Contents (Elt F) :=
  addi (val_main_v12 (F := F) x0) (val_main_call1_v2 (F := F))
theorem val_main_call1_v3_apply (x0 : (⟨S128x100000, .f32⟩ : BufTy).Contents (Elt F)) (i : S128x100000.Idx) :
    val_main_call1_v3 (F := F) x0 i = IntOp.addi (val_main_v12 (F := F) x0 i) (val_main_call1_v2 (F := F) i) := rfl

-- @take_along_axis's %4 = stablehlo.select %1, %3, %arg1 : tensor<128x100000xi1>, tensor<128x100000xi32>, in %13 = func.call @take_along_axis(…) (record main_call1)
def val_main_call1_v4 (x0 : (⟨S128x100000, .f32⟩ : BufTy).Contents (Elt F)) : (⟨S128x100000, .i32⟩ : BufTy).Contents (Elt F) :=
  select (val_main_call1_v1 (F := F) x0) (val_main_call1_v3 (F := F) x0) (val_main_v12 (F := F) x0)
theorem val_main_call1_v4_apply (x0 : (⟨S128x100000, .f32⟩ : BufTy).Contents (Elt F)) (i : S128x100000.Idx) :
    val_main_call1_v4 (F := F) x0 i = Scalar.select (val_main_call1_v1 (F := F) x0 i) (val_main_call1_v3 (F := F) x0 i) (val_main_v12 (F := F) x0 i) := rfl

-- @take_along_axis's %5 = stablehlo.reshape %4 : (tensor<128x100000xi32>) -> tensor<128x100000x1xi32>, in %13 = func.call @take_along_axis(…) (record main_call1)
def val_main_call1_v5 (x0 : (⟨S128x100000, .f32⟩ : BufTy).Contents (Elt F)) : (⟨S128x100000x1, .i32⟩ : BufTy).Contents (Elt F) :=
  shapeCast _ (val_main_call1_v4 (F := F) x0) shapeCasts_S128x100000_S128x100000x1
abbrev idx_main_call1_v5 (i : S128x100000x1.Idx) : S128x100000.Idx := fun a => match a with
  | ⟨0, _⟩ => ⟨(((i 0).val * 100000 + (i 1).val) * 1 + (i 2).val) / 100000, by have h0 : (i 0).val < 128 := (i 0).isLt; have h1 : (i 1).val < 100000 := (i 1).isLt; have h2 : (i 2).val < 1 := (i 2).isLt; show (((i 0).val * 100000 + (i 1).val) * 1 + (i 2).val) / 100000 < 128; omega⟩
  | ⟨1, _⟩ => ⟨(((i 0).val * 100000 + (i 1).val) * 1 + (i 2).val) % 100000, by have h0 : (i 0).val < 128 := (i 0).isLt; have h1 : (i 1).val < 100000 := (i 1).isLt; have h2 : (i 2).val < 1 := (i 2).isLt; show (((i 0).val * 100000 + (i 1).val) * 1 + (i 2).val) % 100000 < 100000; omega⟩
theorem val_main_call1_v5_apply (x0 : (⟨S128x100000, .f32⟩ : BufTy).Contents (Elt F)) (i : S128x100000x1.Idx) :
    val_main_call1_v5 (F := F) x0 i = val_main_call1_v4 (F := F) x0 (idx_main_call1_v5 i) := by
  unfold val_main_call1_v5
  generalize val_main_call1_v4 (F := F) x0 = y
  exact shapeCast_apply y shapeCasts_S128x100000_S128x100000x1 i (idx_main_call1_v5 i)
    (by rewrite [Shape.rowMajor_val_two, Shape.rowMajor_val_three]; have h0 : (i 0).val < 128 := (i 0).isLt; have h1 : (i 1).val < 100000 := (i 1).isLt; have h2 : (i 2).val < 1 := (i 2).isLt; show (((i 0).val * 100000 + (i 1).val) * 1 + (i 2).val) / 100000 * 100000 + (((i 0).val * 100000 + (i 1).val) * 1 + (i 2).val) % 100000 = ((i 0).val * 100000 + (i 1).val) * 1 + (i 2).val; omega)

-- @take_along_axis's %c_1 = stablehlo.constant dense<99999> : tensor<1xi32>, in %13 = func.call @take_along_axis(…) (record main_call1)
def val_main_call1_c_1 : (⟨S1, .i32⟩ : BufTy).Contents (Elt F) :=
  constantI S1 32 99999#32
theorem val_main_call1_c_1_apply (i : S1.Idx) :
    val_main_call1_c_1 (F := F) i = 99999#32 := rfl

-- @take_along_axis's %c_2 = stablehlo.constant dense<0> : tensor<i32>, in %13 = func.call @take_along_axis(…) (record main_call1)
def val_main_call1_c_2 : (⟨S_, .i32⟩ : BufTy).Contents (Elt F) :=
  constantI S_ 32 0#32
theorem val_main_call1_c_2_apply (i : S_.Idx) :
    val_main_call1_c_2 (F := F) i = 0#32 := rfl

-- @take_along_axis's %6 = stablehlo.broadcast_in_dim %c_2, dims = [] : (tensor<i32>) -> tensor<128x100000x1xi32>, in %13 = func.call @take_along_axis(…) (record main_call1)
def val_main_call1_v6 : (⟨S128x100000x1, .i32⟩ : BufTy).Contents (Elt F) :=
  broadcastInDim S128x100000x1 ![] bcast_S_S128x100000x1 (val_main_call1_c_2 (F := F))
abbrev idx_main_call1_v6 (i : S128x100000x1.Idx) : S_.Idx := fun a => a.elim0
theorem val_main_call1_v6_apply (i : S128x100000x1.Idx) :
    val_main_call1_v6 (F := F) i = val_main_call1_c_2 (F := F) (idx_main_call1_v6 i) := by
  unfold val_main_call1_v6
  generalize val_main_call1_c_2 (F := F) = y
  exact broadcastInDim_apply _ bcast_S_S128x100000x1 y i (idx_main_call1_v6 i) (fun a => a.elim0)

-- @take_along_axis's %7 = stablehlo.compare GE, %5, %6, SIGNED : (tensor<128x100000x1xi32>, tensor<128x100000x1xi32>) -> tensor<128x100000x1xi1>, in %13 = func.call @take_along_axis(…) (record main_call1)
def val_main_call1_v7 (x0 : (⟨S128x100000, .f32⟩ : BufTy).Contents (Elt F)) : (⟨S128x100000x1, .i1⟩ : BufTy).Contents (Elt F) :=
  cmpi .sge (val_main_call1_v5 (F := F) x0) (val_main_call1_v6 (F := F))
theorem val_main_call1_v7_apply (x0 : (⟨S128x100000, .f32⟩ : BufTy).Contents (Elt F)) (i : S128x100000x1.Idx) :
    val_main_call1_v7 (F := F) x0 i = IntOp.cmpi .sge (val_main_call1_v5 (F := F) x0 i) (val_main_call1_v6 (F := F) i) := rfl

-- @take_along_axis's %8 = stablehlo.broadcast_in_dim %c_1, dims = [2] : (tensor<1xi32>) -> tensor<1x1x1xi32>, in %13 = func.call @take_along_axis(…) (record main_call1)
def val_main_call1_v8 : (⟨S1x1x1, .i32⟩ : BufTy).Contents (Elt F) :=
  broadcastInDim S1x1x1 ![2] bcast_S1_S1x1x1_2 (val_main_call1_c_1 (F := F))
abbrev idx_main_call1_v8 (i : S1x1x1.Idx) : S1.Idx := fun a => match a with
  | ⟨0, _⟩ => ⟨0, Nat.one_pos⟩
theorem val_main_call1_v8_apply (i : S1x1x1.Idx) :
    val_main_call1_v8 (F := F) i = val_main_call1_c_1 (F := F) (idx_main_call1_v8 i) := by
  unfold val_main_call1_v8
  generalize val_main_call1_c_1 (F := F) = y
  exact broadcastInDim_apply _ bcast_S1_S1x1x1_2 y i (idx_main_call1_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<128x100000x1xi32>, in %13 = func.call @take_along_axis(…) (record main_call1)
def val_main_call1_v9 : (⟨S128x100000x1, .i32⟩ : BufTy).Contents (Elt F) :=
  broadcastInDim S128x100000x1 ![0, 1, 2] bcast_S1x1x1_S128x100000x1_0_1_2 (val_main_call1_v8 (F := F))
abbrev idx_main_call1_v9 (i : S128x100000x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call1_v9_apply (i : S128x100000x1.Idx) :
    val_main_call1_v9 (F := F) i = val_main_call1_v8 (F := F) (idx_main_call1_v9 i) := by
  unfold val_main_call1_v9
  generalize val_main_call1_v8 (F := F) = y
  exact broadcastInDim_apply _ bcast_S1x1x1_S128x100000x1_0_1_2 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<128x100000x1xi32>, tensor<128x100000x1xi32>) -> tensor<128x100000x1xi1>, in %13 = func.call @take_along_axis(…) (record main_call1)
def val_main_call1_v10 (x0 : (⟨S128x100000, .f32⟩ : BufTy).Contents (Elt F)) : (⟨S128x100000x1, .i1⟩ : BufTy).Contents (Elt F) :=
  cmpi .sle (val_main_call1_v5 (F := F) x0) (val_main_call1_v9 (F := F))
theorem val_main_call1_v10_apply (x0 : (⟨S128x100000, .f32⟩ : BufTy).Contents (Elt F)) (i : S128x100000x1.Idx) :
    val_main_call1_v10 (F := F) x0 i = IntOp.cmpi .sle (val_main_call1_v5 (F := F) x0 i) (val_main_call1_v9 (F := F) i) := rfl

-- @take_along_axis's %11 = stablehlo.and %7, %10 : tensor<128x100000x1xi1>, in %13 = func.call @take_along_axis(…) (record main_call1)
def val_main_call1_v11 (x0 : (⟨S128x100000, .f32⟩ : BufTy).Contents (Elt F)) : (⟨S128x100000x1, .i1⟩ : BufTy).Contents (Elt F) :=
  andi (val_main_call1_v7 (F := F) x0) (val_main_call1_v10 (F := F) x0)
theorem val_main_call1_v11_apply (x0 : (⟨S128x100000, .f32⟩ : BufTy).Contents (Elt F)) (i : S128x100000x1.Idx) :
    val_main_call1_v11 (F := F) x0 i = IntOp.andi (val_main_call1_v7 (F := F) x0 i) (val_main_call1_v10 (F := F) x0 i) := rfl

-- @take_along_axis's %c_3 = stablehlo.constant dense<true> : tensor<i1>, in %13 = func.call @take_along_axis(…) (record main_call1)
def val_main_call1_c_3 : (⟨S_, .i1⟩ : BufTy).Contents (Elt F) :=
  constantI S_ 1 1#1
theorem val_main_call1_c_3_apply (i : S_.Idx) :
    val_main_call1_c_3 (F := F) i = 1#1 := rfl

-- @take_along_axis's %12 = stablehlo.reduce(%11 init: %c_3) applies stablehlo.and across dimensions = [2] : (tensor<128x100000x1xi1>, tensor<i1>) -> tensor<128x100000xi1> {, in %13 = func.call @take_along_axis(…) (record main_call1)
def val_main_call1_v12 (x0 : (⟨S128x100000, .f32⟩ : BufTy).Contents (Elt F)) : (⟨S128x100000, .i1⟩ : BufTy).Contents (Elt F) :=
  Host.reduce IntOp.andi (val_main_call1_v11 (F := F) x0) (val_main_call1_c_3 (F := F)) reducesTo_S128x100000x1_S128x100000_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<128x100000xf32>, tensor<128x100000x1xi32>) -> tensor<128x100000xf32>, in %13 = func.call @take_along_axis(…) (record main_call1)
def val_main_call1_v13 (x0 : (⟨S128x100000, .f32⟩ : BufTy).Contents (Elt F)) : (⟨S128x100000, .f32⟩ : BufTy).Contents (Elt F) :=
  Host.gather gather_S128x100000_S128x100000x1_S128x100000_n_1_0_0_1_2_11 (val_main_v10 (F := F) x0) (val_main_call1_v5 (F := F) x0)

-- @take_along_axis's %cst = stablehlo.constant dense<0x7FC00000> : tensor<f32>, in %13 = func.call @take_along_axis(…) (record main_call1)
def val_main_call1_cst : (⟨S_, .f32⟩ : BufTy).Contents (Elt F) :=
  constant S_ .f32 0x7FC00000#32
theorem val_main_call1_cst_apply (i : S_.Idx) :
    val_main_call1_cst (F := F) i = FloatOps.ofBits .f32 0x7FC00000#32 := rfl

-- @take_along_axis's %14 = stablehlo.broadcast_in_dim %cst, dims = [] : (tensor<f32>) -> tensor<128x100000xf32>, in %13 = func.call @take_along_axis(…) (record main_call1)
def val_main_call1_v14 : (⟨S128x100000, .f32⟩ : BufTy).Contents (Elt F) :=
  broadcastInDim S128x100000 ![] bcast_S_S128x100000 (val_main_call1_cst (F := F))
abbrev idx_main_call1_v14 (i : S128x100000.Idx) : S_.Idx := fun a => a.elim0
theorem val_main_call1_v14_apply (i : S128x100000.Idx) :
    val_main_call1_v14 (F := F) i = val_main_call1_cst (F := F) (idx_main_call1_v14 i) := by
  unfold val_main_call1_v14
  generalize val_main_call1_cst (F := F) = y
  exact broadcastInDim_apply _ bcast_S_S128x100000 y i (idx_main_call1_v14 i) (fun a => a.elim0)

-- %13 = func.call @take_along_axis(…) (record main_call1) result 0: @take_along_axis's %15 = stablehlo.select %12, %13, %14 : tensor<128x100000xi1>, tensor<128x100000xf32>
def val_main_v13 (x0 : (⟨S128x100000, .f32⟩ : BufTy).Contents (Elt F)) : (⟨S128x100000, .f32⟩ : BufTy).Contents (Elt F) :=
  select (val_main_call1_v12 (F := F) x0) (val_main_call1_v13 (F := F) x0) (val_main_call1_v14 (F := F))
theorem val_main_v13_apply (x0 : (⟨S128x100000, .f32⟩ : BufTy).Contents (Elt F)) (i : S128x100000.Idx) :
    val_main_v13 (F := F) x0 i = Scalar.select (val_main_call1_v12 (F := F) x0 i) (val_main_call1_v13 (F := F) x0 i) (val_main_call1_v14 (F := F) i) := rfl

-- @cumsum_0's %cst = stablehlo.constant dense<0.000000e+00> : tensor<f32>, in @cumsum's %0 = func.call @cumsum_0(…) (record main_call2_call0)
def val_main_call2_call0_cst : (⟨S_, .f32⟩ : BufTy).Contents (Elt F) :=
  constant S_ .f32 0x00000000#32
theorem val_main_call2_call0_cst_apply (i : S_.Idx) :
    val_main_call2_call0_cst (F := F) i = FloatOps.ofBits .f32 0x00000000#32 := rfl

-- @cumsum_0's %0 = stablehlo.broadcast_in_dim %cst, dims = [] : (tensor<f32>) -> tensor<f32>, in @cumsum's %0 = func.call @cumsum_0(…) (record main_call2_call0)
def val_main_call2_call0_v0 : (⟨S_, .f32⟩ : BufTy).Contents (Elt F) :=
  broadcastInDim S_ ![] bcast_S_S_ (val_main_call2_call0_cst (F := F))
abbrev idx_main_call2_call0_v0 (i : S_.Idx) : S_.Idx := fun a => a.elim0
theorem val_main_call2_call0_v0_apply (i : S_.Idx) :
    val_main_call2_call0_v0 (F := F) i = val_main_call2_call0_cst (F := F) (idx_main_call2_call0_v0 i) := by
  unfold val_main_call2_call0_v0
  generalize val_main_call2_call0_cst (F := F) = y
  exact broadcastInDim_apply _ bcast_S_S_ y i (idx_main_call2_call0_v0 i) (fun a => a.elim0)

-- @cumsum's %0 = func.call @cumsum_0(…) (record main_call2_call0) result 0: @cumsum_0's %1 = "stablehlo.reduce_window"(%arg0, %0) <{base_dilations = array<i64: 1, 1>, padding = dense<[[0, 0], [99999, 0]]> : tensor<2x2xi64>, window_dilations = array<i64: 1, 1>, window_dimensions = array<i64: 1, 100000>, window_strides = array<i64: 1, 1>}> ( {
def val_main_v14 (x0 : (⟨S128x100000, .f32⟩ : BufTy).Contents (Elt F)) : (⟨S128x100000, .f32⟩ : BufTy).Contents (Elt F) :=
  Host.reduceWindowAdd ![1, 100000] ![1, 1] ![0, 99999] ![0, 0] (val_main_v13 (F := F) x0) (val_main_call2_call0_v0 (F := F)) reduceWindows_S128x100000_S128x100000_w1s1p0_0_w100000s1p99999_0 h_S_

-- %15 = stablehlo.iota dim = 0 : tensor<100000xi32>
def val_main_v15 : (⟨S100000, .i32⟩ : BufTy).Contents (Elt F) :=
  iotaInDim S100000 32 0
theorem val_main_v15_apply (i : S100000.Idx) :
    val_main_v15 (F := F) i = BitVec.ofNat 32 (i 0).val := rfl

-- %16 = stablehlo.broadcast_in_dim %15, dims = [1] : (tensor<100000xi32>) -> tensor<1x100000xi32>
def val_main_v16 : (⟨S1x100000, .i32⟩ : BufTy).Contents (Elt F) :=
  broadcastInDim S1x100000 ![1] bcast_S100000_S1x100000_1 (val_main_v15 (F := F))
abbrev idx_main_v16 (i : S1x100000.Idx) : S100000.Idx := fun a => match a with
  | ⟨0, _⟩ => ⟨(i 1).val, (i 1).isLt⟩
theorem val_main_v16_apply (i : S1x100000.Idx) :
    val_main_v16 (F := F) i = val_main_v15 (F := F) (idx_main_v16 i) := by
  unfold val_main_v16
  generalize val_main_v15 (F := F) = y
  exact broadcastInDim_apply _ bcast_S100000_S1x100000_1 y i (idx_main_v16 i) (fun a => match a with
    | ⟨0, _⟩ => by show (i 1).val = if (100000 : Nat) = 1 then 0 else (i 1).val; rw [if_neg (by decide)])

-- %17 = stablehlo.broadcast_in_dim %arg3, dims = [0] : (tensor<128xi32>) -> tensor<128x1xi32>
def val_main_v17 (x3 : (⟨S128, .i32⟩ : BufTy).Contents (Elt F)) : (⟨S128x1, .i32⟩ : BufTy).Contents (Elt F) :=
  broadcastInDim S128x1 ![0] bcast_S128_S128x1_0 (x3)
abbrev idx_main_v17 (i : S128x1.Idx) : S128.Idx := fun a => match a with
  | ⟨0, _⟩ => ⟨(i 0).val, (i 0).isLt⟩
theorem val_main_v17_apply (x3 : (⟨S128, .i32⟩ : BufTy).Contents (Elt F)) (i : S128x1.Idx) :
    val_main_v17 (F := F) x3 i = x3 (idx_main_v17 i) := by
  unfold val_main_v17
  exact broadcastInDim_apply _ bcast_S128_S128x1_0 x3 i (idx_main_v17 i) (fun a => match a with
    | ⟨0, _⟩ => by show (i 0).val = if (128 : Nat) = 1 then 0 else (i 0).val; rw [if_neg (by decide)])

-- %18 = stablehlo.broadcast_in_dim %16, dims = [0, 1] : (tensor<1x100000xi32>) -> tensor<128x100000xi32>
def val_main_v18 : (⟨S128x100000, .i32⟩ : BufTy).Contents (Elt F) :=
  broadcastInDim S128x100000 ![0, 1] bcast_S1x100000_S128x100000_0_1 (val_main_v16 (F := F))
abbrev idx_main_v18 (i : S128x100000.Idx) : S1x100000.Idx := fun a => match a with
  | ⟨0, _⟩ => ⟨0, Nat.one_pos⟩
  | ⟨1, _⟩ => ⟨(i 1).val, (i 1).isLt⟩
theorem val_main_v18_apply (i : S128x100000.Idx) :
    val_main_v18 (F := F) i = val_main_v16 (F := F) (idx_main_v18 i) := by
  unfold val_main_v18
  generalize val_main_v16 (F := F) = y
  exact broadcastInDim_apply _ bcast_S1x100000_S128x100000_0_1 y i (idx_main_v18 i) (fun a => match a with
    | ⟨0, _⟩ => by show 0 = if (1 : Nat) = 1 then 0 else (i 0).val; rw [if_pos rfl]
    | ⟨1, _⟩ => by show (i 1).val = if (100000 : Nat) = 1 then 0 else (i 1).val; rw [if_neg (by decide)])

-- %19 = stablehlo.broadcast_in_dim %17, dims = [0, 1] : (tensor<128x1xi32>) -> tensor<128x100000xi32>
def val_main_v19 (x3 : (⟨S128, .i32⟩ : BufTy).Contents (Elt F)) : (⟨S128x100000, .i32⟩ : BufTy).Contents (Elt F) :=
  broadcastInDim S128x100000 ![0, 1] bcast_S128x1_S128x100000_0_1 (val_main_v17 (F := F) x3)
abbrev idx_main_v19 (i : S128x100000.Idx) : S128x1.Idx := fun a => match a with
  | ⟨0, _⟩ => ⟨(i 0).val, (i 0).isLt⟩
  | ⟨1, _⟩ => ⟨0, Nat.one_pos⟩
theorem val_main_v19_apply (x3 : (⟨S128, .i32⟩ : BufTy).Contents (Elt F)) (i : S128x100000.Idx) :
    val_main_v19 (F := F) x3 i = val_main_v17 (F := F) x3 (idx_main_v19 i) := by
  unfold val_main_v19
  generalize val_main_v17 (F := F) x3 = y
  exact broadcastInDim_apply _ bcast_S128x1_S128x100000_0_1 y i (idx_main_v19 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %20 = stablehlo.compare GE, %18, %19, SIGNED : (tensor<128x100000xi32>, tensor<128x100000xi32>) -> tensor<128x100000xi1>
def val_main_v20 (x3 : (⟨S128, .i32⟩ : BufTy).Contents (Elt F)) : (⟨S128x100000, .i1⟩ : BufTy).Contents (Elt F) :=
  cmpi .sge (val_main_v18 (F := F)) (val_main_v19 (F := F) x3)
theorem val_main_v20_apply (x3 : (⟨S128, .i32⟩ : BufTy).Contents (Elt F)) (i : S128x100000.Idx) :
    val_main_v20 (F := F) x3 i = IntOp.cmpi .sge (val_main_v18 (F := F) i) (val_main_v19 (F := F) x3 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- @_where's %0 = stablehlo.convert %arg1 : tensor<f32>, in %21 = func.call @_where(…) (record main_call3)
def val_main_call3_v0 : (⟨S_, .f32⟩ : BufTy).Contents (Elt F) :=
  id (val_main_cst_2 (F := F))
theorem val_main_call3_v0_apply (i : S_.Idx) :
    val_main_call3_v0 (F := F) i = (val_main_cst_2 (F := F) i) := rfl

-- @_where's %1 = stablehlo.broadcast_in_dim %0, dims = [] : (tensor<f32>) -> tensor<128x100000xf32>, in %21 = func.call @_where(…) (record main_call3)
def val_main_call3_v1 : (⟨S128x100000, .f32⟩ : BufTy).Contents (Elt F) :=
  broadcastInDim S128x100000 ![] bcast_S_S128x100000 (val_main_call3_v0 (F := F))
abbrev idx_main_call3_v1 (i : S128x100000.Idx) : S_.Idx := fun a => a.elim0
theorem val_main_call3_v1_apply (i : S128x100000.Idx) :
    val_main_call3_v1 (F := F) i = val_main_call3_v0 (F := F) (idx_main_call3_v1 i) := by
  unfold val_main_call3_v1
  generalize val_main_call3_v0 (F := F) = y
  exact broadcastInDim_apply _ bcast_S_S128x100000 y i (idx_main_call3_v1 i) (fun a => a.elim0)

-- %21 = func.call @_where(…) (record main_call3) result 0: @_where's %2 = stablehlo.select %arg0, %1, %arg2 : tensor<128x100000xi1>, tensor<128x100000xf32>
def val_main_v21 (x0 : (⟨S128x100000, .f32⟩ : BufTy).Contents (Elt F)) (x3 : (⟨S128, .i32⟩ : BufTy).Contents (Elt F)) : (⟨S128x100000, .f32⟩ : BufTy).Contents (Elt F) :=
  select (val_main_v20 (F := F) x3) (val_main_call3_v1 (F := F)) (val_main_v13 (F := F) x0)
theorem val_main_v21_apply (x0 : (⟨S128x100000, .f32⟩ : BufTy).Contents (Elt F)) (x3 : (⟨S128, .i32⟩ : BufTy).Contents (Elt F)) (i : S128x100000.Idx) :
    val_main_v21 (F := F) x0 x3 i = Scalar.select (val_main_v20 (F := F) x3 i) (val_main_call3_v1 (F := F) i) (val_main_v13 (F := F) x0 i) := rfl

-- %22 = stablehlo.subtract %14, %21 : tensor<128x100000xf32>
def val_main_v22 (x0 : (⟨S128x100000, .f32⟩ : BufTy).Contents (Elt F)) (x3 : (⟨S128, .i32⟩ : BufTy).Contents (Elt F)) : (⟨S128x100000, .f32⟩ : BufTy).Contents (Elt F) :=
  subf (val_main_v14 (F := F) x0) (val_main_v21 (F := F) x0 x3)
theorem val_main_v22_apply (x0 : (⟨S128x100000, .f32⟩ : BufTy).Contents (Elt F)) (x3 : (⟨S128, .i32⟩ : BufTy).Contents (Elt F)) (i : S128x100000.Idx) :
    val_main_v22 (F := F) x0 x3 i = FloatOps.subf (val_main_v14 (F := F) x0 i) (val_main_v21 (F := F) x0 x3 i) := rfl

-- %23 = stablehlo.broadcast_in_dim %arg1, dims = [0] : (tensor<128xf32>) -> tensor<128x1xf32>
def val_main_v23 (x1 : (⟨S128, .f32⟩ : BufTy).Contents (Elt F)) : (⟨S128x1, .f32⟩ : BufTy).Contents (Elt F) :=
  broadcastInDim S128x1 ![0] bcast_S128_S128x1_0 (x1)
abbrev idx_main_v23 (i : S128x1.Idx) : S128.Idx := fun a => match a with
  | ⟨0, _⟩ => ⟨(i 0).val, (i 0).isLt⟩
theorem val_main_v23_apply (x1 : (⟨S128, .f32⟩ : BufTy).Contents (Elt F)) (i : S128x1.Idx) :
    val_main_v23 (F := F) x1 i = x1 (idx_main_v23 i) := by
  unfold val_main_v23
  exact broadcastInDim_apply _ bcast_S128_S128x1_0 x1 i (idx_main_v23 i) (fun a => match a with
    | ⟨0, _⟩ => by show (i 0).val = if (128 : Nat) = 1 then 0 else (i 0).val; rw [if_neg (by decide)])

-- %24 = stablehlo.broadcast_in_dim %23, dims = [0, 1] : (tensor<128x1xf32>) -> tensor<128x100000xf32>
def val_main_v24 (x1 : (⟨S128, .f32⟩ : BufTy).Contents (Elt F)) : (⟨S128x100000, .f32⟩ : BufTy).Contents (Elt F) :=
  broadcastInDim S128x100000 ![0, 1] bcast_S128x1_S128x100000_0_1 (val_main_v23 (F := F) x1)
abbrev idx_main_v24 (i : S128x100000.Idx) : S128x1.Idx := fun a => match a with
  | ⟨0, _⟩ => ⟨(i 0).val, (i 0).isLt⟩
  | ⟨1, _⟩ => ⟨0, Nat.one_pos⟩
theorem val_main_v24_apply (x1 : (⟨S128, .f32⟩ : BufTy).Contents (Elt F)) (i : S128x100000.Idx) :
    val_main_v24 (F := F) x1 i = val_main_v23 (F := F) x1 (idx_main_v24 i) := by
  unfold val_main_v24
  generalize val_main_v23 (F := F) x1 = y
  exact broadcastInDim_apply _ bcast_S128x1_S128x100000_0_1 y i (idx_main_v24 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %25 = stablehlo.compare GT, %22, %24, FLOAT : (tensor<128x100000xf32>, tensor<128x100000xf32>) -> tensor<128x100000xi1>
def val_main_v25 (x0 : (⟨S128x100000, .f32⟩ : BufTy).Contents (Elt F)) (x1 : (⟨S128, .f32⟩ : BufTy).Contents (Elt F)) (x3 : (⟨S128, .i32⟩ : BufTy).Contents (Elt F)) : (⟨S128x100000, .i1⟩ : BufTy).Contents (Elt F) :=
  cmpf .ogt (val_main_v22 (F := F) x0 x3) (val_main_v24 (F := F) x1)
theorem val_main_v25_apply (x0 : (⟨S128x100000, .f32⟩ : BufTy).Contents (Elt F)) (x1 : (⟨S128, .f32⟩ : BufTy).Contents (Elt F)) (x3 : (⟨S128, .i32⟩ : BufTy).Contents (Elt F)) (i : S128x100000.Idx) :
    val_main_v25 (F := F) x0 x1 x3 i = FloatOps.cmpf .ogt (val_main_v22 (F := F) x0 x3 i) (val_main_v24 (F := F) x1 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- @_where's %0 = stablehlo.convert %arg1 : tensor<f32>, in %26 = func.call @_where(…) (record main_call4)
def val_main_call4_v0 : (⟨S_, .f32⟩ : BufTy).Contents (Elt F) :=
  id (val_main_cst_3 (F := F))
theorem val_main_call4_v0_apply (i : S_.Idx) :
    val_main_call4_v0 (F := F) i = (val_main_cst_3 (F := F) i) := rfl

-- @_where's %1 = stablehlo.broadcast_in_dim %0, dims = [] : (tensor<f32>) -> tensor<128x100000xf32>, in %26 = func.call @_where(…) (record main_call4)
def val_main_call4_v1 : (⟨S128x100000, .f32⟩ : BufTy).Contents (Elt F) :=
  broadcastInDim S128x100000 ![] bcast_S_S128x100000 (val_main_call4_v0 (F := F))
abbrev idx_main_call4_v1 (i : S128x100000.Idx) : S_.Idx := fun a => a.elim0
theorem val_main_call4_v1_apply (i : S128x100000.Idx) :
    val_main_call4_v1 (F := F) i = val_main_call4_v0 (F := F) (idx_main_call4_v1 i) := by
  unfold val_main_call4_v1
  generalize val_main_call4_v0 (F := F) = y
  exact broadcastInDim_apply _ bcast_S_S128x100000 y i (idx_main_call4_v1 i) (fun a => a.elim0)

-- %26 = func.call @_where(…) (record main_call4) result 0: @_where's %2 = stablehlo.select %arg0, %1, %arg2 : tensor<128x100000xi1>, tensor<128x100000xf32>
def val_main_v26 (x0 : (⟨S128x100000, .f32⟩ : BufTy).Contents (Elt F)) (x1 : (⟨S128, .f32⟩ : BufTy).Contents (Elt F)) (x3 : (⟨S128, .i32⟩ : BufTy).Contents (Elt F)) : (⟨S128x100000, .f32⟩ : BufTy).Contents (Elt F) :=
  select (val_main_v25 (F := F) x0 x1 x3) (val_main_call4_v1 (F := F)) (val_main_v21 (F := F) x0 x3)
theorem val_main_v26_apply (x0 : (⟨S128x100000, .f32⟩ : BufTy).Contents (Elt F)) (x1 : (⟨S128, .f32⟩ : BufTy).Contents (Elt F)) (x3 : (⟨S128, .i32⟩ : BufTy).Contents (Elt F)) (i : S128x100000.Idx) :
    val_main_v26 (F := F) x0 x1 x3 i = Scalar.select (val_main_v25 (F := F) x0 x1 x3 i) (val_main_call4_v1 (F := F) i) (val_main_v21 (F := F) x0 x3 i) := rfl

-- %27 = stablehlo.slice %26 [0:128, 0:1] : (tensor<128x100000xf32>) -> tensor<128x1xf32>
def val_main_v27 (x0 : (⟨S128x100000, .f32⟩ : BufTy).Contents (Elt F)) (x1 : (⟨S128, .f32⟩ : BufTy).Contents (Elt F)) (x3 : (⟨S128, .i32⟩ : BufTy).Contents (Elt F)) : (⟨S128x1, .f32⟩ : BufTy).Contents (Elt F) :=
  extractStridedSlice S128x1 ![0, 0] (val_main_v26 (F := F) x0 x1 x3) slices_S128x100000_S128x1_0_0
abbrev idx_main_v27 (i : S128x1.Idx) : S128x100000.Idx := fun a => match a with
  | ⟨0, _⟩ => ⟨(i 0).val, (i 0).isLt⟩
  | ⟨1, _⟩ => ⟨(i 1).val, by have h1 : (i 1).val < 1 := (i 1).isLt; show (i 1).val < 100000; omega⟩
theorem val_main_v27_apply (x0 : (⟨S128x100000, .f32⟩ : BufTy).Contents (Elt F)) (x1 : (⟨S128, .f32⟩ : BufTy).Contents (Elt F)) (x3 : (⟨S128, .i32⟩ : BufTy).Contents (Elt F)) (i : S128x1.Idx) :
    val_main_v27 (F := F) x0 x1 x3 i = val_main_v26 (F := F) x0 x1 x3 (idx_main_v27 i) := by
  unfold val_main_v27
  generalize val_main_v26 (F := F) x0 x1 x3 = y
  exact extractStridedSlice_apply ![0, 0] y slices_S128x100000_S128x1_0_0 i (idx_main_v27 i) (fun a => match a with
    | ⟨0, _⟩ => by show (i 0).val = 0 + (i 0).val; omega
    | ⟨1, _⟩ => by show (i 1).val = 0 + (i 1).val; omega)

-- %28 = stablehlo.reshape %27 : (tensor<128x1xf32>) -> tensor<128xf32>
def val_main_v28 (x0 : (⟨S128x100000, .f32⟩ : BufTy).Contents (Elt F)) (x1 : (⟨S128, .f32⟩ : BufTy).Contents (Elt F)) (x3 : (⟨S128, .i32⟩ : BufTy).Contents (Elt F)) : (⟨S128, .f32⟩ : BufTy).Contents (Elt F) :=
  shapeCast _ (val_main_v27 (F := F) x0 x1 x3) shapeCasts_S128x1_S128
abbrev idx_main_v28 (i : S128.Idx) : S128x1.Idx := fun a => match a with
  | ⟨0, _⟩ => ⟨((i 0).val) / 1, by have h0 : (i 0).val < 128 := (i 0).isLt; show ((i 0).val) / 1 < 128; omega⟩
  | ⟨1, _⟩ => ⟨0, Nat.one_pos⟩
theorem val_main_v28_apply (x0 : (⟨S128x100000, .f32⟩ : BufTy).Contents (Elt F)) (x1 : (⟨S128, .f32⟩ : BufTy).Contents (Elt F)) (x3 : (⟨S128, .i32⟩ : BufTy).Contents (Elt F)) (i : S128.Idx) :
    val_main_v28 (F := F) x0 x1 x3 i = val_main_v27 (F := F) x0 x1 x3 (idx_main_v28 i) := by
  unfold val_main_v28
  generalize val_main_v27 (F := F) x0 x1 x3 = y
  exact shapeCast_apply y shapeCasts_S128x1_S128 i (idx_main_v28 i)
    (by rewrite [Shape.rowMajor_val_two, Shape.rowMajor_val_one]; have h0 : (i 0).val < 128 := (i 0).isLt; show ((i 0).val) / 1 * 1 + 0 = (i 0).val; omega)

-- %29 = stablehlo.multiply %28, %arg2 : tensor<128xf32>
def val_main_v29 (x0 : (⟨S128x100000, .f32⟩ : BufTy).Contents (Elt F)) (x1 x2 : (⟨S128, .f32⟩ : BufTy).Contents (Elt F)) (x3 : (⟨S128, .i32⟩ : BufTy).Contents (Elt F)) : (⟨S128, .f32⟩ : BufTy).Contents (Elt F) :=
  mulf (val_main_v28 (F := F) x0 x1 x3) (x2)
theorem val_main_v29_apply (x0 : (⟨S128x100000, .f32⟩ : BufTy).Contents (Elt F)) (x1 x2 : (⟨S128, .f32⟩ : BufTy).Contents (Elt F)) (x3 : (⟨S128, .i32⟩ : BufTy).Contents (Elt F)) (i : S128.Idx) :
    val_main_v29 (F := F) x0 x1 x2 x3 i = FloatOps.mulf (val_main_v28 (F := F) x0 x1 x3 i) (x2 i) := rfl

-- %30 = stablehlo.broadcast_in_dim %29, dims = [0] : (tensor<128xf32>) -> tensor<128x1xf32>
def val_main_v30 (x0 : (⟨S128x100000, .f32⟩ : BufTy).Contents (Elt F)) (x1 x2 : (⟨S128, .f32⟩ : BufTy).Contents (Elt F)) (x3 : (⟨S128, .i32⟩ : BufTy).Contents (Elt F)) : (⟨S128x1, .f32⟩ : BufTy).Contents (Elt F) :=
  broadcastInDim S128x1 ![0] bcast_S128_S128x1_0 (val_main_v29 (F := F) x0 x1 x2 x3)
abbrev idx_main_v30 (i : S128x1.Idx) : S128.Idx := fun a => match a with
  | ⟨0, _⟩ => ⟨(i 0).val, (i 0).isLt⟩
theorem val_main_v30_apply (x0 : (⟨S128x100000, .f32⟩ : BufTy).Contents (Elt F)) (x1 x2 : (⟨S128, .f32⟩ : BufTy).Contents (Elt F)) (x3 : (⟨S128, .i32⟩ : BufTy).Contents (Elt F)) (i : S128x1.Idx) :
    val_main_v30 (F := F) x0 x1 x2 x3 i = val_main_v29 (F := F) x0 x1 x2 x3 (idx_main_v30 i) := by
  unfold val_main_v30
  generalize val_main_v29 (F := F) x0 x1 x2 x3 = y
  exact broadcastInDim_apply _ bcast_S128_S128x1_0 y i (idx_main_v30 i) (fun a => match a with
    | ⟨0, _⟩ => by show (i 0).val = if (128 : Nat) = 1 then 0 else (i 0).val; rw [if_neg (by decide)])

-- %31 = stablehlo.broadcast_in_dim %30, dims = [0, 1] : (tensor<128x1xf32>) -> tensor<128x100000xf32>
def val_main_v31 (x0 : (⟨S128x100000, .f32⟩ : BufTy).Contents (Elt F)) (x1 x2 : (⟨S128, .f32⟩ : BufTy).Contents (Elt F)) (x3 : (⟨S128, .i32⟩ : BufTy).Contents (Elt F)) : (⟨S128x100000, .f32⟩ : BufTy).Contents (Elt F) :=
  broadcastInDim S128x100000 ![0, 1] bcast_S128x1_S128x100000_0_1 (val_main_v30 (F := F) x0 x1 x2 x3)
abbrev idx_main_v31 (i : S128x100000.Idx) : S128x1.Idx := fun a => match a with
  | ⟨0, _⟩ => ⟨(i 0).val, (i 0).isLt⟩
  | ⟨1, _⟩ => ⟨0, Nat.one_pos⟩
theorem val_main_v31_apply (x0 : (⟨S128x100000, .f32⟩ : BufTy).Contents (Elt F)) (x1 x2 : (⟨S128, .f32⟩ : BufTy).Contents (Elt F)) (x3 : (⟨S128, .i32⟩ : BufTy).Contents (Elt F)) (i : S128x100000.Idx) :
    val_main_v31 (F := F) x0 x1 x2 x3 i = val_main_v30 (F := F) x0 x1 x2 x3 (idx_main_v31 i) := by
  unfold val_main_v31
  generalize val_main_v30 (F := F) x0 x1 x2 x3 = y
  exact broadcastInDim_apply _ bcast_S128x1_S128x100000_0_1 y i (idx_main_v31 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %32 = stablehlo.compare LT, %26, %31, FLOAT : (tensor<128x100000xf32>, tensor<128x100000xf32>) -> tensor<128x100000xi1>
def val_main_v32 (x0 : (⟨S128x100000, .f32⟩ : BufTy).Contents (Elt F)) (x1 x2 : (⟨S128, .f32⟩ : BufTy).Contents (Elt F)) (x3 : (⟨S128, .i32⟩ : BufTy).Contents (Elt F)) : (⟨S128x100000, .i1⟩ : BufTy).Contents (Elt F) :=
  cmpf .olt (val_main_v26 (F := F) x0 x1 x3) (val_main_v31 (F := F) x0 x1 x2 x3)
theorem val_main_v32_apply (x0 : (⟨S128x100000, .f32⟩ : BufTy).Contents (Elt F)) (x1 x2 : (⟨S128, .f32⟩ : BufTy).Contents (Elt F)) (x3 : (⟨S128, .i32⟩ : BufTy).Contents (Elt F)) (i : S128x100000.Idx) :
    val_main_v32 (F := F) x0 x1 x2 x3 i = FloatOps.cmpf .olt (val_main_v26 (F := F) x0 x1 x3 i) (val_main_v31 (F := F) x0 x1 x2 x3 i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- @_where's %0 = stablehlo.convert %arg1 : tensor<f32>, in %33 = func.call @_where(…) (record main_call5)
def val_main_call5_v0 : (⟨S_, .f32⟩ : BufTy).Contents (Elt F) :=
  id (val_main_cst_4 (F := F))
theorem val_main_call5_v0_apply (i : S_.Idx) :
    val_main_call5_v0 (F := F) i = (val_main_cst_4 (F := F) i) := rfl

-- @_where's %1 = stablehlo.broadcast_in_dim %0, dims = [] : (tensor<f32>) -> tensor<128x100000xf32>, in %33 = func.call @_where(…) (record main_call5)
def val_main_call5_v1 : (⟨S128x100000, .f32⟩ : BufTy).Contents (Elt F) :=
  broadcastInDim S128x100000 ![] bcast_S_S128x100000 (val_main_call5_v0 (F := F))
abbrev idx_main_call5_v1 (i : S128x100000.Idx) : S_.Idx := fun a => a.elim0
theorem val_main_call5_v1_apply (i : S128x100000.Idx) :
    val_main_call5_v1 (F := F) i = val_main_call5_v0 (F := F) (idx_main_call5_v1 i) := by
  unfold val_main_call5_v1
  generalize val_main_call5_v0 (F := F) = y
  exact broadcastInDim_apply _ bcast_S_S128x100000 y i (idx_main_call5_v1 i) (fun a => a.elim0)

-- %33 = func.call @_where(…) (record main_call5) result 0: @_where's %2 = stablehlo.select %arg0, %1, %arg2 : tensor<128x100000xi1>, tensor<128x100000xf32>
def val_main_v33 (x0 : (⟨S128x100000, .f32⟩ : BufTy).Contents (Elt F)) (x1 x2 : (⟨S128, .f32⟩ : BufTy).Contents (Elt F)) (x3 : (⟨S128, .i32⟩ : BufTy).Contents (Elt F)) : (⟨S128x100000, .f32⟩ : BufTy).Contents (Elt F) :=
  select (val_main_v32 (F := F) x0 x1 x2 x3) (val_main_call5_v1 (F := F)) (val_main_v26 (F := F) x0 x1 x3)
theorem val_main_v33_apply (x0 : (⟨S128x100000, .f32⟩ : BufTy).Contents (Elt F)) (x1 x2 : (⟨S128, .f32⟩ : BufTy).Contents (Elt F)) (x3 : (⟨S128, .i32⟩ : BufTy).Contents (Elt F)) (i : S128x100000.Idx) :
    val_main_v33 (F := F) x0 x1 x2 x3 i = Scalar.select (val_main_v32 (F := F) x0 x1 x2 x3 i) (val_main_call5_v1 (F := F) i) (val_main_v26 (F := F) x0 x1 x3 i) := rfl

-- %cst_5 = stablehlo.constant dense<1.000000e-10> : tensor<f32>
def val_main_cst_5 : (⟨S_, .f32⟩ : BufTy).Contents (Elt F) :=
  constant S_ .f32 0x2EDBE6FF#32
theorem val_main_cst_5_apply (i : S_.Idx) :
    val_main_cst_5 (F := F) i = FloatOps.ofBits .f32 0x2EDBE6FF#32 := rfl

-- %34 = stablehlo.broadcast_in_dim %cst_5, dims = [] : (tensor<f32>) -> tensor<128x100000xf32>
def val_main_v34 : (⟨S128x100000, .f32⟩ : BufTy).Contents (Elt F) :=
  broadcastInDim S128x100000 ![] bcast_S_S128x100000 (val_main_cst_5 (F := F))
abbrev idx_main_v34 (i : S128x100000.Idx) : S_.Idx := fun a => a.elim0
theorem val_main_v34_apply (i : S128x100000.Idx) :
    val_main_v34 (F := F) i = val_main_cst_5 (F := F) (idx_main_v34 i) := by
  unfold val_main_v34
  generalize val_main_cst_5 (F := F) = y
  exact broadcastInDim_apply _ bcast_S_S128x100000 y i (idx_main_v34 i) (fun a => a.elim0)

-- %35 = stablehlo.add %33, %34 : tensor<128x100000xf32>
def val_main_v35 (x0 : (⟨S128x100000, .f32⟩ : BufTy).Contents (Elt F)) (x1 x2 : (⟨S128, .f32⟩ : BufTy).Contents (Elt F)) (x3 : (⟨S128, .i32⟩ : BufTy).Contents (Elt F)) : (⟨S128x100000, .f32⟩ : BufTy).Contents (Elt F) :=
  addf (val_main_v33 (F := F) x0 x1 x2 x3) (val_main_v34 (F := F))
theorem val_main_v35_apply (x0 : (⟨S128x100000, .f32⟩ : BufTy).Contents (Elt F)) (x1 x2 : (⟨S128, .f32⟩ : BufTy).Contents (Elt F)) (x3 : (⟨S128, .i32⟩ : BufTy).Contents (Elt F)) (i : S128x100000.Idx) :
    val_main_v35 (F := F) x0 x1 x2 x3 i = FloatOps.addf (val_main_v33 (F := F) x0 x1 x2 x3 i) (val_main_v34 (F := F) i) := rfl

-- %36 = stablehlo.log %35 : tensor<128x100000xf32>
def val_main_v36 (x0 : (⟨S128x100000, .f32⟩ : BufTy).Contents (Elt F)) (x1 x2 : (⟨S128, .f32⟩ : BufTy).Contents (Elt F)) (x3 : (⟨S128, .i32⟩ : BufTy).Contents (Elt F)) : (⟨S128x100000, .f32⟩ : BufTy).Contents (Elt F) :=
  Host.log (val_main_v35 (F := F) x0 x1 x2 x3)
theorem val_main_v36_apply (x0 : (⟨S128x100000, .f32⟩ : BufTy).Contents (Elt F)) (x1 x2 : (⟨S128, .f32⟩ : BufTy).Contents (Elt F)) (x3 : (⟨S128, .i32⟩ : BufTy).Contents (Elt F)) (i : S128x100000.Idx) :
    val_main_v36 (F := F) x0 x1 x2 x3 i = FloatOps.hostUnary .log (val_main_v35 (F := F) x0 x1 x2 x3 i) := rfl

-- %37 = stablehlo.iota dim = 0 : tensor<100000xui32>
def val_main_v37 : (⟨S100000, .i32⟩ : BufTy).Contents (Elt F) :=
  iotaInDim S100000 32 0
theorem val_main_v37_apply (i : S100000.Idx) :
    val_main_v37 (F := F) i = BitVec.ofNat 32 (i 0).val := rfl

-- %38 = stablehlo.broadcast_in_dim %37, dims = [1] : (tensor<100000xui32>) -> tensor<1x100000xui32>
def val_main_v38 : (⟨S1x100000, .i32⟩ : BufTy).Contents (Elt F) :=
  broadcastInDim S1x100000 ![1] bcast_S100000_S1x100000_1 (val_main_v37 (F := F))
abbrev idx_main_v38 (i : S1x100000.Idx) : S100000.Idx := fun a => match a with
  | ⟨0, _⟩ => ⟨(i 1).val, (i 1).isLt⟩
theorem val_main_v38_apply (i : S1x100000.Idx) :
    val_main_v38 (F := F) i = val_main_v37 (F := F) (idx_main_v38 i) := by
  unfold val_main_v38
  generalize val_main_v37 (F := F) = y
  exact broadcastInDim_apply _ bcast_S100000_S1x100000_1 y i (idx_main_v38 i) (fun a => match a with
    | ⟨0, _⟩ => by show (i 1).val = if (100000 : Nat) = 1 then 0 else (i 1).val; rw [if_neg (by decide)])

-- %39 = stablehlo.convert %arg4 : (tensor<128xi32>) -> tensor<128xui32>
def val_main_v39 (x4 : (⟨S128, .i32⟩ : BufTy).Contents (Elt F)) : (⟨S128, .i32⟩ : BufTy).Contents (Elt F) :=
  id (x4)
theorem val_main_v39_apply (x4 : (⟨S128, .i32⟩ : BufTy).Contents (Elt F)) (i : S128.Idx) :
    val_main_v39 (F := F) x4 i = (x4 i) := rfl

-- %c = stablehlo.constant dense<19349663> : tensor<ui32>
def val_main_c : (⟨S_, .i32⟩ : BufTy).Contents (Elt F) :=
  constantI S_ 32 19349663#32
theorem val_main_c_apply (i : S_.Idx) :
    val_main_c (F := F) i = 19349663#32 := rfl

-- %40 = stablehlo.broadcast_in_dim %c, dims = [] : (tensor<ui32>) -> tensor<128xui32>
def val_main_v40 : (⟨S128, .i32⟩ : BufTy).Contents (Elt F) :=
  broadcastInDim S128 ![] bcast_S_S128 (val_main_c (F := F))
abbrev idx_main_v40 (i : S128.Idx) : S_.Idx := fun a => a.elim0
theorem val_main_v40_apply (i : S128.Idx) :
    val_main_v40 (F := F) i = val_main_c (F := F) (idx_main_v40 i) := by
  unfold val_main_v40
  generalize val_main_c (F := F) = y
  exact broadcastInDim_apply _ bcast_S_S128 y i (idx_main_v40 i) (fun a => a.elim0)

-- %41 = stablehlo.multiply %39, %40 : tensor<128xui32>
def val_main_v41 (x4 : (⟨S128, .i32⟩ : BufTy).Contents (Elt F)) : (⟨S128, .i32⟩ : BufTy).Contents (Elt F) :=
  muli (val_main_v39 (F := F) x4) (val_main_v40 (F := F))
theorem val_main_v41_apply (x4 : (⟨S128, .i32⟩ : BufTy).Contents (Elt F)) (i : S128.Idx) :
    val_main_v41 (F := F) x4 i = IntOp.muli (val_main_v39 (F := F) x4 i) (val_main_v40 (F := F) i) := rfl

-- %42 = stablehlo.convert %arg5 : (tensor<128xi32>) -> tensor<128xui32>
def val_main_v42 (x5 : (⟨S128, .i32⟩ : BufTy).Contents (Elt F)) : (⟨S128, .i32⟩ : BufTy).Contents (Elt F) :=
  id (x5)
theorem val_main_v42_apply (x5 : (⟨S128, .i32⟩ : BufTy).Contents (Elt F)) (i : S128.Idx) :
    val_main_v42 (F := F) x5 i = (x5 i) := rfl

-- %c_6 = stablehlo.constant dense<73856093> : tensor<ui32>
def val_main_c_6 : (⟨S_, .i32⟩ : BufTy).Contents (Elt F) :=
  constantI S_ 32 73856093#32
theorem val_main_c_6_apply (i : S_.Idx) :
    val_main_c_6 (F := F) i = 73856093#32 := rfl

-- %43 = stablehlo.broadcast_in_dim %c_6, dims = [] : (tensor<ui32>) -> tensor<128xui32>
def val_main_v43 : (⟨S128, .i32⟩ : BufTy).Contents (Elt F) :=
  broadcastInDim S128 ![] bcast_S_S128 (val_main_c_6 (F := F))
abbrev idx_main_v43 (i : S128.Idx) : S_.Idx := fun a => a.elim0
theorem val_main_v43_apply (i : S128.Idx) :
    val_main_v43 (F := F) i = val_main_c_6 (F := F) (idx_main_v43 i) := by
  unfold val_main_v43
  generalize val_main_c_6 (F := F) = y
  exact broadcastInDim_apply _ bcast_S_S128 y i (idx_main_v43 i) (fun a => a.elim0)

-- %44 = stablehlo.multiply %42, %43 : tensor<128xui32>
def val_main_v44 (x5 : (⟨S128, .i32⟩ : BufTy).Contents (Elt F)) : (⟨S128, .i32⟩ : BufTy).Contents (Elt F) :=
  muli (val_main_v42 (F := F) x5) (val_main_v43 (F := F))
theorem val_main_v44_apply (x5 : (⟨S128, .i32⟩ : BufTy).Contents (Elt F)) (i : S128.Idx) :
    val_main_v44 (F := F) x5 i = IntOp.muli (val_main_v42 (F := F) x5 i) (val_main_v43 (F := F) i) := rfl

-- %45 = stablehlo.xor %41, %44 : tensor<128xui32>
def val_main_v45 (x4 x5 : (⟨S128, .i32⟩ : BufTy).Contents (Elt F)) : (⟨S128, .i32⟩ : BufTy).Contents (Elt F) :=
  xori (val_main_v41 (F := F) x4) (val_main_v44 (F := F) x5)
theorem val_main_v45_apply (x4 x5 : (⟨S128, .i32⟩ : BufTy).Contents (Elt F)) (i : S128.Idx) :
    val_main_v45 (F := F) x4 x5 i = IntOp.xori (val_main_v41 (F := F) x4 i) (val_main_v44 (F := F) x5 i) := rfl

-- %46 = stablehlo.broadcast_in_dim %45, dims = [0] : (tensor<128xui32>) -> tensor<128x1xui32>
def val_main_v46 (x4 x5 : (⟨S128, .i32⟩ : BufTy).Contents (Elt F)) : (⟨S128x1, .i32⟩ : BufTy).Contents (Elt F) :=
  broadcastInDim S128x1 ![0] bcast_S128_S128x1_0 (val_main_v45 (F := F) x4 x5)
abbrev idx_main_v46 (i : S128x1.Idx) : S128.Idx := fun a => match a with
  | ⟨0, _⟩ => ⟨(i 0).val, (i 0).isLt⟩
theorem val_main_v46_apply (x4 x5 : (⟨S128, .i32⟩ : BufTy).Contents (Elt F)) (i : S128x1.Idx) :
    val_main_v46 (F := F) x4 x5 i = val_main_v45 (F := F) x4 x5 (idx_main_v46 i) := by
  unfold val_main_v46
  generalize val_main_v45 (F := F) x4 x5 = y
  exact broadcastInDim_apply _ bcast_S128_S128x1_0 y i (idx_main_v46 i) (fun a => match a with
    | ⟨0, _⟩ => by show (i 0).val = if (128 : Nat) = 1 then 0 else (i 0).val; rw [if_neg (by decide)])

-- %c_7 = stablehlo.constant dense<4294967295> : tensor<ui32>
def val_main_c_7 : (⟨S_, .i32⟩ : BufTy).Contents (Elt F) :=
  constantI S_ 32 4294967295#32
theorem val_main_c_7_apply (i : S_.Idx) :
    val_main_c_7 (F := F) i = 4294967295#32 := rfl

-- %47 = stablehlo.broadcast_in_dim %c_7, dims = [] : (tensor<ui32>) -> tensor<128x1xui32>
def val_main_v47 : (⟨S128x1, .i32⟩ : BufTy).Contents (Elt F) :=
  broadcastInDim S128x1 ![] bcast_S_S128x1 (val_main_c_7 (F := F))
abbrev idx_main_v47 (i : S128x1.Idx) : S_.Idx := fun a => a.elim0
theorem val_main_v47_apply (i : S128x1.Idx) :
    val_main_v47 (F := F) i = val_main_c_7 (F := F) (idx_main_v47 i) := by
  unfold val_main_v47
  generalize val_main_c_7 (F := F) = y
  exact broadcastInDim_apply _ bcast_S_S128x1 y i (idx_main_v47 i) (fun a => a.elim0)

-- %48 = stablehlo.multiply %46, %47 : tensor<128x1xui32>
def val_main_v48 (x4 x5 : (⟨S128, .i32⟩ : BufTy).Contents (Elt F)) : (⟨S128x1, .i32⟩ : BufTy).Contents (Elt F) :=
  muli (val_main_v46 (F := F) x4 x5) (val_main_v47 (F := F))
theorem val_main_v48_apply (x4 x5 : (⟨S128, .i32⟩ : BufTy).Contents (Elt F)) (i : S128x1.Idx) :
    val_main_v48 (F := F) x4 x5 i = IntOp.muli (val_main_v46 (F := F) x4 x5 i) (val_main_v47 (F := F) i) := rfl

-- %c_8 = stablehlo.constant dense<479001599> : tensor<ui32>
def val_main_c_8 : (⟨S_, .i32⟩ : BufTy).Contents (Elt F) :=
  constantI S_ 32 479001599#32
theorem val_main_c_8_apply (i : S_.Idx) :
    val_main_c_8 (F := F) i = 479001599#32 := rfl

-- %49 = stablehlo.broadcast_in_dim %c_8, dims = [] : (tensor<ui32>) -> tensor<1x100000xui32>
def val_main_v49 : (⟨S1x100000, .i32⟩ : BufTy).Contents (Elt F) :=
  broadcastInDim S1x100000 ![] bcast_S_S1x100000 (val_main_c_8 (F := F))
abbrev idx_main_v49 (i : S1x100000.Idx) : S_.Idx := fun a => a.elim0
theorem val_main_v49_apply (i : S1x100000.Idx) :
    val_main_v49 (F := F) i = val_main_c_8 (F := F) (idx_main_v49 i) := by
  unfold val_main_v49
  generalize val_main_c_8 (F := F) = y
  exact broadcastInDim_apply _ bcast_S_S1x100000 y i (idx_main_v49 i) (fun a => a.elim0)

-- %50 = stablehlo.multiply %38, %49 : tensor<1x100000xui32>
def val_main_v50 : (⟨S1x100000, .i32⟩ : BufTy).Contents (Elt F) :=
  muli (val_main_v38 (F := F)) (val_main_v49 (F := F))
theorem val_main_v50_apply (i : S1x100000.Idx) :
    val_main_v50 (F := F) i = IntOp.muli (val_main_v38 (F := F) i) (val_main_v49 (F := F) i) := rfl

-- %51 = stablehlo.broadcast_in_dim %48, dims = [0, 1] : (tensor<128x1xui32>) -> tensor<128x100000xui32>
def val_main_v51 (x4 x5 : (⟨S128, .i32⟩ : BufTy).Contents (Elt F)) : (⟨S128x100000, .i32⟩ : BufTy).Contents (Elt F) :=
  broadcastInDim S128x100000 ![0, 1] bcast_S128x1_S128x100000_0_1 (val_main_v48 (F := F) x4 x5)
abbrev idx_main_v51 (i : S128x100000.Idx) : S128x1.Idx := fun a => match a with
  | ⟨0, _⟩ => ⟨(i 0).val, (i 0).isLt⟩
  | ⟨1, _⟩ => ⟨0, Nat.one_pos⟩
theorem val_main_v51_apply (x4 x5 : (⟨S128, .i32⟩ : BufTy).Contents (Elt F)) (i : S128x100000.Idx) :
    val_main_v51 (F := F) x4 x5 i = val_main_v48 (F := F) x4 x5 (idx_main_v51 i) := by
  unfold val_main_v51
  generalize val_main_v48 (F := F) x4 x5 = y
  exact broadcastInDim_apply _ bcast_S128x1_S128x100000_0_1 y i (idx_main_v51 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %52 = stablehlo.broadcast_in_dim %50, dims = [0, 1] : (tensor<1x100000xui32>) -> tensor<128x100000xui32>
def val_main_v52 : (⟨S128x100000, .i32⟩ : BufTy).Contents (Elt F) :=
  broadcastInDim S128x100000 ![0, 1] bcast_S1x100000_S128x100000_0_1 (val_main_v50 (F := F))
abbrev idx_main_v52 (i : S128x100000.Idx) : S1x100000.Idx := fun a => match a with
  | ⟨0, _⟩ => ⟨0, Nat.one_pos⟩
  | ⟨1, _⟩ => ⟨(i 1).val, (i 1).isLt⟩
theorem val_main_v52_apply (i : S128x100000.Idx) :
    val_main_v52 (F := F) i = val_main_v50 (F := F) (idx_main_v52 i) := by
  unfold val_main_v52
  generalize val_main_v50 (F := F) = y
  exact broadcastInDim_apply _ bcast_S1x100000_S128x100000_0_1 y i (idx_main_v52 i) (fun a => match a with
    | ⟨0, _⟩ => by show 0 = if (1 : Nat) = 1 then 0 else (i 0).val; rw [if_pos rfl]
    | ⟨1, _⟩ => by show (i 1).val = if (100000 : Nat) = 1 then 0 else (i 1).val; rw [if_neg (by decide)])

-- %53 = stablehlo.xor %51, %52 : tensor<128x100000xui32>
def val_main_v53 (x4 x5 : (⟨S128, .i32⟩ : BufTy).Contents (Elt F)) : (⟨S128x100000, .i32⟩ : BufTy).Contents (Elt F) :=
  xori (val_main_v51 (F := F) x4 x5) (val_main_v52 (F := F))
theorem val_main_v53_apply (x4 x5 : (⟨S128, .i32⟩ : BufTy).Contents (Elt F)) (i : S128x100000.Idx) :
    val_main_v53 (F := F) x4 x5 i = IntOp.xori (val_main_v51 (F := F) x4 x5 i) (val_main_v52 (F := F) i) := rfl

-- %c_9 = stablehlo.constant dense<16777216> : tensor<ui32>
def val_main_c_9 : (⟨S_, .i32⟩ : BufTy).Contents (Elt F) :=
  constantI S_ 32 16777216#32
theorem val_main_c_9_apply (i : S_.Idx) :
    val_main_c_9 (F := F) i = 16777216#32 := rfl

-- @remainder's %c = stablehlo.constant dense<0> : tensor<ui32>, in %54 = func.call @remainder(…) (record main_call6)
def val_main_call6_c : (⟨S_, .i32⟩ : BufTy).Contents (Elt F) :=
  constantI S_ 32 0#32
theorem val_main_call6_c_apply (i : S_.Idx) :
    val_main_call6_c (F := F) i = 0#32 := rfl

-- @remainder's %0 = stablehlo.compare EQ, %arg1, %c, UNSIGNED : (tensor<ui32>, tensor<ui32>) -> tensor<i1>, in %54 = func.call @remainder(…) (record main_call6)
def val_main_call6_v0 : (⟨S_, .i1⟩ : BufTy).Contents (Elt F) :=
  cmpi .eq (val_main_c_9 (F := F)) (val_main_call6_c (F := F))
theorem val_main_call6_v0_apply (i : S_.Idx) :
    val_main_call6_v0 (F := F) i = IntOp.cmpi .eq (val_main_c_9 (F := F) i) (val_main_call6_c (F := F) i) := rfl

-- @remainder's %c_0 = stablehlo.constant dense<1> : tensor<ui32>, in %54 = func.call @remainder(…) (record main_call6)
def val_main_call6_c_0 : (⟨S_, .i32⟩ : BufTy).Contents (Elt F) :=
  constantI S_ 32 1#32
theorem val_main_call6_c_0_apply (i : S_.Idx) :
    val_main_call6_c_0 (F := F) i = 1#32 := rfl

-- @remainder's %1 = func.call @_where_1(…) (record main_call6_call0) result 0: @_where_1's %0 = stablehlo.select %arg0, %arg1, %arg2 : tensor<i1>, tensor<ui32>
def val_main_call6_v1 : (⟨S_, .i32⟩ : BufTy).Contents (Elt F) :=
  select (val_main_call6_v0 (F := F)) (val_main_call6_c_0 (F := F)) (val_main_c_9 (F := F))
theorem val_main_call6_v1_apply (i : S_.Idx) :
    val_main_call6_v1 (F := F) i = Scalar.select (val_main_call6_v0 (F := F) i) (val_main_call6_c_0 (F := F) i) (val_main_c_9 (F := F) i) := rfl

-- @remainder's %2 = stablehlo.broadcast_in_dim %1, dims = [] : (tensor<ui32>) -> tensor<128x100000xui32>, in %54 = func.call @remainder(…) (record main_call6)
def val_main_call6_v2 : (⟨S128x100000, .i32⟩ : BufTy).Contents (Elt F) :=
  broadcastInDim S128x100000 ![] bcast_S_S128x100000 (val_main_call6_v1 (F := F))
abbrev idx_main_call6_v2 (i : S128x100000.Idx) : S_.Idx := fun a => a.elim0
theorem val_main_call6_v2_apply (i : S128x100000.Idx) :
    val_main_call6_v2 (F := F) i = val_main_call6_v1 (F := F) (idx_main_call6_v2 i) := by
  unfold val_main_call6_v2
  generalize val_main_call6_v1 (F := F) = y
  exact broadcastInDim_apply _ bcast_S_S128x100000 y i (idx_main_call6_v2 i) (fun a => a.elim0)

-- @remainder's %3 = stablehlo.remainder %arg0, %2 : tensor<128x100000xui32>, in %54 = func.call @remainder(…) (record main_call6)
def val_main_call6_v3 (x4 x5 : (⟨S128, .i32⟩ : BufTy).Contents (Elt F)) : (⟨S128x100000, .i32⟩ : BufTy).Contents (Elt F) :=
  Host.remui (val_main_v53 (F := F) x4 x5) (val_main_call6_v2 (F := F))
theorem val_main_call6_v3_apply (x4 x5 : (⟨S128, .i32⟩ : BufTy).Contents (Elt F)) (i : S128x100000.Idx) :
    val_main_call6_v3 (F := F) x4 x5 i = IntOp.remui .host (val_main_v53 (F := F) x4 x5 i) (val_main_call6_v2 (F := F) i) := rfl

-- @remainder's %c_1 = stablehlo.constant dense<0> : tensor<ui32>, in %54 = func.call @remainder(…) (record main_call6)
def val_main_call6_c_1 : (⟨S_, .i32⟩ : BufTy).Contents (Elt F) :=
  constantI S_ 32 0#32
theorem val_main_call6_c_1_apply (i : S_.Idx) :
    val_main_call6_c_1 (F := F) i = 0#32 := rfl

-- @remainder's %4 = stablehlo.broadcast_in_dim %c_1, dims = [] : (tensor<ui32>) -> tensor<128x100000xui32>, in %54 = func.call @remainder(…) (record main_call6)
def val_main_call6_v4 : (⟨S128x100000, .i32⟩ : BufTy).Contents (Elt F) :=
  broadcastInDim S128x100000 ![] bcast_S_S128x100000 (val_main_call6_c_1 (F := F))
abbrev idx_main_call6_v4 (i : S128x100000.Idx) : S_.Idx := fun a => a.elim0
theorem val_main_call6_v4_apply (i : S128x100000.Idx) :
    val_main_call6_v4 (F := F) i = val_main_call6_c_1 (F := F) (idx_main_call6_v4 i) := by
  unfold val_main_call6_v4
  generalize val_main_call6_c_1 (F := F) = y
  exact broadcastInDim_apply _ bcast_S_S128x100000 y i (idx_main_call6_v4 i) (fun a => a.elim0)

-- @remainder's %5 = stablehlo.compare NE, %3, %4, UNSIGNED : (tensor<128x100000xui32>, tensor<128x100000xui32>) -> tensor<128x100000xi1>, in %54 = func.call @remainder(…) (record main_call6)
def val_main_call6_v5 (x4 x5 : (⟨S128, .i32⟩ : BufTy).Contents (Elt F)) : (⟨S128x100000, .i1⟩ : BufTy).Contents (Elt F) :=
  cmpi .ne (val_main_call6_v3 (F := F) x4 x5) (val_main_call6_v4 (F := F))
theorem val_main_call6_v5_apply (x4 x5 : (⟨S128, .i32⟩ : BufTy).Contents (Elt F)) (i : S128x100000.Idx) :
    val_main_call6_v5 (F := F) x4 x5 i = IntOp.cmpi .ne (val_main_call6_v3 (F := F) x4 x5 i) (val_main_call6_v4 (F := F) i) := rfl

-- @remainder's %c_2 = stablehlo.constant dense<0> : tensor<ui32>, in %54 = func.call @remainder(…) (record main_call6)
def val_main_call6_c_2 : (⟨S_, .i32⟩ : BufTy).Contents (Elt F) :=
  constantI S_ 32 0#32
theorem val_main_call6_c_2_apply (i : S_.Idx) :
    val_main_call6_c_2 (F := F) i = 0#32 := rfl

-- @remainder's %6 = stablehlo.broadcast_in_dim %c_2, dims = [] : (tensor<ui32>) -> tensor<128x100000xui32>, in %54 = func.call @remainder(…) (record main_call6)
def val_main_call6_v6 : (⟨S128x100000, .i32⟩ : BufTy).Contents (Elt F) :=
  broadcastInDim S128x100000 ![] bcast_S_S128x100000 (val_main_call6_c_2 (F := F))
abbrev idx_main_call6_v6 (i : S128x100000.Idx) : S_.Idx := fun a => a.elim0
theorem val_main_call6_v6_apply (i : S128x100000.Idx) :
    val_main_call6_v6 (F := F) i = val_main_call6_c_2 (F := F) (idx_main_call6_v6 i) := by
  unfold val_main_call6_v6
  generalize val_main_call6_c_2 (F := F) = y
  exact broadcastInDim_apply _ bcast_S_S128x100000 y i (idx_main_call6_v6 i) (fun a => a.elim0)

-- @remainder's %7 = stablehlo.compare LT, %3, %6, UNSIGNED : (tensor<128x100000xui32>, tensor<128x100000xui32>) -> tensor<128x100000xi1>, in %54 = func.call @remainder(…) (record main_call6)
def val_main_call6_v7 (x4 x5 : (⟨S128, .i32⟩ : BufTy).Contents (Elt F)) : (⟨S128x100000, .i1⟩ : BufTy).Contents (Elt F) :=
  cmpi .ult (val_main_call6_v3 (F := F) x4 x5) (val_main_call6_v6 (F := F))
theorem val_main_call6_v7_apply (x4 x5 : (⟨S128, .i32⟩ : BufTy).Contents (Elt F)) (i : S128x100000.Idx) :
    val_main_call6_v7 (F := F) x4 x5 i = IntOp.cmpi .ult (val_main_call6_v3 (F := F) x4 x5 i) (val_main_call6_v6 (F := F) i) := rfl

-- @remainder's %c_3 = stablehlo.constant dense<0> : tensor<ui32>, in %54 = func.call @remainder(…) (record main_call6)
def val_main_call6_c_3 : (⟨S_, .i32⟩ : BufTy).Contents (Elt F) :=
  constantI S_ 32 0#32
theorem val_main_call6_c_3_apply (i : S_.Idx) :
    val_main_call6_c_3 (F := F) i = 0#32 := rfl

-- @remainder's %8 = stablehlo.compare LT, %1, %c_3, UNSIGNED : (tensor<ui32>, tensor<ui32>) -> tensor<i1>, in %54 = func.call @remainder(…) (record main_call6)
def val_main_call6_v8 : (⟨S_, .i1⟩ : BufTy).Contents (Elt F) :=
  cmpi .ult (val_main_call6_v1 (F := F)) (val_main_call6_c_3 (F := F))
theorem val_main_call6_v8_apply (i : S_.Idx) :
    val_main_call6_v8 (F := F) i = IntOp.cmpi .ult (val_main_call6_v1 (F := F) i) (val_main_call6_c_3 (F := F) i) := rfl

-- @remainder's %9 = stablehlo.broadcast_in_dim %8, dims = [] : (tensor<i1>) -> tensor<128x100000xi1>, in %54 = func.call @remainder(…) (record main_call6)
def val_main_call6_v9 : (⟨S128x100000, .i1⟩ : BufTy).Contents (Elt F) :=
  broadcastInDim S128x100000 ![] bcast_S_S128x100000 (val_main_call6_v8 (F := F))
abbrev idx_main_call6_v9 (i : S128x100000.Idx) : S_.Idx := fun a => a.elim0
theorem val_main_call6_v9_apply (i : S128x100000.Idx) :
    val_main_call6_v9 (F := F) i = val_main_call6_v8 (F := F) (idx_main_call6_v9 i) := by
  unfold val_main_call6_v9
  generalize val_main_call6_v8 (F := F) = y
  exact broadcastInDim_apply _ bcast_S_S128x100000 y i (idx_main_call6_v9 i) (fun a => a.elim0)

-- @remainder's %10 = stablehlo.compare NE, %7, %9, UNSIGNED : (tensor<128x100000xi1>, tensor<128x100000xi1>) -> tensor<128x100000xi1>, in %54 = func.call @remainder(…) (record main_call6)
def val_main_call6_v10 (x4 x5 : (⟨S128, .i32⟩ : BufTy).Contents (Elt F)) : (⟨S128x100000, .i1⟩ : BufTy).Contents (Elt F) :=
  cmpi .ne (val_main_call6_v7 (F := F) x4 x5) (val_main_call6_v9 (F := F))
theorem val_main_call6_v10_apply (x4 x5 : (⟨S128, .i32⟩ : BufTy).Contents (Elt F)) (i : S128x100000.Idx) :
    val_main_call6_v10 (F := F) x4 x5 i = IntOp.cmpi .ne (val_main_call6_v7 (F := F) x4 x5 i) (val_main_call6_v9 (F := F) i) := rfl

-- @remainder's %11 = stablehlo.and %10, %5 : tensor<128x100000xi1>, in %54 = func.call @remainder(…) (record main_call6)
def val_main_call6_v11 (x4 x5 : (⟨S128, .i32⟩ : BufTy).Contents (Elt F)) : (⟨S128x100000, .i1⟩ : BufTy).Contents (Elt F) :=
  andi (val_main_call6_v10 (F := F) x4 x5) (val_main_call6_v5 (F := F) x4 x5)
theorem val_main_call6_v11_apply (x4 x5 : (⟨S128, .i32⟩ : BufTy).Contents (Elt F)) (i : S128x100000.Idx) :
    val_main_call6_v11 (F := F) x4 x5 i = IntOp.andi (val_main_call6_v10 (F := F) x4 x5 i) (val_main_call6_v5 (F := F) x4 x5 i) := rfl

-- @remainder's %12 = stablehlo.broadcast_in_dim %1, dims = [] : (tensor<ui32>) -> tensor<128x100000xui32>, in %54 = func.call @remainder(…) (record main_call6)
def val_main_call6_v12 : (⟨S128x100000, .i32⟩ : BufTy).Contents (Elt F) :=
  broadcastInDim S128x100000 ![] bcast_S_S128x100000 (val_main_call6_v1 (F := F))
abbrev idx_main_call6_v12 (i : S128x100000.Idx) : S_.Idx := fun a => a.elim0
theorem val_main_call6_v12_apply (i : S128x100000.Idx) :
    val_main_call6_v12 (F := F) i = val_main_call6_v1 (F := F) (idx_main_call6_v12 i) := by
  unfold val_main_call6_v12
  generalize val_main_call6_v1 (F := F) = y
  exact broadcastInDim_apply _ bcast_S_S128x100000 y i (idx_main_call6_v12 i) (fun a => a.elim0)

-- @remainder's %13 = stablehlo.add %3, %12 : tensor<128x100000xui32>, in %54 = func.call @remainder(…) (record main_call6)
def val_main_call6_v13 (x4 x5 : (⟨S128, .i32⟩ : BufTy).Contents (Elt F)) : (⟨S128x100000, .i32⟩ : BufTy).Contents (Elt F) :=
  addi (val_main_call6_v3 (F := F) x4 x5) (val_main_call6_v12 (F := F))
theorem val_main_call6_v13_apply (x4 x5 : (⟨S128, .i32⟩ : BufTy).Contents (Elt F)) (i : S128x100000.Idx) :
    val_main_call6_v13 (F := F) x4 x5 i = IntOp.addi (val_main_call6_v3 (F := F) x4 x5 i) (val_main_call6_v12 (F := F) i) := rfl

-- %54 = func.call @remainder(…) (record main_call6) result 0: @remainder's %14 = stablehlo.select %11, %13, %3 : tensor<128x100000xi1>, tensor<128x100000xui32>
def val_main_v54 (x4 x5 : (⟨S128, .i32⟩ : BufTy).Contents (Elt F)) : (⟨S128x100000, .i32⟩ : BufTy).Contents (Elt F) :=
  select (val_main_call6_v11 (F := F) x4 x5) (val_main_call6_v13 (F := F) x4 x5) (val_main_call6_v3 (F := F) x4 x5)
theorem val_main_v54_apply (x4 x5 : (⟨S128, .i32⟩ : BufTy).Contents (Elt F)) (i : S128x100000.Idx) :
    val_main_v54 (F := F) x4 x5 i = Scalar.select (val_main_call6_v11 (F := F) x4 x5 i) (val_main_call6_v13 (F := F) x4 x5 i) (val_main_call6_v3 (F := F) x4 x5 i) := rfl

-- %55 = stablehlo.convert %54 : (tensor<128x100000xui32>) -> tensor<128x100000xf32>
def val_main_v55 (x4 x5 : (⟨S128, .i32⟩ : BufTy).Contents (Elt F)) : (⟨S128x100000, .f32⟩ : BufTy).Contents (Elt F) :=
  uitofp .f32 (val_main_v54 (F := F) x4 x5)
theorem val_main_v55_apply (x4 x5 : (⟨S128, .i32⟩ : BufTy).Contents (Elt F)) (i : S128x100000.Idx) :
    val_main_v55 (F := F) x4 x5 i = FloatOps.uitofp .f32 (val_main_v54 (F := F) x4 x5 i) := rfl

-- %cst_10 = stablehlo.constant dense<0x4B800000> : tensor<f32>
def val_main_cst_10 : (⟨S_, .f32⟩ : BufTy).Contents (Elt F) :=
  constant S_ .f32 0x4B800000#32
theorem val_main_cst_10_apply (i : S_.Idx) :
    val_main_cst_10 (F := F) i = FloatOps.ofBits .f32 0x4B800000#32 := rfl

-- %56 = stablehlo.broadcast_in_dim %cst_10, dims = [] : (tensor<f32>) -> tensor<128x100000xf32>
def val_main_v56 : (⟨S128x100000, .f32⟩ : BufTy).Contents (Elt F) :=
  broadcastInDim S128x100000 ![] bcast_S_S128x100000 (val_main_cst_10 (F := F))
abbrev idx_main_v56 (i : S128x100000.Idx) : S_.Idx := fun a => a.elim0
theorem val_main_v56_apply (i : S128x100000.Idx) :
    val_main_v56 (F := F) i = val_main_cst_10 (F := F) (idx_main_v56 i) := by
  unfold val_main_v56
  generalize val_main_cst_10 (F := F) = y
  exact broadcastInDim_apply _ bcast_S_S128x100000 y i (idx_main_v56 i) (fun a => a.elim0)

-- %57 = stablehlo.divide %55, %56 : tensor<128x100000xf32>
def val_main_v57 (x4 x5 : (⟨S128, .i32⟩ : BufTy).Contents (Elt F)) : (⟨S128x100000, .f32⟩ : BufTy).Contents (Elt F) :=
  Host.divf (val_main_v55 (F := F) x4 x5) (val_main_v56 (F := F))
theorem val_main_v57_apply (x4 x5 : (⟨S128, .i32⟩ : BufTy).Contents (Elt F)) (i : S128x100000.Idx) :
    val_main_v57 (F := F) x4 x5 i = FloatOps.hostDivf (val_main_v55 (F := F) x4 x5 i) (val_main_v56 (F := F) i) := rfl

-- %cst_11 = stablehlo.constant dense<1.000000e-10> : tensor<f32>
def val_main_cst_11 : (⟨S_, .f32⟩ : BufTy).Contents (Elt F) :=
  constant S_ .f32 0x2EDBE6FF#32
theorem val_main_cst_11_apply (i : S_.Idx) :
    val_main_cst_11 (F := F) i = FloatOps.ofBits .f32 0x2EDBE6FF#32 := rfl

-- %cst_12 = stablehlo.constant dense<1.000000e+00> : tensor<f32>
def val_main_cst_12 : (⟨S_, .f32⟩ : BufTy).Contents (Elt F) :=
  constant S_ .f32 0x3F800000#32
theorem val_main_cst_12_apply (i : S_.Idx) :
    val_main_cst_12 (F := F) i = FloatOps.ofBits .f32 0x3F800000#32 := rfl

-- @clip's %0 = stablehlo.convert %arg1 : tensor<f32>, in %58 = func.call @clip(…) (record main_call7)
def val_main_call7_v0 : (⟨S_, .f32⟩ : BufTy).Contents (Elt F) :=
  id (val_main_cst_11 (F := F))
theorem val_main_call7_v0_apply (i : S_.Idx) :
    val_main_call7_v0 (F := F) i = (val_main_cst_11 (F := F) i) := rfl

-- @clip's %1 = stablehlo.broadcast_in_dim %0, dims = [] : (tensor<f32>) -> tensor<128x100000xf32>, in %58 = func.call @clip(…) (record main_call7)
def val_main_call7_v1 : (⟨S128x100000, .f32⟩ : BufTy).Contents (Elt F) :=
  broadcastInDim S128x100000 ![] bcast_S_S128x100000 (val_main_call7_v0 (F := F))
abbrev idx_main_call7_v1 (i : S128x100000.Idx) : S_.Idx := fun a => a.elim0
theorem val_main_call7_v1_apply (i : S128x100000.Idx) :
    val_main_call7_v1 (F := F) i = val_main_call7_v0 (F := F) (idx_main_call7_v1 i) := by
  unfold val_main_call7_v1
  generalize val_main_call7_v0 (F := F) = y
  exact broadcastInDim_apply _ bcast_S_S128x100000 y i (idx_main_call7_v1 i) (fun a => a.elim0)

-- @clip's %2 = stablehlo.maximum %1, %arg0 : tensor<128x100000xf32>, in %58 = func.call @clip(…) (record main_call7)
def val_main_call7_v2 (x4 x5 : (⟨S128, .i32⟩ : BufTy).Contents (Elt F)) : (⟨S128x100000, .f32⟩ : BufTy).Contents (Elt F) :=
  maximumf (val_main_call7_v1 (F := F)) (val_main_v57 (F := F) x4 x5)
theorem val_main_call7_v2_apply (x4 x5 : (⟨S128, .i32⟩ : BufTy).Contents (Elt F)) (i : S128x100000.Idx) :
    val_main_call7_v2 (F := F) x4 x5 i = FloatOps.maximumf (val_main_call7_v1 (F := F) i) (val_main_v57 (F := F) x4 x5 i) := rfl

-- @clip's %3 = stablehlo.convert %arg2 : tensor<f32>, in %58 = func.call @clip(…) (record main_call7)
def val_main_call7_v3 : (⟨S_, .f32⟩ : BufTy).Contents (Elt F) :=
  id (val_main_cst_12 (F := F))
theorem val_main_call7_v3_apply (i : S_.Idx) :
    val_main_call7_v3 (F := F) i = (val_main_cst_12 (F := F) i) := rfl

-- @clip's %4 = stablehlo.broadcast_in_dim %3, dims = [] : (tensor<f32>) -> tensor<128x100000xf32>, in %58 = func.call @clip(…) (record main_call7)
def val_main_call7_v4 : (⟨S128x100000, .f32⟩ : BufTy).Contents (Elt F) :=
  broadcastInDim S128x100000 ![] bcast_S_S128x100000 (val_main_call7_v3 (F := F))
abbrev idx_main_call7_v4 (i : S128x100000.Idx) : S_.Idx := fun a => a.elim0
theorem val_main_call7_v4_apply (i : S128x100000.Idx) :
    val_main_call7_v4 (F := F) i = val_main_call7_v3 (F := F) (idx_main_call7_v4 i) := by
  unfold val_main_call7_v4
  generalize val_main_call7_v3 (F := F) = y
  exact broadcastInDim_apply _ bcast_S_S128x100000 y i (idx_main_call7_v4 i) (fun a => a.elim0)

-- %58 = func.call @clip(…) (record main_call7) result 0: @clip's %5 = stablehlo.minimum %4, %2 : tensor<128x100000xf32>
def val_main_v58 (x4 x5 : (⟨S128, .i32⟩ : BufTy).Contents (Elt F)) : (⟨S128x100000, .f32⟩ : BufTy).Contents (Elt F) :=
  minimumf (val_main_call7_v4 (F := F)) (val_main_call7_v2 (F := F) x4 x5)
theorem val_main_v58_apply (x4 x5 : (⟨S128, .i32⟩ : BufTy).Contents (Elt F)) (i : S128x100000.Idx) :
    val_main_v58 (F := F) x4 x5 i = FloatOps.minimumf (val_main_call7_v4 (F := F) i) (val_main_call7_v2 (F := F) x4 x5 i) := rfl

-- %59 = stablehlo.log %58 : tensor<128x100000xf32>
def val_main_v59 (x4 x5 : (⟨S128, .i32⟩ : BufTy).Contents (Elt F)) : (⟨S128x100000, .f32⟩ : BufTy).Contents (Elt F) :=
  Host.log (val_main_v58 (F := F) x4 x5)
theorem val_main_v59_apply (x4 x5 : (⟨S128, .i32⟩ : BufTy).Contents (Elt F)) (i : S128x100000.Idx) :
    val_main_v59 (F := F) x4 x5 i = FloatOps.hostUnary .log (val_main_v58 (F := F) x4 x5 i) := rfl

-- %60 = stablehlo.negate %59 : tensor<128x100000xf32>
def val_main_v60 (x4 x5 : (⟨S128, .i32⟩ : BufTy).Contents (Elt F)) : (⟨S128x100000, .f32⟩ : BufTy).Contents (Elt F) :=
  Host.negf (val_main_v59 (F := F) x4 x5)
theorem val_main_v60_apply (x4 x5 : (⟨S128, .i32⟩ : BufTy).Contents (Elt F)) (i : S128x100000.Idx) :
    val_main_v60 (F := F) x4 x5 i = FloatOps.hostNegf (val_main_v59 (F := F) x4 x5 i) := rfl

-- %61 = stablehlo.log %60 : tensor<128x100000xf32>
def val_main_v61 (x4 x5 : (⟨S128, .i32⟩ : BufTy).Contents (Elt F)) : (⟨S128x100000, .f32⟩ : BufTy).Contents (Elt F) :=
  Host.log (val_main_v60 (F := F) x4 x5)
theorem val_main_v61_apply (x4 x5 : (⟨S128, .i32⟩ : BufTy).Contents (Elt F)) (i : S128x100000.Idx) :
    val_main_v61 (F := F) x4 x5 i = FloatOps.hostUnary .log (val_main_v60 (F := F) x4 x5 i) := rfl

-- %62 = stablehlo.negate %61 : tensor<128x100000xf32>
def val_main_v62 (x4 x5 : (⟨S128, .i32⟩ : BufTy).Contents (Elt F)) : (⟨S128x100000, .f32⟩ : BufTy).Contents (Elt F) :=
  Host.negf (val_main_v61 (F := F) x4 x5)
theorem val_main_v62_apply (x4 x5 : (⟨S128, .i32⟩ : BufTy).Contents (Elt F)) (i : S128x100000.Idx) :
    val_main_v62 (F := F) x4 x5 i = FloatOps.hostNegf (val_main_v61 (F := F) x4 x5 i) := rfl

-- %63 = stablehlo.add %36, %62 : tensor<128x100000xf32>
def val_main_v63 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x100000, .f32⟩ : BufTy).Contents (Elt F) :=
  addf (val_main_v36 (F := F) x0 x1 x2 x3) (val_main_v62 (F := F) x4 x5)
theorem val_main_v63_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x100000.Idx) :
    val_main_v63 (F := F) x0 x1 x2 x3 x4 x5 i = FloatOps.addf (val_main_v36 (F := F) x0 x1 x2 x3 i) (val_main_v62 (F := F) x4 x5 i) := rfl

-- @argmax's %0 = stablehlo.iota dim = 1 : tensor<128x100000xi32>, in %64 = func.call @argmax(…) (record main_call8)
def val_main_call8_v0 : (⟨S128x100000, .i32⟩ : BufTy).Contents (Elt F) :=
  iotaInDim S128x100000 32 1
theorem val_main_call8_v0_apply (i : S128x100000.Idx) :
    val_main_call8_v0 (F := F) i = BitVec.ofNat 32 (i 1).val := rfl

-- @argmax's %cst = stablehlo.constant dense<0xFF800000> : tensor<f32>, in %64 = func.call @argmax(…) (record main_call8)
def val_main_call8_cst : (⟨S_, .f32⟩ : BufTy).Contents (Elt F) :=
  constant S_ .f32 0xFF800000#32
theorem val_main_call8_cst_apply (i : S_.Idx) :
    val_main_call8_cst (F := F) i = FloatOps.ofBits .f32 0xFF800000#32 := rfl

-- @argmax's %c = stablehlo.constant dense<0> : tensor<i32>, in %64 = func.call @argmax(…) (record main_call8)
def val_main_call8_c : (⟨S_, .i32⟩ : BufTy).Contents (Elt F) :=
  constantI S_ 32 0#32
theorem val_main_call8_c_apply (i : S_.Idx) :
    val_main_call8_c (F := F) i = 0#32 := rfl

-- @argmax's %1:2 = stablehlo.reduce(%arg0 init: %cst), (%0 init: %c) across dimensions = [1] : (tensor<128x100000xf32>, tensor<128x100000xi32>, tensor<f32>, tensor<i32>) -> (tensor<128xf32>, tensor<128xi32>) reducer(%arg1: tensor<f32>, %arg3: tensor<f32>) (%arg2: tensor<i32>, %arg4: tensor<i32>) {, in %64 = func.call @argmax(…) (record main_call8)
def val_main_call8_v1_0 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128, .f32⟩ : BufTy).Contents (Elt F) :=
  ((fun j => (Host.argReduce reducer_argmax_f32_i32 (val_main_v63 (F := F) x0 x1 x2 x3 x4 x5) (val_main_call8_v0 (F := F)) (val_main_call8_cst (F := F)) (val_main_call8_c (F := F)) reducesTo_S128x100000_S128_d1 h_S_ j).1))

-- %64 = func.call @argmax(…) (record main_call8) result 0: @argmax's %1:2 = stablehlo.reduce(%arg0 init: %cst), (%0 init: %c) across dimensions = [1] : (tensor<128x100000xf32>, tensor<128x100000xi32>, tensor<f32>, tensor<i32>) -> (tensor<128xf32>, tensor<128xi32>) reducer(%arg1: tensor<f32>, %arg3: tensor<f32>) (%arg2: tensor<i32>, %arg4: tensor<i32>) {
def val_main_v64 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128, .i32⟩ : BufTy).Contents (Elt F) :=
  ((fun j => (Host.argReduce reducer_argmax_f32_i32 (val_main_v63 (F := F) x0 x1 x2 x3 x4 x5) (val_main_call8_v0 (F := F)) (val_main_call8_cst (F := F)) (val_main_call8_c (F := F)) reducesTo_S128x100000_S128_d1 h_S_ j).2))

-- %65 = stablehlo.broadcast_in_dim %64, dims = [0] : (tensor<128xi32>) -> tensor<128x1xi32>
def val_main_v65 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i32⟩ : BufTy).Contents (Elt F) :=
  broadcastInDim S128x1 ![0] bcast_S128_S128x1_0 (val_main_v64 (F := F) x0 x1 x2 x3 x4 x5)
abbrev idx_main_v65 (i : S128x1.Idx) : S128.Idx := fun a => match a with
  | ⟨0, _⟩ => ⟨(i 0).val, (i 0).isLt⟩
theorem val_main_v65_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1.Idx) :
    val_main_v65 (F := F) x0 x1 x2 x3 x4 x5 i = val_main_v64 (F := F) x0 x1 x2 x3 x4 x5 (idx_main_v65 i) := by
  unfold val_main_v65
  generalize val_main_v64 (F := F) x0 x1 x2 x3 x4 x5 = y
  exact broadcastInDim_apply _ bcast_S128_S128x1_0 y i (idx_main_v65 i) (fun a => match a with
    | ⟨0, _⟩ => by show (i 0).val = if (128 : Nat) = 1 then 0 else (i 0).val; rw [if_neg (by decide)])

-- @take_along_axis_2's %c = stablehlo.constant dense<0> : tensor<i32>, in %66 = func.call @take_along_axis_2(…) (record main_call9)
def val_main_call9_c : (⟨S_, .i32⟩ : BufTy).Contents (Elt F) :=
  constantI S_ 32 0#32
theorem val_main_call9_c_apply (i : S_.Idx) :
    val_main_call9_c (F := F) i = 0#32 := rfl

-- @take_along_axis_2's %0 = stablehlo.broadcast_in_dim %c, dims = [] : (tensor<i32>) -> tensor<128x1xi32>, in %66 = func.call @take_along_axis_2(…) (record main_call9)
def val_main_call9_v0 : (⟨S128x1, .i32⟩ : BufTy).Contents (Elt F) :=
  broadcastInDim S128x1 ![] bcast_S_S128x1 (val_main_call9_c (F := F))
abbrev idx_main_call9_v0 (i : S128x1.Idx) : S_.Idx := fun a => a.elim0
theorem val_main_call9_v0_apply (i : S128x1.Idx) :
    val_main_call9_v0 (F := F) i = val_main_call9_c (F := F) (idx_main_call9_v0 i) := by
  unfold val_main_call9_v0
  generalize val_main_call9_c (F := F) = y
  exact broadcastInDim_apply _ bcast_S_S128x1 y i (idx_main_call9_v0 i) (fun a => a.elim0)

-- @take_along_axis_2's %1 = stablehlo.compare LT, %arg1, %0, SIGNED : (tensor<128x1xi32>, tensor<128x1xi32>) -> tensor<128x1xi1>, in %66 = func.call @take_along_axis_2(…) (record main_call9)
def val_main_call9_v1 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i1⟩ : BufTy).Contents (Elt F) :=
  cmpi .slt (val_main_v65 (F := F) x0 x1 x2 x3 x4 x5) (val_main_call9_v0 (F := F))
theorem val_main_call9_v1_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1.Idx) :
    val_main_call9_v1 (F := F) x0 x1 x2 x3 x4 x5 i = IntOp.cmpi .slt (val_main_v65 (F := F) x0 x1 x2 x3 x4 x5 i) (val_main_call9_v0 (F := F) i) := rfl

-- @take_along_axis_2's %c_0 = stablehlo.constant dense<100000> : tensor<i32>, in %66 = func.call @take_along_axis_2(…) (record main_call9)
def val_main_call9_c_0 : (⟨S_, .i32⟩ : BufTy).Contents (Elt F) :=
  constantI S_ 32 100000#32
theorem val_main_call9_c_0_apply (i : S_.Idx) :
    val_main_call9_c_0 (F := F) i = 100000#32 := rfl

-- @take_along_axis_2's %2 = stablehlo.broadcast_in_dim %c_0, dims = [] : (tensor<i32>) -> tensor<128x1xi32>, in %66 = func.call @take_along_axis_2(…) (record main_call9)
def val_main_call9_v2 : (⟨S128x1, .i32⟩ : BufTy).Contents (Elt F) :=
  broadcastInDim S128x1 ![] bcast_S_S128x1 (val_main_call9_c_0 (F := F))
abbrev idx_main_call9_v2 (i : S128x1.Idx) : S_.Idx := fun a => a.elim0
theorem val_main_call9_v2_apply (i : S128x1.Idx) :
    val_main_call9_v2 (F := F) i = val_main_call9_c_0 (F := F) (idx_main_call9_v2 i) := by
  unfold val_main_call9_v2
  generalize val_main_call9_c_0 (F := F) = y
  exact broadcastInDim_apply _ bcast_S_S128x1 y i (idx_main_call9_v2 i) (fun a => a.elim0)

-- @take_along_axis_2's %3 = stablehlo.add %arg1, %2 : tensor<128x1xi32>, in %66 = func.call @take_along_axis_2(…) (record main_call9)
def val_main_call9_v3 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i32⟩ : BufTy).Contents (Elt F) :=
  addi (val_main_v65 (F := F) x0 x1 x2 x3 x4 x5) (val_main_call9_v2 (F := F))
theorem val_main_call9_v3_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1.Idx) :
    val_main_call9_v3 (F := F) x0 x1 x2 x3 x4 x5 i = IntOp.addi (val_main_v65 (F := F) x0 x1 x2 x3 x4 x5 i) (val_main_call9_v2 (F := F) i) := rfl

-- @take_along_axis_2's %4 = stablehlo.select %1, %3, %arg1 : tensor<128x1xi1>, tensor<128x1xi32>, in %66 = func.call @take_along_axis_2(…) (record main_call9)
def val_main_call9_v4 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i32⟩ : BufTy).Contents (Elt F) :=
  select (val_main_call9_v1 (F := F) x0 x1 x2 x3 x4 x5) (val_main_call9_v3 (F := F) x0 x1 x2 x3 x4 x5) (val_main_v65 (F := F) x0 x1 x2 x3 x4 x5)
theorem val_main_call9_v4_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1.Idx) :
    val_main_call9_v4 (F := F) x0 x1 x2 x3 x4 x5 i = Scalar.select (val_main_call9_v1 (F := F) x0 x1 x2 x3 x4 x5 i) (val_main_call9_v3 (F := F) x0 x1 x2 x3 x4 x5 i) (val_main_v65 (F := F) x0 x1 x2 x3 x4 x5 i) := rfl

-- @take_along_axis_2's %5 = stablehlo.reshape %4 : (tensor<128x1xi32>) -> tensor<128x1x1xi32>, in %66 = func.call @take_along_axis_2(…) (record main_call9)
def val_main_call9_v5 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1x1, .i32⟩ : BufTy).Contents (Elt F) :=
  shapeCast _ (val_main_call9_v4 (F := F) x0 x1 x2 x3 x4 x5) shapeCasts_S128x1_S128x1x1
abbrev idx_main_call9_v5 (i : S128x1x1.Idx) : S128x1.Idx := fun a => match a with
  | ⟨0, _⟩ => ⟨(((i 0).val * 1 + (i 1).val) * 1 + (i 2).val) / 1, by have h0 : (i 0).val < 128 := (i 0).isLt; have h1 : (i 1).val < 1 := (i 1).isLt; have h2 : (i 2).val < 1 := (i 2).isLt; show (((i 0).val * 1 + (i 1).val) * 1 + (i 2).val) / 1 < 128; omega⟩
  | ⟨1, _⟩ => ⟨0, Nat.one_pos⟩
theorem val_main_call9_v5_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1x1.Idx) :
    val_main_call9_v5 (F := F) x0 x1 x2 x3 x4 x5 i = val_main_call9_v4 (F := F) x0 x1 x2 x3 x4 x5 (idx_main_call9_v5 i) := by
  unfold val_main_call9_v5
  generalize val_main_call9_v4 (F := F) x0 x1 x2 x3 x4 x5 = y
  exact shapeCast_apply y shapeCasts_S128x1_S128x1x1 i (idx_main_call9_v5 i)
    (by rewrite [Shape.rowMajor_val_two, Shape.rowMajor_val_three]; have h0 : (i 0).val < 128 := (i 0).isLt; have h1 : (i 1).val < 1 := (i 1).isLt; have h2 : (i 2).val < 1 := (i 2).isLt; show (((i 0).val * 1 + (i 1).val) * 1 + (i 2).val) / 1 * 1 + 0 = ((i 0).val * 1 + (i 1).val) * 1 + (i 2).val; omega)

-- @take_along_axis_2's %c_1 = stablehlo.constant dense<99999> : tensor<1xi32>, in %66 = func.call @take_along_axis_2(…) (record main_call9)
def val_main_call9_c_1 : (⟨S1, .i32⟩ : BufTy).Contents (Elt F) :=
  constantI S1 32 99999#32
theorem val_main_call9_c_1_apply (i : S1.Idx) :
    val_main_call9_c_1 (F := F) i = 99999#32 := rfl

-- @take_along_axis_2's %c_2 = stablehlo.constant dense<0> : tensor<i32>, in %66 = func.call @take_along_axis_2(…) (record main_call9)
def val_main_call9_c_2 : (⟨S_, .i32⟩ : BufTy).Contents (Elt F) :=
  constantI S_ 32 0#32
theorem val_main_call9_c_2_apply (i : S_.Idx) :
    val_main_call9_c_2 (F := F) i = 0#32 := rfl

-- @take_along_axis_2's %6 = stablehlo.broadcast_in_dim %c_2, dims = [] : (tensor<i32>) -> tensor<128x1x1xi32>, in %66 = func.call @take_along_axis_2(…) (record main_call9)
def val_main_call9_v6 : (⟨S128x1x1, .i32⟩ : BufTy).Contents (Elt F) :=
  broadcastInDim S128x1x1 ![] bcast_S_S128x1x1 (val_main_call9_c_2 (F := F))
abbrev idx_main_call9_v6 (i : S128x1x1.Idx) : S_.Idx := fun a => a.elim0
theorem val_main_call9_v6_apply (i : S128x1x1.Idx) :
    val_main_call9_v6 (F := F) i = val_main_call9_c_2 (F := F) (idx_main_call9_v6 i) := by
  unfold val_main_call9_v6
  generalize val_main_call9_c_2 (F := F) = y
  exact broadcastInDim_apply _ bcast_S_S128x1x1 y i (idx_main_call9_v6 i) (fun a => a.elim0)

-- @take_along_axis_2's %7 = stablehlo.compare GE, %5, %6, SIGNED : (tensor<128x1x1xi32>, tensor<128x1x1xi32>) -> tensor<128x1x1xi1>, in %66 = func.call @take_along_axis_2(…) (record main_call9)
def val_main_call9_v7 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1x1, .i1⟩ : BufTy).Contents (Elt F) :=
  cmpi .sge (val_main_call9_v5 (F := F) x0 x1 x2 x3 x4 x5) (val_main_call9_v6 (F := F))
theorem val_main_call9_v7_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1x1.Idx) :
    val_main_call9_v7 (F := F) x0 x1 x2 x3 x4 x5 i = IntOp.cmpi .sge (val_main_call9_v5 (F := F) x0 x1 x2 x3 x4 x5 i) (val_main_call9_v6 (F := F) i) := rfl

-- @take_along_axis_2's %8 = stablehlo.broadcast_in_dim %c_1, dims = [2] : (tensor<1xi32>) -> tensor<1x1x1xi32>, in %66 = func.call @take_along_axis_2(…) (record main_call9)
def val_main_call9_v8 : (⟨S1x1x1, .i32⟩ : BufTy).Contents (Elt F) :=
  broadcastInDim S1x1x1 ![2] bcast_S1_S1x1x1_2 (val_main_call9_c_1 (F := F))
abbrev idx_main_call9_v8 (i : S1x1x1.Idx) : S1.Idx := fun a => match a with
  | ⟨0, _⟩ => ⟨0, Nat.one_pos⟩
theorem val_main_call9_v8_apply (i : S1x1x1.Idx) :
    val_main_call9_v8 (F := F) i = val_main_call9_c_1 (F := F) (idx_main_call9_v8 i) := by
  unfold val_main_call9_v8
  generalize val_main_call9_c_1 (F := F) = y
  exact broadcastInDim_apply _ bcast_S1_S1x1x1_2 y i (idx_main_call9_v8 i) (fun a => match a with
    | ⟨0, _⟩ => by show 0 = if (1 : Nat) = 1 then 0 else (i 2).val; rw [if_pos rfl])

-- @take_along_axis_2's %9 = stablehlo.broadcast_in_dim %8, dims = [0, 1, 2] : (tensor<1x1x1xi32>) -> tensor<128x1x1xi32>, in %66 = func.call @take_along_axis_2(…) (record main_call9)
def val_main_call9_v9 : (⟨S128x1x1, .i32⟩ : BufTy).Contents (Elt F) :=
  broadcastInDim S128x1x1 ![0, 1, 2] bcast_S1x1x1_S128x1x1_0_1_2 (val_main_call9_v8 (F := F))
abbrev idx_main_call9_v9 (i : S128x1x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call9_v9_apply (i : S128x1x1.Idx) :
    val_main_call9_v9 (F := F) i = val_main_call9_v8 (F := F) (idx_main_call9_v9 i) := by
  unfold val_main_call9_v9
  generalize val_main_call9_v8 (F := F) = y
  exact broadcastInDim_apply _ bcast_S1x1x1_S128x1x1_0_1_2 y i (idx_main_call9_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis_2's %10 = stablehlo.compare LE, %5, %9, SIGNED : (tensor<128x1x1xi32>, tensor<128x1x1xi32>) -> tensor<128x1x1xi1>, in %66 = func.call @take_along_axis_2(…) (record main_call9)
def val_main_call9_v10 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1x1, .i1⟩ : BufTy).Contents (Elt F) :=
  cmpi .sle (val_main_call9_v5 (F := F) x0 x1 x2 x3 x4 x5) (val_main_call9_v9 (F := F))
theorem val_main_call9_v10_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1x1.Idx) :
    val_main_call9_v10 (F := F) x0 x1 x2 x3 x4 x5 i = IntOp.cmpi .sle (val_main_call9_v5 (F := F) x0 x1 x2 x3 x4 x5 i) (val_main_call9_v9 (F := F) i) := rfl

-- @take_along_axis_2's %11 = stablehlo.and %7, %10 : tensor<128x1x1xi1>, in %66 = func.call @take_along_axis_2(…) (record main_call9)
def val_main_call9_v11 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1x1, .i1⟩ : BufTy).Contents (Elt F) :=
  andi (val_main_call9_v7 (F := F) x0 x1 x2 x3 x4 x5) (val_main_call9_v10 (F := F) x0 x1 x2 x3 x4 x5)
theorem val_main_call9_v11_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1x1.Idx) :
    val_main_call9_v11 (F := F) x0 x1 x2 x3 x4 x5 i = IntOp.andi (val_main_call9_v7 (F := F) x0 x1 x2 x3 x4 x5 i) (val_main_call9_v10 (F := F) x0 x1 x2 x3 x4 x5 i) := rfl

-- @take_along_axis_2's %c_3 = stablehlo.constant dense<true> : tensor<i1>, in %66 = func.call @take_along_axis_2(…) (record main_call9)
def val_main_call9_c_3 : (⟨S_, .i1⟩ : BufTy).Contents (Elt F) :=
  constantI S_ 1 1#1
theorem val_main_call9_c_3_apply (i : S_.Idx) :
    val_main_call9_c_3 (F := F) i = 1#1 := rfl

-- @take_along_axis_2's %12 = stablehlo.reduce(%11 init: %c_3) applies stablehlo.and across dimensions = [2] : (tensor<128x1x1xi1>, tensor<i1>) -> tensor<128x1xi1> {, in %66 = func.call @take_along_axis_2(…) (record main_call9)
def val_main_call9_v12 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i1⟩ : BufTy).Contents (Elt F) :=
  Host.reduce IntOp.andi (val_main_call9_v11 (F := F) x0 x1 x2 x3 x4 x5) (val_main_call9_c_3 (F := F)) reducesTo_S128x1x1_S128x1_d2 h_S_

-- @take_along_axis_2's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<128x100000xi32>, tensor<128x1x1xi32>) -> tensor<128x1xi32>, in %66 = func.call @take_along_axis_2(…) (record main_call9)
def val_main_call9_v13 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i32⟩ : BufTy).Contents (Elt F) :=
  Host.gather gather_S128x100000_S128x1x1_S128x1_n_1_0_0_1_2_11 (val_main_v12 (F := F) x0) (val_main_call9_v5 (F := F) x0 x1 x2 x3 x4 x5)

-- @take_along_axis_2's %c_4 = stablehlo.constant dense<-2147483648> : tensor<i32>, in %66 = func.call @take_along_axis_2(…) (record main_call9)
def val_main_call9_c_4 : (⟨S_, .i32⟩ : BufTy).Contents (Elt F) :=
  constantI S_ 32 2147483648#32
theorem val_main_call9_c_4_apply (i : S_.Idx) :
    val_main_call9_c_4 (F := F) i = 2147483648#32 := rfl

-- @take_along_axis_2's %14 = stablehlo.broadcast_in_dim %c_4, dims = [] : (tensor<i32>) -> tensor<128x1xi32>, in %66 = func.call @take_along_axis_2(…) (record main_call9)
def val_main_call9_v14 : (⟨S128x1, .i32⟩ : BufTy).Contents (Elt F) :=
  broadcastInDim S128x1 ![] bcast_S_S128x1 (val_main_call9_c_4 (F := F))
abbrev idx_main_call9_v14 (i : S128x1.Idx) : S_.Idx := fun a => a.elim0
theorem val_main_call9_v14_apply (i : S128x1.Idx) :
    val_main_call9_v14 (F := F) i = val_main_call9_c_4 (F := F) (idx_main_call9_v14 i) := by
  unfold val_main_call9_v14
  generalize val_main_call9_c_4 (F := F) = y
  exact broadcastInDim_apply _ bcast_S_S128x1 y i (idx_main_call9_v14 i) (fun a => a.elim0)

-- %66 = func.call @take_along_axis_2(…) (record main_call9) result 0: @take_along_axis_2's %15 = stablehlo.select %12, %13, %14 : tensor<128x1xi1>, tensor<128x1xi32>
def val_main_v66 (x0 : (⟨S128x100000, .f32⟩ : BufTy).Contents (Elt F)) (x1 x2 : (⟨S128, .f32⟩ : BufTy).Contents (Elt F)) (x3 x4 x5 : (⟨S128, .i32⟩ : BufTy).Contents (Elt F)) : (⟨S128x1, .i32⟩ : BufTy).Contents (Elt F) :=
  select (val_main_call9_v12 (F := F) x0 x1 x2 x3 x4 x5) (val_main_call9_v13 (F := F) x0 x1 x2 x3 x4 x5) (val_main_call9_v14 (F := F))
theorem val_main_v66_apply (x0 : (⟨S128x100000, .f32⟩ : BufTy).Contents (Elt F)) (x1 x2 : (⟨S128, .f32⟩ : BufTy).Contents (Elt F)) (x3 x4 x5 : (⟨S128, .i32⟩ : BufTy).Contents (Elt F)) (i : S128x1.Idx) :
    val_main_v66 (F := F) x0 x1 x2 x3 x4 x5 i = Scalar.select (val_main_call9_v12 (F := F) x0 x1 x2 x3 x4 x5 i) (val_main_call9_v13 (F := F) x0 x1 x2 x3 x4 x5 i) (val_main_call9_v14 (F := F) i) := rfl

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- %67 = stablehlo.broadcast_in_dim %cst_13, dims = [] : (tensor<f32>) -> tensor<128x100000xf32>
def val_main_v67 : (⟨S128x100000, .f32⟩ : BufTy).Contents (Elt F) :=
  broadcastInDim S128x100000 ![] bcast_S_S128x100000 (val_main_cst_13 (F := F))
abbrev idx_main_v67 (i : S128x100000.Idx) : S_.Idx := fun a => a.elim0
theorem val_main_v67_apply (i : S128x100000.Idx) :
    val_main_v67 (F := F) i = val_main_cst_13 (F := F) (idx_main_v67 i) := by
  unfold val_main_v67
  generalize val_main_cst_13 (F := F) = y
  exact broadcastInDim_apply _ bcast_S_S128x100000 y i (idx_main_v67 i) (fun a => a.elim0)

-- %68 = stablehlo.iota dim = 0 : tensor<128xi32>
def val_main_v68 : (⟨S128, .i32⟩ : BufTy).Contents (Elt F) :=
  iotaInDim S128 32 0
theorem val_main_v68_apply (i : S128.Idx) :
    val_main_v68 (F := F) i = BitVec.ofNat 32 (i 0).val := rfl

-- %69 = stablehlo.broadcast_in_dim %68, dims = [0] : (tensor<128xi32>) -> tensor<128x1xi32>
def val_main_v69 : (⟨S128x1, .i32⟩ : BufTy).Contents (Elt F) :=
  broadcastInDim S128x1 ![0] bcast_S128_S128x1_0 (val_main_v68 (F := F))
abbrev idx_main_v69 (i : S128x1.Idx) : S128.Idx := fun a => match a with
  | ⟨0, _⟩ => ⟨(i 0).val, (i 0).isLt⟩
theorem val_main_v69_apply (i : S128x1.Idx) :
    val_main_v69 (F := F) i = val_main_v68 (F := F) (idx_main_v69 i) := by
  unfold val_main_v69
  generalize val_main_v68 (F := F) = y
  exact broadcastInDim_apply _ bcast_S128_S128x1_0 y i (idx_main_v69 i) (fun a => match a with
    | ⟨0, _⟩ => by show (i 0).val = if (128 : Nat) = 1 then 0 else (i 0).val; rw [if_neg (by decide)])

-- %c_14 = stablehlo.constant dense<0> : tensor<i32>
def val_main_c_14 : (⟨S_, .i32⟩ : BufTy).Contents (Elt F) :=
  constantI S_ 32 0#32
theorem val_main_c_14_apply (i : S_.Idx) :
    val_main_c_14 (F := F) i = 0#32 := rfl

-- %70 = stablehlo.broadcast_in_dim %c_14, dims = [] : (tensor<i32>) -> tensor<128x1xi32>
def val_main_v70 : (⟨S128x1, .i32⟩ : BufTy).Contents (Elt F) :=
  broadcastInDim S128x1 ![] bcast_S_S128x1 (val_main_c_14 (F := F))
abbrev idx_main_v70 (i : S128x1.Idx) : S_.Idx := fun a => a.elim0
theorem val_main_v70_apply (i : S128x1.Idx) :
    val_main_v70 (F := F) i = val_main_c_14 (F := F) (idx_main_v70 i) := by
  unfold val_main_v70
  generalize val_main_c_14 (F := F) = y
  exact broadcastInDim_apply _ bcast_S_S128x1 y i (idx_main_v70 i) (fun a => a.elim0)

-- %71 = stablehlo.compare LT, %69, %70, SIGNED : (tensor<128x1xi32>, tensor<128x1xi32>) -> tensor<128x1xi1>
def val_main_v71 : (⟨S128x1, .i1⟩ : BufTy).Contents (Elt F) :=
  cmpi .slt (val_main_v69 (F := F)) (val_main_v70 (F := F))
theorem val_main_v71_apply (i : S128x1.Idx) :
    val_main_v71 (F := F) i = IntOp.cmpi .slt (val_main_v69 (F := F) i) (val_main_v70 (F := F) i) := rfl

-- %c_15 = stablehlo.constant dense<128> : tensor<i32>
def val_main_c_15 : (⟨S_, .i32⟩ : BufTy).Contents (Elt F) :=
  constantI S_ 32 128#32
theorem val_main_c_15_apply (i : S_.Idx) :
    val_main_c_15 (F := F) i = 128#32 := rfl

-- %72 = stablehlo.broadcast_in_dim %c_15, dims = [] : (tensor<i32>) -> tensor<128x1xi32>
def val_main_v72 : (⟨S128x1, .i32⟩ : BufTy).Contents (Elt F) :=
  broadcastInDim S128x1 ![] bcast_S_S128x1 (val_main_c_15 (F := F))
abbrev idx_main_v72 (i : S128x1.Idx) : S_.Idx := fun a => a.elim0
theorem val_main_v72_apply (i : S128x1.Idx) :
    val_main_v72 (F := F) i = val_main_c_15 (F := F) (idx_main_v72 i) := by
  unfold val_main_v72
  generalize val_main_c_15 (F := F) = y
  exact broadcastInDim_apply _ bcast_S_S128x1 y i (idx_main_v72 i) (fun a => a.elim0)

-- %73 = stablehlo.add %69, %72 : tensor<128x1xi32>
def val_main_v73 : (⟨S128x1, .i32⟩ : BufTy).Contents (Elt F) :=
  addi (val_main_v69 (F := F)) (val_main_v72 (F := F))
theorem val_main_v73_apply (i : S128x1.Idx) :
    val_main_v73 (F := F) i = IntOp.addi (val_main_v69 (F := F) i) (val_main_v72 (F := F) i) := rfl

-- %74 = stablehlo.select %71, %73, %69 : tensor<128x1xi1>, tensor<128x1xi32>
def val_main_v74 : (⟨S128x1, .i32⟩ : BufTy).Contents (Elt F) :=
  select (val_main_v71 (F := F)) (val_main_v73 (F := F)) (val_main_v69 (F := F))
theorem val_main_v74_apply (i : S128x1.Idx) :
    val_main_v74 (F := F) i = Scalar.select (val_main_v71 (F := F) i) (val_main_v73 (F := F) i) (val_main_v69 (F := F) i) := rfl

-- %c_16 = stablehlo.constant dense<0> : tensor<i32>
def val_main_c_16 : (⟨S_, .i32⟩ : BufTy).Contents (Elt F) :=
  constantI S_ 32 0#32
theorem val_main_c_16_apply (i : S_.Idx) :
    val_main_c_16 (F := F) i = 0#32 := rfl

-- %75 = stablehlo.broadcast_in_dim %c_16, dims = [] : (tensor<i32>) -> tensor<128x100000xi32>
def val_main_v75 : (⟨S128x100000, .i32⟩ : BufTy).Contents (Elt F) :=
  broadcastInDim S128x100000 ![] bcast_S_S128x100000 (val_main_c_16 (F := F))
abbrev idx_main_v75 (i : S128x100000.Idx) : S_.Idx := fun a => a.elim0
theorem val_main_v75_apply (i : S128x100000.Idx) :
    val_main_v75 (F := F) i = val_main_c_16 (F := F) (idx_main_v75 i) := by
  unfold val_main_v75
  generalize val_main_c_16 (F := F) = y
  exact broadcastInDim_apply _ bcast_S_S128x100000 y i (idx_main_v75 i) (fun a => a.elim0)

-- %76 = stablehlo.compare LT, %12, %75, SIGNED : (tensor<128x100000xi32>, tensor<128x100000xi32>) -> tensor<128x100000xi1>
def val_main_v76 (x0 : (⟨S128x100000, .f32⟩ : BufTy).Contents (Elt F)) : (⟨S128x100000, .i1⟩ : BufTy).Contents (Elt F) :=
  cmpi .slt (val_main_v12 (F := F) x0) (val_main_v75 (F := F))
theorem val_main_v76_apply (x0 : (⟨S128x100000, .f32⟩ : BufTy).Contents (Elt F)) (i : S128x100000.Idx) :
    val_main_v76 (F := F) x0 i = IntOp.cmpi .slt (val_main_v12 (F := F) x0 i) (val_main_v75 (F := F) i) := rfl

-- %c_17 = stablehlo.constant dense<100000> : tensor<i32>
def val_main_c_17 : (⟨S_, .i32⟩ : BufTy).Contents (Elt F) :=
  constantI S_ 32 100000#32
theorem val_main_c_17_apply (i : S_.Idx) :
    val_main_c_17 (F := F) i = 100000#32 := rfl

-- %77 = stablehlo.broadcast_in_dim %c_17, dims = [] : (tensor<i32>) -> tensor<128x100000xi32>
def val_main_v77 : (⟨S128x100000, .i32⟩ : BufTy).Contents (Elt F) :=
  broadcastInDim S128x100000 ![] bcast_S_S128x100000 (val_main_c_17 (F := F))
abbrev idx_main_v77 (i : S128x100000.Idx) : S_.Idx := fun a => a.elim0
theorem val_main_v77_apply (i : S128x100000.Idx) :
    val_main_v77 (F := F) i = val_main_c_17 (F := F) (idx_main_v77 i) := by
  unfold val_main_v77
  generalize val_main_c_17 (F := F) = y
  exact broadcastInDim_apply _ bcast_S_S128x100000 y i (idx_main_v77 i) (fun a => a.elim0)

-- %78 = stablehlo.add %12, %77 : tensor<128x100000xi32>
def val_main_v78 (x0 : (⟨S128x100000, .f32⟩ : BufTy).Contents (Elt F)) : (⟨S128x100000, .i32⟩ : BufTy).Contents (Elt F) :=
  addi (val_main_v12 (F := F) x0) (val_main_v77 (F := F))
theorem val_main_v78_apply (x0 : (⟨S128x100000, .f32⟩ : BufTy).Contents (Elt F)) (i : S128x100000.Idx) :
    val_main_v78 (F := F) x0 i = IntOp.addi (val_main_v12 (F := F) x0 i) (val_main_v77 (F := F) i) := rfl

-- %79 = stablehlo.select %76, %78, %12 : tensor<128x100000xi1>, tensor<128x100000xi32>
def val_main_v79 (x0 : (⟨S128x100000, .f32⟩ : BufTy).Contents (Elt F)) : (⟨S128x100000, .i32⟩ : BufTy).Contents (Elt F) :=
  select (val_main_v76 (F := F) x0) (val_main_v78 (F := F) x0) (val_main_v12 (F := F) x0)
theorem val_main_v79_apply (x0 : (⟨S128x100000, .f32⟩ : BufTy).Contents (Elt F)) (i : S128x100000.Idx) :
    val_main_v79 (F := F) x0 i = Scalar.select (val_main_v76 (F := F) x0 i) (val_main_v78 (F := F) x0 i) (val_main_v12 (F := F) x0 i) := rfl

-- %80 = stablehlo.broadcast_in_dim %74, dims = [0, 1] : (tensor<128x1xi32>) -> tensor<128x100000xi32>
def val_main_v80 : (⟨S128x100000, .i32⟩ : BufTy).Contents (Elt F) :=
  broadcastInDim S128x100000 ![0, 1] bcast_S128x1_S128x100000_0_1 (val_main_v74 (F := F))
abbrev idx_main_v80 (i : S128x100000.Idx) : S128x1.Idx := fun a => match a with
  | ⟨0, _⟩ => ⟨(i 0).val, (i 0).isLt⟩
  | ⟨1, _⟩ => ⟨0, Nat.one_pos⟩
theorem val_main_v80_apply (i : S128x100000.Idx) :
    val_main_v80 (F := F) i = val_main_v74 (F := F) (idx_main_v80 i) := by
  unfold val_main_v80
  generalize val_main_v74 (F := F) = y
  exact broadcastInDim_apply _ bcast_S128x1_S128x100000_0_1 y i (idx_main_v80 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %81 = stablehlo.broadcast_in_dim %80, dims = [0, 1] : (tensor<128x100000xi32>) -> tensor<128x100000x1xi32>
def val_main_v81 : (⟨S128x100000x1, .i32⟩ : BufTy).Contents (Elt F) :=
  broadcastInDim S128x100000x1 ![0, 1] bcast_S128x100000_S128x100000x1_0_1 (val_main_v80 (F := F))
abbrev idx_main_v81 (i : S128x100000x1.Idx) : S128x100000.Idx := fun a => match a with
  | ⟨0, _⟩ => ⟨(i 0).val, (i 0).isLt⟩
  | ⟨1, _⟩ => ⟨(i 1).val, (i 1).isLt⟩
theorem val_main_v81_apply (i : S128x100000x1.Idx) :
    val_main_v81 (F := F) i = val_main_v80 (F := F) (idx_main_v81 i) := by
  unfold val_main_v81
  generalize val_main_v80 (F := F) = y
  exact broadcastInDim_apply _ bcast_S128x100000_S128x100000x1_0_1 y i (idx_main_v81 i) (fun a => match a with
    | ⟨0, _⟩ => by show (i 0).val = if (128 : Nat) = 1 then 0 else (i 0).val; rw [if_neg (by decide)]
    | ⟨1, _⟩ => by show (i 1).val = if (100000 : Nat) = 1 then 0 else (i 1).val; rw [if_neg (by decide)])

-- %82 = stablehlo.broadcast_in_dim %79, dims = [0, 1] : (tensor<128x100000xi32>) -> tensor<128x100000x1xi32>
def val_main_v82 (x0 : (⟨S128x100000, .f32⟩ : BufTy).Contents (Elt F)) : (⟨S128x100000x1, .i32⟩ : BufTy).Contents (Elt F) :=
  broadcastInDim S128x100000x1 ![0, 1] bcast_S128x100000_S128x100000x1_0_1 (val_main_v79 (F := F) x0)
abbrev idx_main_v82 (i : S128x100000x1.Idx) : S128x100000.Idx := fun a => match a with
  | ⟨0, _⟩ => ⟨(i 0).val, (i 0).isLt⟩
  | ⟨1, _⟩ => ⟨(i 1).val, (i 1).isLt⟩
theorem val_main_v82_apply (x0 : (⟨S128x100000, .f32⟩ : BufTy).Contents (Elt F)) (i : S128x100000x1.Idx) :
    val_main_v82 (F := F) x0 i = val_main_v79 (F := F) x0 (idx_main_v82 i) := by
  unfold val_main_v82
  generalize val_main_v79 (F := F) x0 = y
  exact broadcastInDim_apply _ bcast_S128x100000_S128x100000x1_0_1 y i (idx_main_v82 i) (fun a => match a with
    | ⟨0, _⟩ => by show (i 0).val = if (128 : Nat) = 1 then 0 else (i 0).val; rw [if_neg (by decide)]
    | ⟨1, _⟩ => by show (i 1).val = if (100000 : Nat) = 1 then 0 else (i 1).val; rw [if_neg (by decide)])

-- %83 = stablehlo.concatenate %81, %82, dim = 2 : (tensor<128x100000x1xi32>, tensor<128x100000x1xi32>) -> tensor<128x100000x2xi32>
def val_main_v83 (x0 : (⟨S128x100000, .f32⟩ : BufTy).Contents (Elt F)) : (⟨S128x100000x2, .i32⟩ : BufTy).Contents (Elt F) :=
  concatenate S128x100000x2 2 [⟨S128x100000x1, (val_main_v81 (F := F))⟩, ⟨S128x100000x1, (val_main_v82 (F := F) x0)⟩] concatenates_S128x100000x1_S128x100000x1_S128x100000x2_d2

-- %84 = "stablehlo.scatter"(%67, %83, %33) <{indices_are_sorted = false, scatter_dimension_numbers = #stablehlo.scatter<inserted_window_dims = [0, 1], scatter_dims_to_operand_dims = [0, 1], index_vector_dim = 2>, unique_indices = false}> ( {
def val_main_v84 (x0 : (⟨S128x100000, .f32⟩ : BufTy).Contents (Elt F)) (x1 x2 : (⟨S128, .f32⟩ : BufTy).Contents (Elt F)) (x3 : (⟨S128, .i32⟩ : BufTy).Contents (Elt F)) : (⟨S128x100000, .f32⟩ : BufTy).Contents (Elt F) :=
  Host.scatter scatter_S128x100000_S128x100000x2_S128x100000_n_01_01_2 (fun _ b => b) (val_main_v67 (F := F)) (val_main_v83 (F := F) x0) (val_main_v33 (F := F) x0 x1 x2 x3)

/-- The term the Run module states for `main_v66` over any contents `V0` is the stage. -/
theorem val_main_v66_eq (V0 : Valuation τ sig (Elt F)) :
    select (Host.reduce IntOp.andi (andi (cmpi .sge (Cert.ReferenceIdeal.Value.res_main_call9_v5 V0) (broadcastInDim S128x1x1 ![] bcast_S_S128x1x1 (constantI S_ 32 0#32))) (cmpi .sle (Cert.ReferenceIdeal.Value.res_main_call9_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (Cert.ReferenceIdeal.Value.res_main_v12 V0) (Cert.ReferenceIdeal.Value.res_main_call9_v5 V0)) (broadcastInDim S128x1 ![] bcast_S_S128x1 (constantI S_ 32 2147483648#32))
      = val_main_v66 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

/-- The term the Run module states for `main_v84` over any contents `V0` is the stage. -/
theorem val_main_v84_eq (V0 : Valuation τ sig (Elt F)) :
    Host.scatter scatter_S128x100000_S128x100000x2_S128x100000_n_01_01_2 (fun _ b => b) (broadcastInDim S128x100000 ![] bcast_S_S128x100000 (constant S_ .f32 0x00000000#32)) (concatenate S128x100000x2 2 [⟨S128x100000x1, (broadcastInDim S128x100000x1 ![0, 1] bcast_S128x100000_S128x100000x1_0_1 (broadcastInDim S128x100000 ![0, 1] bcast_S128x1_S128x100000_0_1 (select (cmpi .slt (Cert.ReferenceIdeal.Value.res_main_v69 V0) (broadcastInDim S128x1 ![] bcast_S_S128x1 (constantI S_ 32 0#32))) (addi (Cert.ReferenceIdeal.Value.res_main_v69 V0) (broadcastInDim S128x1 ![] bcast_S_S128x1 (constantI S_ 32 128#32))) (Cert.ReferenceIdeal.Value.res_main_v69 V0))))⟩, ⟨S128x100000x1, (broadcastInDim S128x100000x1 ![0, 1] bcast_S128x100000_S128x100000x1_0_1 (select (cmpi .slt (Cert.ReferenceIdeal.Value.res_main_v12 V0) (broadcastInDim S128x100000 ![] bcast_S_S128x100000 (constantI S_ 32 0#32))) (addi (Cert.ReferenceIdeal.Value.res_main_v12 V0) (broadcastInDim S128x100000 ![] bcast_S_S128x100000 (constantI S_ 32 100000#32))) (Cert.ReferenceIdeal.Value.res_main_v12 V0)))⟩] concatenates_S128x100000x1_S128x100000x1_S128x100000x2_d2) (Cert.ReferenceIdeal.Value.res_main_v33 V0)
      = val_main_v84 (F := F) (V0 (Proc.devRef .tc main_arg0)) (V0 (Proc.devRef .tc main_arg1)) (V0 (Proc.devRef .tc main_arg2)) (V0 (Proc.devRef .tc main_arg3)) := rfl

end Cert.ReferenceIdeal.Read

end
-- ==== Proof.RefOps.lean ====
/- Host operations read along the rows of a matrix: the greatest entry, the softmax, a column lookup, running sums, the
   position of the first greatest entry, and a scatter of one entry per column. Over any sizes; no program. -/
module

public import proofs.«01_k».proof.Proof.Row
public import proofs.«01_k».proof.Proof.Sorted
public import proofs.«01_k».proof.Proof.Words
public import Idealize.ShloMosaic.Lib.ReduceAll
public import Idealize.ShloMosaic.Lib.Routing.OpsOne

@[expose] public section

noncomputable section

namespace Cert.RefOps

open Idealize.ShloMosaic Idealize.ShloMosaic.ValueIdx Idealize.ShloMosaic.WordCmp
open Cert.Ranks Cert.Row Cert.Words

variable {R N : ℕ}

/-! ## Reductions along a row -/

/-- The host's maximum of a row, started at negative infinity, is its greatest entry. -/
theorem max_row (x : FVec Ideal ⟨2, ![R, N]⟩ .f32) (v : FVec Ideal ⟨0, ![]⟩ .f32) (hv : v ix0 = ⊥)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (r : Fin R) :
    Host.reduce (FloatOps.maximumf (F := Ideal) (φ := .f32)) x v h' hu (ix1 r) = top fun j => x (ix2 r j) := by
  refine (Host.reduce_eq_fold_single (α := EReal) (fun a b => max a b) x v h' h hu (ix1 r)).trans ?_
  rw [show v (Shape.Idx.first hu) = ⊥ from (congrArg v (eq_ix0 _)).trans hv, top]
  refine congrArg (Finset.fold max ⊥ · Finset.univ) (funext fun j => congrArg x (funext fun a => Fin.ext ?_))
  match a with
  | ⟨0, _⟩ => rfl
  | ⟨1, _⟩ => rfl

/-- The host's sum of a row, started at zero. -/
theorem sum_row (x : FVec Ideal ⟨2, ![R, N]⟩ .f32) (v : FVec Ideal ⟨0, ![]⟩ .f32) (hv : v ix0 = 0)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (r : Fin R) :
    Host.reduceAdd (F := Ideal) (φ := .f32) x v h' hu (ix1 r) = ∑ j : Fin N, x (ix2 r j) := by
  refine (Ideal.hostReduceAdd_single h' h (x := x) (init := v (Shape.Idx.first hu)) (j := ix1 r)).trans ?_
  rw [show v (Shape.Idx.first hu) = 0 from (congrArg v (eq_ix0 _)).trans hv, zero_add]
  refine Finset.sum_congr rfl fun j _ => congrArg x (funext fun a => Fin.ext ?_)
  match a with
  | ⟨0, _⟩ => rfl
  | ⟨1, _⟩ => rfl

/-! ## A column per row and rank -/

/-- The dimension numbers of a lookup along the second axis, one column per row and place. -/
abbrev takeCols (R N C : ℕ)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- The lookup reads the row at the column its word names, when that word is a column. -/
theorem take_cols {α : Type} {C : ℕ}
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ 32) (r : Fin R) (k : Fin C) (j : Fin N)
    (hN : N ≤ 2 ^ 31) (hj : idx (ix3 r k 0) = BitVec.ofNat 32 j.val) :
    Host.gather (takeCols R N C wf) x idx (ix2 r k) = x (ix2 r j) := by
  unfold Host.gather
  refine congrArg x (funext fun a => Fin.ext ?_)
  show (takeCols R N C wf).start (ix2 r k) idx a + (takeCols R N C wf).batchCoord (ix2 r k) a
      + (takeCols R N C wf).offCoord (ix2 r k) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeCols R N C wf).startIndexMap from List.mem_singleton.mpr rfl)]
    have hsi : (takeCols R N C wf).siIdx (ix2 r k) ⟨List.idxOf (1 : Fin 2) (takeCols R N C wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    refine (congrArg (fun w : BitVec 32 => min w.toInt.toNat (N - 1)) ((congrArg idx hsi).trans hj)).trans ?_
    have hl := j.isLt
    rw [toInt_ofNat_of_lt (by simp only [Nat.reduceSub]; omega)]
    show min ((j.val : ℤ)).toNat (N - 1) = j.val
    rw [Int.toNat_natCast]
    omega

/-! ## Running sums -/

theorem foldl_add {n : ℕ} (g : Fin n → EReal) (v : EReal) : (List.finRange n).foldl (fun r i => r + g i) v = v + ∑ i, g i := by
  have : ∀ (l : List (Fin n)) (v : EReal), l.foldl (fun r i => r + g i) v = v + (l.map g).sum := fun l => by
    induction l with
    | nil => intro v; simp
    | cons a l ih => intro v; rw [List.foldl_cons, ih, List.map_cons, List.sum_cons, add_assoc]
  rw [this, List.sum_ofFn.symm, List.ofFn_eq_map]

/-- The terms a window of the whole row, padded low by one less, puts at `k` sum to the row's running sum there. -/
theorem sum_window {M : ℕ} (q : Fin (M + 1) → EReal) (k : Fin (M + 1)) :
    (∑ n : Fin (M + 1), if h : M ≤ k.val + n.val then q ⟨k.val + n.val - M, by omega⟩ else 0) = cum q k := by
  unfold cum
  rw [← Finset.sum_filter_add_sum_filter_not Finset.univ (fun n : Fin (M + 1) => M ≤ k.val + n.val)]
  rw [Finset.sum_eq_zero (s := Finset.univ.filter fun n : Fin (M + 1) => ¬ M ≤ k.val + n.val)
    (fun n hn => dif_neg (Finset.mem_filter.1 hn).2), add_zero]
  have hk := k.isLt
  refine Finset.sum_bij' (fun n _ => (⟨k.val + n.val - M, by omega⟩ : Fin (M + 1)))
    (fun i hi => (⟨i.val + M - k.val, by have := i.isLt; have hle : i ≤ k := Finset.mem_Iic.1 hi; have : i.val ≤ k.val := hle; omega⟩ : Fin (M + 1))) ?_ ?_ ?_ ?_ ?_
  · intro n hn
    have := n.isLt
    exact Finset.mem_Iic.2 (show k.val + n.val - M ≤ k.val by omega)
  · intro i hi
    have hle : i ≤ k := Finset.mem_Iic.1 hi
    have : i.val ≤ k.val := hle
    exact Finset.mem_filter.2 ⟨Finset.mem_univ _, show M ≤ k.val + (i.val + M - k.val) by omega⟩
  · intro n hn
    have := (Finset.mem_filter.1 hn).2
    exact Fin.ext (show k.val + n.val - M + M - k.val = n.val by omega)
  · intro i hi
    have hle : i ≤ k := Finset.mem_Iic.1 hi
    have : i.val ≤ k.val := hle
    exact Fin.ext (show k.val + (i.val + M - k.val) - M = i.val by omega)
  · intro n hn
    exact dif_pos (Finset.mem_filter.1 hn).2

theorem numel_row (N : ℕ) : (⟨2, ![1, N]⟩ : Shape).numel = N := (Shape.numel_rank2 _).trans (Nat.one_mul N)

theorem symm_row {N : ℕ} (n : Fin (⟨2, ![1, N]⟩ : Shape).numel) :
    (⟨2, ![1, N]⟩ : Shape).rowMajor.symm n = ix2 (0 : Fin 1) (n.cast (numel_row N)) := by
  refine ((⟨2, ![1, N]⟩ : Shape).rowMajor.symm_apply_eq).2 (Fin.ext ?_)
  rw [Shape.rowMajor_val_two]
  show n.val = 0 * N + n.val
  omega

/-- The host's running sum along a row, read at `k`. -/
theorem cum_row {M : ℕ} (x : FVec Ideal ⟨2, ![R, M + 1]⟩ .f32) (v : FVec Ideal ⟨0, ![]⟩ .f32) (hv : v ix0 = 0)
    (h : (⟨2, ![R, M + 1]⟩ : Shape).ReduceWindows (![1, M + 1] : Fin 2 → ℕ) ![1, 1] ![0, M] ![0, 0] ⟨2, ![R, M + 1]⟩)
    (hu : 0 < (⟨0, ![]⟩ : Shape).numel) (r : Fin R) (k : Fin (M + 1)) :
    Host.reduceWindowAdd (F := Ideal) (φ := .f32) ![1, M + 1] ![1, 1] ![0, M] ![0, 0] x v h hu (ix2 r k)
      = cum (fun j => x (ix2 r j)) k := by
  have hv' : v (Shape.Idx.first hu) = 0 := (congrArg v (eq_ix0 _)).trans hv
  show Host.reduceWindow (fun a b : EReal => a + b) ![1, M + 1] ![1, 1] ![0, M] ![0, 0] x
    (fun _ : (⟨0, ![]⟩ : Shape).Idx => v (Shape.Idx.first hu)) h (by decide) (ix2 r k) = _
  rw [hv']
  unfold Host.reduceWindow
  refine (foldl_add _ (0 : EReal)).trans ?_
  rw [zero_add, ← sum_window]
  refine Fintype.sum_equiv (finCongr (numel_row (M + 1))) _ _ fun n => ?_
  have hw0 : ((⟨2, ![1, M + 1]⟩ : Shape).rowMajor.symm n 0).val = 0 := by rw [symm_row]; rfl
  have hw1 : ((⟨2, ![1, M + 1]⟩ : Shape).rowMajor.symm n 1).val = n.val := by rw [symm_row]; rfl
  have hn : n.val < M + 1 := (n.cast (numel_row _)).isLt
  have hk := k.isLt
  have hr := r.isLt
  have hp : ∀ a : Fin 2, ((![0, M] : Fin 2 → ℕ) a ≤ (ix2 r k a).val * (![1, 1] : Fin 2 → ℕ) a + ((⟨2, ![1, M + 1]⟩ : Shape).rowMajor.symm n a).val
      ∧ (ix2 r k a).val * (![1, 1] : Fin 2 → ℕ) a + ((⟨2, ![1, M + 1]⟩ : Shape).rowMajor.symm n a).val - (![0, M] : Fin 2 → ℕ) a
        < (⟨2, ![R, M + 1]⟩ : Shape).size a) ↔ (a = 1 → M ≤ k.val + n.val) := fun a => by
    match a with
    | ⟨0, _⟩ =>
      show (0 ≤ r.val * 1 + ((⟨2, ![1, M + 1]⟩ : Shape).rowMajor.symm n 0).val
        ∧ r.val * 1 + ((⟨2, ![1, M + 1]⟩ : Shape).rowMajor.symm n 0).val - 0 < R) ↔ _
      rw [hw0]
      exact ⟨fun _ h => absurd (congrArg Fin.val h) Nat.zero_ne_one, fun _ => by omega⟩
    | ⟨1, _⟩ =>
      show (M ≤ k.val * 1 + ((⟨2, ![1, M + 1]⟩ : Shape).rowMajor.symm n 1).val
        ∧ k.val * 1 + ((⟨2, ![1, M + 1]⟩ : Shape).rowMajor.symm n 1).val - M < M + 1) ↔ _
      rw [hw1]
      exact ⟨fun h _ => by omega, fun h => by have := h rfl; omega⟩
  by_cases hle : M ≤ k.val + (finCongr (numel_row (M + 1)) n).val
  · refine (dif_pos fun a => (hp a).2 fun _ => hle).trans (Eq.symm ((dif_pos hle).trans (Eq.symm ?_)))
    refine congrArg x (funext fun a => Fin.ext ?_)
    match a with
    | ⟨0, _⟩ =>
      show r.val * 1 + ((⟨2, ![1, M + 1]⟩ : Shape).rowMajor.symm n 0).val - 0 = r.val
      rw [hw0]
      omega
    | ⟨1, _⟩ =>
      show k.val * 1 + ((⟨2, ![1, M + 1]⟩ : Shape).rowMajor.symm n 1).val - M = k.val + n.val - M
      rw [hw1, Nat.mul_one]
  · exact (dif_neg fun hin => hle ((hp 1).1 (hin 1) rfl)).trans (Eq.symm ((dif_neg hle).trans rfl))

/-! ## The first greatest entry -/

/-- A nonempty row has a first greatest entry. -/
theorem firstMax_exists {n : ℕ} (y : Fin n → EReal) (h0 : 0 < n) : ∃ s, FirstMax y s := by
  classical
  obtain ⟨t, _, ht⟩ := Finset.exists_max_image Finset.univ y ⟨⟨0, h0⟩, Finset.mem_univ _⟩
  let A := Finset.univ.filter fun s : Fin n => ∀ k, y k ≤ y s
  have hA : A.Nonempty := ⟨t, Finset.mem_filter.2 ⟨Finset.mem_univ _, fun k => ht k (Finset.mem_univ _)⟩⟩
  have hm := (Finset.mem_filter.1 (A.min'_mem hA)).2
  refine ⟨A.min' hA, hm, fun k hk => lt_of_not_ge fun hge => ?_⟩
  exact absurd (A.min'_le k (Finset.mem_filter.2 ⟨Finset.mem_univ _, fun j => (hm j).trans hge⟩)) (not_le.2 hk)

/-- One step of the arg-max: the pair of the greater value, of equal ones that of the smaller position. -/
def better (a b : EReal × BitVec 32) : EReal × BitVec 32 :=
  (Scalar.select (IntOp.ori (BitVec.ofBool (decide (b.1 < a.1))) (BitVec.ofBool (decide (a.1 ≠ a.1)))) a.1 b.1,
    Scalar.select (IntOp.ori (IntOp.ori (BitVec.ofBool (decide (b.1 < a.1))) (BitVec.ofBool (decide (a.1 ≠ a.1))))
      (IntOp.andi (BitVec.ofBool (decide (a.1 = b.1))) (IntOp.cmpi .slt a.2 b.2))) a.2 b.2)

theorem better_left (a b : EReal × BitVec 32) (h : b.1 < a.1) : better a b = a := by
  unfold better
  rw [decide_eq_true h, decide_eq_false (not_not.2 rfl)]
  have h1 : IntOp.ori (BitVec.ofBool true) (BitVec.ofBool false) = 1#1 := by decide
  have h2 : ∀ x : BitVec 1, IntOp.ori 1#1 x = 1#1 := by decide
  rw [h1, h2]
  rfl

theorem better_right (a b : EReal × BitVec 32) (h : a.1 < b.1) : better a b = b := by
  unfold better
  rw [decide_eq_false (not_lt.2 h.le), decide_eq_false (not_not.2 rfl), decide_eq_false h.ne]
  have h1 : IntOp.ori (BitVec.ofBool false) (BitVec.ofBool false) = 0#1 := by decide
  have h2 : ∀ x : BitVec 1, IntOp.ori 0#1 (IntOp.andi (BitVec.ofBool false) x) = 0#1 := by decide
  rw [h1, h2]
  rfl

theorem better_tie (v : EReal) (i j : BitVec 32) : better (v, i) (v, j) = (v, Scalar.select (IntOp.cmpi .slt i j) i j) := by
  unfold better
  dsimp only
  rw [decide_eq_false (lt_irrefl v), decide_eq_false (not_not.2 rfl), decide_eq_true rfl]
  have h1 : IntOp.ori (BitVec.ofBool false) (BitVec.ofBool false) = 0#1 := by decide
  have h2 : ∀ x : BitVec 1, IntOp.ori 0#1 (IntOp.andi (BitVec.ofBool true) x) = x := by decide
  rw [h1, h2]
  rfl

section
variable {n : ℕ} (y : Fin n → EReal)

/-- The pair of position `k`. -/
abbrev pair (k : Fin n) : EReal × BitVec 32 := (y k, BitVec.ofNat 32 k.val)

theorem slt_pos (hn : n ≤ 2 ^ 31) (i j : Fin n) :
    Scalar.select (IntOp.cmpi .slt (BitVec.ofNat 32 i.val) (BitVec.ofNat 32 j.val)) (BitVec.ofNat 32 i.val) (BitVec.ofNat 32 j.val)
      = BitVec.ofNat 32 (min i j).val := by
  have hi := i.isLt
  have hj := j.isLt
  by_cases h : i < j
  · rw [(cmpi_slt_ofNat_eq_one_iff (w := 32) (by simp only [Nat.reduceSub]; omega) (by simp only [Nat.reduceSub]; omega)).2 h, ValueIdx.select_one, min_eq_left h.le]
  · rw [(cmpi_slt_ofNat_eq_zero_iff (w := 32) (by simp only [Nat.reduceSub]; omega) (by simp only [Nat.reduceSub]; omega)).2 (show ¬ i.val < j.val from h), ValueIdx.select_zero,
      min_eq_right (not_lt.1 h)]

theorem better_pair (hn : n ≤ 2 ^ 31) (i j : Fin n) : better (pair y i) (pair y j) = pair y i ∨ better (pair y i) (pair y j) = pair y j := by
  rcases lt_trichotomy (y i) (y j) with h | h | h
  · exact .inr (better_right _ _ h)
  · have h1 : better (pair y i) (pair y j) = (y i, BitVec.ofNat 32 (min i j).val) := by
      rw [pair, pair, ← h, better_tie, slt_pos hn]
    rcases min_choice i j with e | e
    · left; rw [h1, e]
    · right; rw [h1, e, h]
  · exact .inl (better_left _ _ h)

/-- Folded over any list of the row's pairs that holds the first greatest one's, the arg-max ends at it. -/
theorem fold_better (hn : n ≤ 2 ^ 31) (s : Fin n) (hs : FirstMax y s) (l : List (Fin n)) (hl : s ∈ l) :
    (l.map (pair y)).foldl better (⊥, 0#32) = pair y s := by
  have stay : ∀ l : List (Fin n), (l.map (pair y)).foldl better (pair y s) = pair y s := fun l => by
    induction l with
    | nil => rfl
    | cons k l ih =>
      rw [List.map_cons, List.foldl_cons]
      refine (congrArg (fun a => (l.map (pair y)).foldl better a) ?_).trans ih
      rcases (hs.1 k).lt_or_eq with h | h
      · exact better_left _ _ h
      · rw [pair, pair, h, better_tie, slt_pos hn, min_eq_left]
        exact not_lt.1 fun hk => absurd h (hs.2 k hk).ne
  have come : ∀ a : EReal × BitVec 32, (a = (⊥, 0#32) ∨ ∃ k, a = pair y k) → better a (pair y s) = pair y s := by
    rintro a (rfl | ⟨k, rfl⟩)
    · rcases (bot_le (a := y s)).lt_or_eq with h | h
      · exact better_right _ _ h
      · have h0 : s.val = 0 := by
          by_contra hne
          have := hs.2 ⟨0, by have := s.isLt; omega⟩ (show 0 < s.val by omega)
          rw [← h] at this
          exact absurd this not_lt_bot
        rw [pair, ← h, better_tie, h0]
        rfl
    · rcases (hs.1 k).lt_or_eq with h | h
      · exact better_right _ _ h
      · rw [pair, pair, h, better_tie, slt_pos hn, min_eq_right]
        exact not_lt.1 fun hk => absurd h (hs.2 k hk).ne
  have keep : ∀ a : EReal × BitVec 32, (a = (⊥, 0#32) ∨ ∃ k, a = pair y k) → ∀ k,
      (better a (pair y k) = (⊥, 0#32) ∨ ∃ k', better a (pair y k) = pair y k') := by
    rintro a (rfl | ⟨i, rfl⟩) k
    · rcases (bot_le (a := y k)).lt_or_eq with h | h
      · exact .inr ⟨k, better_right _ _ h⟩
      · rw [pair, ← h, better_tie]
        by_cases e : IntOp.cmpi .slt 0#32 (BitVec.ofNat 32 k.val) = 1#1
        · left; rw [e, ValueIdx.select_one]
        · right; exact ⟨k, by rw [eq_zero_of_ne_one e, ValueIdx.select_zero, pair, ← h]⟩
    · rcases better_pair y hn i k with h | h
      · exact .inr ⟨i, h⟩
      · exact .inr ⟨k, h⟩
  have all : ∀ (l : List (Fin n)) (a : EReal × BitVec 32), (a = (⊥, 0#32) ∨ ∃ k, a = pair y k) → s ∈ l →
      (l.map (pair y)).foldl better a = pair y s := fun l => by
    induction l with
    | nil => intro a _ h; exact absurd h List.not_mem_nil
    | cons k l ih =>
      intro a ha h
      rw [List.map_cons, List.foldl_cons]
      rcases List.mem_cons.1 h with rfl | h
      · rw [come a ha]; exact stay l
      · exact ih _ (keep a ha k) h
  exact all l _ (.inl rfl) hl
end

/-- The column of a matrix's row-major position. -/
def colAt (R N : ℕ) (n : Fin (⟨2, ![R, N]⟩ : Shape).numel) : Fin N := (⟨2, ![R, N]⟩ : Shape).rowMajor.symm n 1

/-- The host's arg-max of a row is the position of its first greatest entry. -/
theorem argmax_row (f : EReal × BitVec 32 → EReal × BitVec 32 → EReal × BitVec 32) (hf : ∀ a b, f a b = better a b)
    (x : FVec Ideal ⟨2, ![R, N]⟩ .f32) (w : IVec ⟨2, ![R, N]⟩ 32) (v : FVec Ideal ⟨0, ![]⟩ .f32) (z : IVec ⟨0, ![]⟩ 32)
    (hv : v ix0 = ⊥) (hz : z ix0 = 0#32) (hw : ∀ r k, w (ix2 r k) = BitVec.ofNat 32 k.val)
    (h : (⟨2, ![R, N]⟩ : Shape).ReducesTo [1] ⟨1, ![R]⟩) (hd : ∀ r k, h.drop (ix2 r k) = ix1 r)
    (hu : 0 < (⟨0, ![]⟩ : Shape).numel) (hN : N ≤ 2 ^ 31) (r : Fin R) (s : Fin N) (hs : FirstMax (fun k => x (ix2 r k)) s) :
    (Host.argReduce (F := Ideal) (φ := .f32) f x w v z h hu (ix1 r)).2 = BitVec.ofNat 32 s.val := by
  have hff : f = better := funext fun a => funext fun b => hf a b
  rw [Ideal.argReduce_eq_reduce2, Host.reduce2_eq_foldl_fiber, hff,
    show v (Shape.Idx.first hu) = ⊥ from (congrArg v (eq_ix0 _)).trans hv,
    show z (Shape.Idx.first hu) = 0#32 from (congrArg z (eq_ix0 _)).trans hz]
  have hl : Host.argReduceFiber x w h (ix1 r)
      = (((List.finRange (⟨2, ![R, N]⟩ : Shape).numel).filter fun n => h.drop ((⟨2, ![R, N]⟩ : Shape).rowMajor.symm n) = ix1 r).map
          (colAt R N)).map (pair fun k => x (ix2 r k)) := by
    unfold Host.argReduceFiber
    refine Eq.trans ?_ (List.map_map (f := colAt R N) (g := pair fun k => x (ix2 r k))).symm
    refine List.map_congr_left fun n hn => ?_
    have hn := of_decide_eq_true (List.mem_filter.1 hn).2
    have e : (⟨2, ![R, N]⟩ : Shape).rowMajor.symm n = ix2 ((⟨2, ![R, N]⟩ : Shape).rowMajor.symm n 0) (colAt R N n) := eq_ix2 _
    have e0 : (⟨2, ![R, N]⟩ : Shape).rowMajor.symm n 0 = r :=
      congrFun ((hd _ _).symm.trans ((congrArg h.drop e).symm.trans hn)) 0
    have e' : (⟨2, ![R, N]⟩ : Shape).rowMajor.symm n = ix2 r (colAt R N n) := e.trans (congrArg (fun a => ix2 a (colAt R N n)) e0)
    exact Prod.ext (congrArg x e') ((congrArg w e').trans (hw r _))
  refine (congrArg (fun l => (List.foldl better (⊥, 0#32) l).2) hl).trans ?_
  refine congrArg Prod.snd (fold_better (fun k => x (ix2 r k)) hN s hs _ ?_)
  refine List.mem_map.2 ⟨(⟨2, ![R, N]⟩ : Shape).rowMajor (ix2 r s), List.mem_filter.2 ⟨List.mem_finRange _, ?_⟩, ?_⟩
  · exact decide_eq_true ((congrArg h.drop (Equiv.symm_apply_apply _ _)).trans (hd r s))
  · exact congrFun (Equiv.symm_apply_apply (⟨2, ![R, N]⟩ : Shape).rowMajor (ix2 r s)) 1

/-! ## A scatter of one entry per column -/

/-- A scatter that writes a row's entry of rank `k` at the column an order gives it holds, at a column, the entry of that
    column's rank. -/
theorem scatter_row {α : Type} (d : ScatterDims ⟨2, ![R, N]⟩ ⟨3, ![R, N, 2]⟩ ⟨2, ![R, N]⟩) (hiw : d.insertedWindowDims = [0, 1])
    (hsd : d.scatterDimsToOperandDims = [0, 1]) (hivd : d.indexVectorDim = 2) (hR : R ≤ 2 ^ 31) (hN : N ≤ 2 ^ 31)
    (x : (⟨2, ![R, N]⟩ : Shape).Idx → α) (idx : IVec ⟨3, ![R, N, 2]⟩ 32) (upd : (⟨2, ![R, N]⟩ : Shape).Idx → α)
    (ord : Fin R → Equiv.Perm (Fin N)) (h0 : ∀ r k, idx (ix3 r k 0) = BitVec.ofNat 32 r.val)
    (h1 : ∀ r k, idx (ix3 r k 1) = BitVec.ofNat 32 (ord r k).val) (r : Fin R) (j : Fin N) :
    Host.scatter d (fun _ b => b) x idx upd (ix2 r j) = upd (ix2 r ((ord r).symm j)) := by
  have lands : ∀ (a : Fin R) (b : Fin N), d.resultIdx? (ix2 a b) idx = some (ix2 r j) ↔ a = r ∧ ord a b = j := fun a b => by
    have ha := a.isLt
    have hb := (ord a b).isLt
    rw [Routing.scatter_lands2 d hiw hsd hivd idx a b r j, h0, h1, toInt_ofNat_of_lt (by simp only [Nat.reduceSub]; omega), toInt_ofNat_of_lt (by simp only [Nat.reduceSub]; omega)]
    rw [Nat.cast_inj, Nat.cast_inj, Fin.val_inj, Fin.val_inj]
  refine Routing.scatter_set_hit d x idx upd (ix2 r j) _ (fun k hk => ?_) (ix2 r ((ord r).symm j))
    ((lands _ _).2 ⟨rfl, Equiv.apply_symm_apply _ _⟩)
  obtain ⟨a, b, rfl⟩ : ∃ a b, k = ix2 a b := ⟨k 0, k 1, eq_ix2 k⟩
  obtain ⟨rfl, rfl⟩ := (lands a b).1 hk
  rw [Equiv.symm_apply_apply]

end Cert.RefOps

end
-- ==== Proof.RefRow.lean ====
/- The reference's stages read along a row: the softmax, its ranks, and what the ranks look up. -/
module

public import proofs.«01_k».proof.Proof.RefRead
public import proofs.«01_k».proof.Proof.RefOps

@[expose] public section

set_option maxRecDepth 16384

noncomputable section

namespace Cert.ReferenceIdeal.Rows

open Idealize.ShloMosaic Idealize.ShloMosaic.ValueIdx Idealize.ShloMosaic.WordCmp
open Cert.Ranks Cert.Row Cert.Words Cert.Sorted Cert.RefOps
open Cert.ReferenceIdeal.Gen Cert.ReferenceIdeal.Read

variable (x0 : FVec Ideal S128x100000 .f32)

/-- A row of the logits. -/
abbrev row (r : Fin 128) (j : Fin 100000) : EReal := x0 (ix2 r j)

/-- The tokens of a row from the most probable down. -/
def order (r : Fin 128) : Equiv.Perm (Fin 100000) := ranks (soft (row x0 r))

/-- A row's probabilities from the greatest down. -/
def sortedProbs (r : Fin 128) (k : Fin 100000) : EReal := soft (row x0 r) (order x0 r k)

theorem v0_row (r : Fin 128) : val_main_v0 (F := Ideal) x0 (ix1 r) = top (row x0 r) :=
  max_row x0 _ bits_neg_inf reducesTo_S128x100000_S128_d1 (by decide) h_S_ r

theorem v2_row (r : Fin 128) : val_main_v2 (F := Ideal) x0 (ix1 r) = top (row x0 r) := by
  rw [val_main_v2_apply, v0_row, val_main_v1_apply, val_main_cst_0_apply, bits_neg_inf]
  exact bot_sup_eq _

theorem v6_row (r : Fin 128) (j : Fin 100000) : val_main_v6 (F := Ideal) x0 (ix2 r j) = expo (row x0 r) j := by
  rw [val_main_v6_apply, val_main_v5_apply, val_main_v4_apply, val_main_v3_apply, expo]
  refine congrArg (fun t : EReal => Ideal.exp (x0 (ix2 r j) - t)) (Eq.trans (congrArg _ ?_) (v2_row x0 r))
  exact eq_ix1 _

theorem v7_row (r : Fin 128) : val_main_v7 (F := Ideal) x0 (ix1 r) = ∑ j, expo (row x0 r) j := by
  unfold val_main_v7
  exact (sum_row (val_main_v6 (F := Ideal) x0) _ bits_zero reducesTo_S128x100000_S128_d1 (by decide) h_S_ r).trans
    (Finset.sum_congr rfl fun j _ => v6_row x0 r j)

/-- The reference's probabilities are the softmax. -/
theorem v10_row (r : Fin 128) (j : Fin 100000) : val_main_v10 (F := Ideal) x0 (ix2 r j) = soft (row x0 r) j := by
  rw [val_main_v10_apply, v6_row, val_main_v9_apply, val_main_v8_apply, soft, ← v7_row]
  refine congrArg (fun t : EReal => Ideal.div (expo (row x0 r) j) t) (congrArg (val_main_v7 (F := Ideal) x0) ?_)
  exact eq_ix1 _

/-- The order the reference sorts by: the smaller probability first. -/
theorem comparator_lt (l r : EReal × BitVec 32) : comparator_f32_i32_d1 (F := Ideal) l r = BitVec.ofBool (decide (l.1 < r.1)) := by
  have one : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32))
        (FloatOps.ofBits (F := Ideal) .f32 0x00000000#32) v) = v := fun v => by
    rw [show FloatOps.cmpf (F := Ideal) (φ := .f32) .une v v = BitVec.ofBool (decide (v ≠ v)) from rfl,
      decide_eq_false (not_not.2 rfl), bits_zero,
      show FloatOps.cmpf (F := Ideal) (φ := .f32) .oeq v (0 : EReal) = BitVec.ofBool (decide (v = 0)) from rfl]
    by_cases h : v = 0
    · rw [decide_eq_true h]; exact h.symm
    · rw [decide_eq_false h]; rfl
  unfold comparator_f32_i32_d1
  dsimp only
  rw [one, one]
  rfl

theorem argsort_row (p : FVec Ideal S128x100000 .f32) (w : IVec S128x100000 32) (hw : ∀ r k, w (ix2 r k) = BitVec.ofNat 32 k.val)
    (r : Fin 128) (k : Fin 100000) : (Host.sort2 S128x100000 1 (comparator_f32_i32_d1 (F := Ideal)) p w).2 (ix2 r k)
      = BitVec.ofNat 32 (sortedFrom (byKey fun j => p (ix2 r j)) k).val := by
  refine (sort2_snd (comparator_f32_i32_d1 (F := Ideal)) p w r k).trans ((hw r _).trans ?_)
  refine congrArg (fun f => BitVec.ofNat 32 (sortedFrom f k).val) (funext fun a => funext fun b => ?_)
  rw [comparator_lt]
  show (BitVec.ofBool (decide (p (ix2 r a) < p (ix2 r b))) == 1#1) = decide (p (ix2 r a) < p (ix2 r b))
  cases decide (p (ix2 r a) < p (ix2 r b)) <;> rfl

/-- The reference's order of the tokens, from the least probable up. -/
theorem v11_row (r : Fin 128) (k : Fin 100000) :
    val_main_v11 (F := Ideal) x0 (ix2 r k) = BitVec.ofNat 32 (sortedFrom (byKey (soft (row x0 r))) k).val := by
  unfold val_main_v11
  rw [argsort_row _ _ (fun _ _ => rfl), funext fun j => v10_row x0 r j]

/-- The same order from the most probable down. -/
theorem v12_row (r : Fin 128) (k : Fin 100000) : val_main_v12 (F := Ideal) x0 (ix2 r k) = BitVec.ofNat 32 (order x0 r k).val := by
  unfold val_main_v12 order
  rw [ranks_apply, ← v11_row]
  refine congrArg (val_main_v11 (F := Ideal) x0) (funext fun a => ?_)
  match a with
  | ⟨0, _⟩ => rfl
  | ⟨1, _⟩ => rfl

end Cert.ReferenceIdeal.Rows

end
-- ==== Proof.RefTake.lean ====
/- The reference's lookups along its order of the tokens: the sorted probabilities, and the token of a rank. -/
module

public import proofs.«01_k».proof.Proof.RefRow

@[expose] public section

set_option maxRecDepth 16384

noncomputable section

namespace Cert.ReferenceIdeal.Rows

open Idealize.ShloMosaic Idealize.ShloMosaic.ValueIdx Idealize.ShloMosaic.WordCmp
open Cert.Ranks Cert.Row Cert.Words Cert.Sorted Cert.RefOps
open Cert.ReferenceIdeal.Gen Cert.ReferenceIdeal.Read

/-- A number below `2 ^ 31` is left as it is by the wrap of a negative index. -/
theorem wrap_ofNat (n : ℕ) (a : BitVec 32) (hn : n < 2 ^ 31) :
    Scalar.select (IntOp.cmpi .slt (BitVec.ofNat 32 n) 0#32) a (BitVec.ofNat 32 n) = BitVec.ofNat 32 n :=
  Routing.wrap_of_lt (w := 32) (BitVec.ofNat 32 n) a (by rw [BitVec.toNat_ofNat, Nat.mod_eq_of_lt (by omega)]; exact hn)

/-- A column's number is within the row. -/
theorem in_row (n : ℕ) (hn : n < 100000) :
    IntOp.andi (IntOp.cmpi .sge (BitVec.ofNat 32 n) 0#32) (IntOp.cmpi .sle (BitVec.ofNat 32 n) 99999#32) = 1#1 := by
  have h1 : IntOp.cmpi .sge (BitVec.ofNat 32 n) (BitVec.ofNat 32 0) = 1#1 :=
    (cmpi_sge_ofNat_eq_one_iff (w := 32) (by simp only [Nat.reduceSub]; omega) (by decide)).2 (Nat.zero_le n)
  have h2 : IntOp.cmpi .sle (BitVec.ofNat 32 n) (BitVec.ofNat 32 99999) = 1#1 :=
    (cmpi_sle_ofNat_eq_one_iff (w := 32) (by simp only [Nat.reduceSub]; omega) (by decide)).2 (by omega)
  rw [show (0#32 : BitVec 32) = BitVec.ofNat 32 0 from rfl, show (99999#32 : BitVec 32) = BitVec.ofNat 32 99999 from rfl, h1, h2]
  decide

variable (x0 : FVec Ideal S128x100000 .f32)

/-! ## The sorted probabilities -/

theorem call1_v4_row (r : Fin 128) (k : Fin 100000) :
    val_main_call1_v4 (F := Ideal) x0 (ix2 r k) = BitVec.ofNat 32 (order x0 r k).val := by
  rw [val_main_call1_v4_apply, val_main_call1_v1_apply, v12_row, val_main_call1_v0_apply, val_main_call1_c_apply]
  exact wrap_ofNat _ _ (by have := (order x0 r k).isLt; omega)

theorem call1_v5_row (r : Fin 128) (k : Fin 100000) (z : Fin 1) :
    val_main_call1_v5 (F := Ideal) x0 (ix3 r k z) = BitVec.ofNat 32 (order x0 r k).val := by
  rw [val_main_call1_v5_apply, ← call1_v4_row]
  refine congrArg (val_main_call1_v4 (F := Ideal) x0) (funext fun a => Fin.ext ?_)
  have hr := r.isLt
  have hk := k.isLt
  have hz := z.isLt
  match a with
  | ⟨0, _⟩ => show ((r.val * 100000 + k.val) * 1 + z.val) / 100000 = r.val; omega
  | ⟨1, _⟩ => show ((r.val * 100000 + k.val) * 1 + z.val) % 100000 = k.val; omega

theorem call1_v12_row (i : S128x100000.Idx) : val_main_call1_v12 (F := Ideal) x0 i = 1#1 := by
  unfold val_main_call1_v12
  refine Host.reduce_andi_one _ _ _ _ _ rfl fun i => ?_
  obtain ⟨a, b, z, rfl⟩ : ∃ (a : Fin 128) (b : Fin 100000) (z : Fin 1), i = ix3 a b z := ⟨i 0, i 1, i 2, eq_ix3 i⟩
  rw [val_main_call1_v11_apply, val_main_call1_v7_apply, val_main_call1_v10_apply, call1_v5_row,
    val_main_call1_v6_apply, val_main_call1_c_2_apply, val_main_call1_v9_apply, val_main_call1_v8_apply, val_main_call1_c_1_apply]
  exact in_row _ (Fin.isLt _)

/-- What the reference sorts to is the softmax from the greatest down. -/
theorem v13_row (r : Fin 128) (k : Fin 100000) : val_main_v13 (F := Ideal) x0 (ix2 r k) = sortedProbs x0 r k := by
  rw [val_main_v13_apply, call1_v12_row, ValueIdx.select_one, sortedProbs, ← v10_row]
  unfold val_main_call1_v13
  exact take_cols gather_S128x100000_S128x100000x1_S128x100000_n_1_0_0_1_2_11_wf (val_main_v10 (F := Ideal) x0) _ r k (order x0 r k)
    (by decide) (call1_v5_row x0 r k 0)

/-- Their running sum. -/
theorem v14_row (r : Fin 128) (k : Fin 100000) : val_main_v14 (F := Ideal) x0 (ix2 r k) = cum (sortedProbs x0 r) k := by
  unfold val_main_v14
  refine (cum_row (M := 99999) (val_main_v13 (F := Ideal) x0) _ ?_ _ h_S_ r k).trans ?_
  · exact bits_zero
  · exact congrArg (fun q => cum q k) (funext fun j => v13_row x0 r j)

/-! ## The token of the drawn rank -/

variable (x1 x2 : FVec Ideal S128 .f32) (x3 x4 x5 : IVec S128 32)

theorem v65_row (r : Fin 128) (z : Fin 1) :
    val_main_v65 (F := Ideal) x0 x1 x2 x3 x4 x5 (ix2 r z) = val_main_v64 (F := Ideal) x0 x1 x2 x3 x4 x5 (ix1 r) := by
  rw [val_main_v65_apply]
  exact congrArg _ (eq_ix1 _)

section
variable (s : Fin 128 → Fin 100000)
  (hs : ∀ r, val_main_v64 (F := Ideal) x0 x1 x2 x3 x4 x5 (ix1 r) = BitVec.ofNat 32 (s r).val)
include hs

theorem call9_v4_row (r : Fin 128) (z : Fin 1) :
    val_main_call9_v4 (F := Ideal) x0 x1 x2 x3 x4 x5 (ix2 r z) = BitVec.ofNat 32 (s r).val := by
  rw [val_main_call9_v4_apply, val_main_call9_v1_apply, v65_row, hs, val_main_call9_v0_apply, val_main_call9_c_apply]
  exact wrap_ofNat _ _ (by have := (s r).isLt; omega)

theorem call9_v5_row (r : Fin 128) (y z : Fin 1) :
    val_main_call9_v5 (F := Ideal) x0 x1 x2 x3 x4 x5 (ix3 r y z) = BitVec.ofNat 32 (s r).val := by
  rw [val_main_call9_v5_apply]
  refine (congrArg (val_main_call9_v4 (F := Ideal) x0 x1 x2 x3 x4 x5) (eq_ix2 _)).trans ?_
  have hr := r.isLt
  have hy := y.isLt
  have hz := z.isLt
  refine (call9_v4_row x0 x1 x2 x3 x4 x5 s hs _ _).trans (congrArg (fun a => BitVec.ofNat 32 (s a).val) (Fin.ext ?_))
  show ((r.val * 1 + y.val) * 1 + z.val) / 1 = r.val
  omega

theorem call9_v12_row (i : S128x1.Idx) : val_main_call9_v12 (F := Ideal) x0 x1 x2 x3 x4 x5 i = 1#1 := by
  unfold val_main_call9_v12
  refine Host.reduce_andi_one _ _ _ _ _ rfl fun i => ?_
  obtain ⟨a, b, z, rfl⟩ : ∃ (a : Fin 128) (b : Fin 1) (z : Fin 1), i = ix3 a b z := ⟨i 0, i 1, i 2, eq_ix3 i⟩
  rw [val_main_call9_v11_apply, val_main_call9_v7_apply, val_main_call9_v10_apply, call9_v5_row x0 x1 x2 x3 x4 x5 s hs,
    val_main_call9_v6_apply, val_main_call9_c_2_apply, val_main_call9_v9_apply, val_main_call9_v8_apply, val_main_call9_c_1_apply]
  exact in_row _ (Fin.isLt _)

/-- The reference's drawn token is the one its order gives the drawn rank. -/
theorem v66_row (r : Fin 128) (z : Fin 1) :
    val_main_v66 (F := Ideal) x0 x1 x2 x3 x4 x5 (ix2 r z) = BitVec.ofNat 32 (order x0 r (s r)).val := by
  rw [val_main_v66_apply, call9_v12_row x0 x1 x2 x3 x4 x5 s hs, ValueIdx.select_one, ← v12_row]
  unfold val_main_call9_v13
  refine take_cols gather_S128x100000_S128x1x1_S128x1_n_1_0_0_1_2_11_wf (val_main_v12 (F := Ideal) x0) _ r z (s r)
    (by decide) (call9_v5_row x0 x1 x2 x3 x4 x5 s hs r z 0)
end

end Cert.ReferenceIdeal.Rows

end
-- ==== Proof.RefScore.lean ====
/- The reference's filter, its noise and its scores, read along a row; the rank it draws; and the row it writes back. -/
module

public import proofs.«01_k».proof.Proof.RefTake

@[expose] public section

set_option maxRecDepth 16384

noncomputable section

namespace Cert.ReferenceIdeal.Rows

open Idealize.ShloMosaic Idealize.ShloMosaic.ValueIdx Idealize.ShloMosaic.WordCmp
open Cert.Ranks Cert.Row Cert.Words Cert.Sorted Cert.RefOps
open Cert.ReferenceIdeal.Gen Cert.ReferenceIdeal.Read

/-- A row has a first entry. -/
theorem some_col : 0 < 100000 := by decide

variable (x0 : FVec Ideal S128x100000 .f32) (x1 x2 : FVec Ideal S128 .f32) (x3 x4 x5 : IVec S128 32)

/-- A choice by "less than" between extended reals. -/
theorem select_lt (a b x y : EReal) :
    Scalar.select (FloatOps.cmpf (F := Ideal) (φ := .f32) .olt a b) x y = if a < b then x else y := select_decide _ _ _

/-- A choice by "greater than" between extended reals. -/
theorem select_gt (a b x y : EReal) :
    Scalar.select (FloatOps.cmpf (F := Ideal) (φ := .f32) .ogt a b) x y = if b < a then x else y := select_decide _ _ _

/-! ## The filter -/

theorem v18_row (r : Fin 128) (k : Fin 100000) : val_main_v18 (F := Ideal) (ix2 r k) = BitVec.ofNat 32 k.val := by
  rw [val_main_v18_apply, val_main_v16_apply, val_main_v15_apply]

theorem v19_row (r : Fin 128) (k : Fin 100000) : val_main_v19 (F := Ideal) x3 (ix2 r k) = x3 (ix1 r) := by
  rw [val_main_v19_apply, val_main_v17_apply]
  exact congrArg x3 (eq_ix1 _)

theorem v24_row (r : Fin 128) (k : Fin 100000) : val_main_v24 (F := Ideal) x1 (ix2 r k) = x1 (ix1 r) := by
  rw [val_main_v24_apply, val_main_v23_apply]
  exact congrArg x1 (eq_ix1 _)

section
variable (r : Fin 128) (tk : ℕ) (h3 : x3 (ix1 r) = BitVec.ofNat 32 tk) (htk : tk ≤ 1024)
include h3 htk

theorem v21_row (k : Fin 100000) :
    val_main_v21 (F := Ideal) x0 x3 (ix2 r k) = if tk ≤ k.val then 0 else sortedProbs x0 r k := by
  have hk := k.isLt
  rw [val_main_v21_apply, val_main_v20_apply, v18_row, v19_row, h3, v13_row, val_main_call3_v1_apply, val_main_call3_v0_apply,
    val_main_cst_2_apply, bits_zero, cmpi_sge_ofNat (w := 32) (by simp only [Nat.reduceSub]; omega) (by simp only [Nat.reduceSub]; omega), select_decide]

theorem v26_row (k : Fin 100000) : val_main_v26 (F := Ideal) x0 x1 x3 (ix2 r k)
    = if x1 (ix1 r) < cum (sortedProbs x0 r) k - val_main_v21 (F := Ideal) x0 x3 (ix2 r k) then 0
      else val_main_v21 (F := Ideal) x0 x3 (ix2 r k) := by
  rw [val_main_v26_apply, val_main_v25_apply, val_main_v22_apply, v14_row, v24_row, val_main_call4_v1_apply, val_main_call4_v0_apply,
    val_main_cst_3_apply, bits_zero]
  exact select_gt _ _ _ _

theorem v31_row (k : Fin 100000) : val_main_v31 (F := Ideal) x0 x1 x2 x3 (ix2 r k)
    = val_main_v26 (F := Ideal) x0 x1 x3 (ix2 r ⟨0, some_col⟩) * x2 (ix1 r) := by
  rw [val_main_v31_apply, val_main_v30_apply, val_main_v29_apply, val_main_v28_apply, val_main_v27_apply]
  refine congrArg₂ (fun a b : EReal => a * b) (congrArg (val_main_v26 (F := Ideal) x0 x1 x3) (funext fun a => Fin.ext ?_)) (congrArg x2 (eq_ix1 _))
  match a with
  | ⟨0, _⟩ => exact Nat.div_one _
  | ⟨1, _⟩ => rfl

/-- What the reference's three cuts leave of the sorted probabilities. -/
theorem v33_row (g : Good (sortedProbs x0 r) (x1 (ix1 r)) (x2 (ix1 r)) tk) (k : Fin 100000) :
    val_main_v33 (F := Ideal) x0 x1 x2 x3 (ix2 r k)
      = filtered (sortedProbs x0 r) some_col (x1 (ix1 r)) (x2 (ix1 r)) tk k := by
  rw [val_main_v33_apply, val_main_v32_apply, v31_row x0 x1 x2 x3 r tk h3 htk, val_main_call5_v1_apply, val_main_call5_v0_apply, val_main_cst_4_apply, bits_zero]
  refine (select_lt _ _ _ _).trans ?_
  exact g.three_steps (h0 := some_col) (fun k => val_main_v21 (F := Ideal) x0 x3 (ix2 r k)) (fun k => val_main_v26 (F := Ideal) x0 x1 x3 (ix2 r k))
    (v21_row x0 x3 r tk h3 htk) (v26_row x0 x1 x3 r tk h3 htk) k
end

/-! ## The noise -/

/-- The hash. -/
theorem v53_row (r : Fin 128) (k : Fin 100000) :
    val_main_v53 (F := Ideal) x4 x5 (ix2 r k) = Words.hash (x4 (ix1 r)) (x5 (ix1 r)) k.val := by
  rw [val_main_v53_apply, val_main_v51_apply, val_main_v48_apply, val_main_v46_apply, val_main_v45_apply, val_main_v41_apply,
    val_main_v44_apply, val_main_v39_apply, val_main_v42_apply, val_main_v40_apply, val_main_v43_apply, val_main_v47_apply,
    val_main_c_apply, val_main_c_6_apply, val_main_c_7_apply, val_main_v52_apply, val_main_v50_apply, val_main_v38_apply,
    val_main_v37_apply, val_main_v49_apply, val_main_c_8_apply]
  have h4 : idx_main_v46 (idx_main_v51 (ix2 r k)) = ix1 r := eq_ix1 _
  rw [h4]
  rfl

/-- The correction of a negative remainder leaves a word as it is: read without a sign none is negative. -/
theorem rem_fix (w c a : BitVec 32) : Scalar.select (IntOp.andi (IntOp.cmpi .ne (IntOp.cmpi .ult w 0#32) (IntOp.cmpi .ult c 0#32))
    (IntOp.cmpi .ne w 0#32)) a w = w := by
  have h : ∀ v : BitVec 32, IntOp.cmpi .ult v 0#32 = 0#1 := fun v => by
    show BitVec.ofBool (v.ult 0#32) = 0#1
    rw [show v.ult 0#32 = false from by simp [BitVec.ult]]
    rfl
  have h1 : IntOp.cmpi .ne (0#1) (0#1) = 0#1 := by decide
  have h2 : ∀ x : BitVec 1, IntOp.andi 0#1 x = 0#1 := by decide
  rw [h, h, h1, h2]
  rfl

theorem modulus (i : S_.Idx) : val_main_call6_v1 (F := Ideal) i = 16777216#32 := by
  rw [val_main_call6_v1_apply, val_main_call6_v0_apply, val_main_c_9_apply, val_main_call6_c_apply, val_main_call6_c_0_apply]
  decide

theorem v54_row (r : Fin 128) (k : Fin 100000) :
    (val_main_v54 (F := Ideal) x4 x5 (ix2 r k)).toNat = (Words.hash (x4 (ix1 r)) (x5 (ix1 r)) k.val).toNat % 2 ^ 24 := by
  rw [val_main_v54_apply, val_main_call6_v11_apply, val_main_call6_v10_apply, val_main_call6_v7_apply, val_main_call6_v9_apply,
    val_main_call6_v8_apply, val_main_call6_v5_apply, val_main_call6_v6_apply, val_main_call6_v4_apply, val_main_call6_c_1_apply,
    val_main_call6_c_2_apply, val_main_call6_c_3_apply, rem_fix, val_main_call6_v3_apply, val_main_call6_v2_apply, modulus, v53_row]
  exact toNat_rem _

theorem v62_row (r : Fin 128) (k : Fin 100000) :
    val_main_v62 (F := Ideal) x4 x5 (ix2 r k) = noise (x4 (ix1 r)) (x5 (ix1 r)) k.val := by
  rw [val_main_v62_apply, val_main_v61_apply, val_main_v60_apply, val_main_v59_apply, val_main_v58_apply, val_main_call7_v2_apply,
    val_main_v57_apply, val_main_v55_apply, val_main_v56_apply, val_main_cst_10_apply, val_main_call7_v1_apply, val_main_call7_v0_apply,
    val_main_cst_11_apply, val_main_call7_v4_apply, val_main_call7_v3_apply, val_main_cst_12_apply]
  rw [show FloatOps.uitofp (F := Ideal) .f32 (val_main_v54 (F := Ideal) x4 x5 (ix2 r k))
    = (((val_main_v54 (F := Ideal) x4 x5 (ix2 r k)).toNat : ℝ) : EReal) from rfl, v54_row]
  rfl

/-! ## The scores and the draw -/

section
variable (r : Fin 128) (tk : ℕ) (h3 : x3 (ix1 r) = BitVec.ofNat 32 tk) (htk : tk ≤ 1024)
  (g : Good (sortedProbs x0 r) (x1 (ix1 r)) (x2 (ix1 r)) tk)

/-- The scores of a row. -/
abbrev scores (r : Fin 128) (tk : ℕ) (k : Fin 100000) : EReal :=
  score (sortedProbs x0 r) some_col (x1 (ix1 r)) (x2 (ix1 r)) tk eps (noise (x4 (ix1 r)) (x5 (ix1 r))) k

include h3 htk g in
theorem v63_row (k : Fin 100000) : val_main_v63 (F := Ideal) x0 x1 x2 x3 x4 x5 (ix2 r k) = scores x0 x1 x2 x4 x5 r tk k := by
  rw [val_main_v63_apply, val_main_v36_apply, val_main_v35_apply, v33_row x0 x1 x2 x3 r tk h3 htk g, v62_row, val_main_v34_apply,
    val_main_cst_5_apply, scores, score]
  rfl

theorem drop_row (h : S128x100000.ReducesTo [1] S128) (r : Fin 128) (k : Fin 100000) : h.drop (ix2 r k) = ix1 r :=
  funext fun a => match a with
    | ⟨0, _⟩ => rfl

/-- The reducer of the arg-max is the step `better`. -/
theorem reducer_better (a b : EReal × BitVec 32) : reducer_argmax_f32_i32 (F := Ideal) a b = better a b := rfl

/-- The arg-max of any array, given a row's first greatest entry. -/
theorem argmax_of (x : FVec Ideal S128x100000 .f32) (w : IVec S128x100000 32) (v : FVec Ideal S_ .f32) (z : IVec S_ 32)
    (hv : v ix0 = ⊥) (hz : z ix0 = 0#32) (hw : ∀ r k, w (ix2 r k) = BitVec.ofNat 32 k.val) (r : Fin 128) (s : Fin 100000)
    (hs : FirstMax (fun k => x (ix2 r k)) s) :
    (Host.argReduce (F := Ideal) (φ := .f32) reducer_argmax_f32_i32 x w v z reducesTo_S128x100000_S128_d1 h_S_ (ix1 r)).2
      = BitVec.ofNat 32 s.val :=
  argmax_row _ reducer_better x w v z hv hz hw reducesTo_S128x100000_S128_d1 (drop_row _) h_S_ (by norm_num) r s hs

/-- A first greatest entry of a row is one of any row equal to it. -/
theorem firstMax_congr {n : ℕ} {x y : Fin n → EReal} (h : ∀ k, x k = y k) {s : Fin n} (hs : FirstMax y s) : FirstMax x s := by
  have e : x = y := funext h
  rw [e]
  exact hs

/-- The reference's arg-max, spelled out as a function of the row. -/
theorem v64_spelled {F : FTy → Type} [FloatOps F] (x0 : (⟨S128x100000, .f32⟩ : BufTy).Contents (Elt F))
    (x1 x2 : (⟨S128, .f32⟩ : BufTy).Contents (Elt F)) (x3 x4 x5 : (⟨S128, .i32⟩ : BufTy).Contents (Elt F)) :
    val_main_v64 (F := F) x0 x1 x2 x3 x4 x5 = fun j => (Host.argReduce reducer_argmax_f32_i32 (val_main_v63 (F := F) x0 x1 x2 x3 x4 x5)
      (val_main_call8_v0 (F := F)) (val_main_call8_cst (F := F)) (val_main_call8_c (F := F)) reducesTo_S128x100000_S128_d1 h_S_ j).2 := rfl

theorem call8_v0_row (r : Fin 128) (k : Fin 100000) : val_main_call8_v0 (F := Ideal) (ix2 r k) = BitVec.ofNat 32 k.val := by
  rw [val_main_call8_v0_apply]

theorem call8_cst_bot : val_main_call8_cst (F := Ideal) ix0 = ⊥ := (val_main_call8_cst_apply _).trans bits_neg_inf

theorem call8_c_zero : val_main_call8_c (F := Ideal) ix0 = 0#32 := val_main_call8_c_apply _

include h3 htk g in
theorem v63_first (s : Fin 100000) (hs : FirstMax (scores x0 x1 x2 x4 x5 r tk) s) :
    FirstMax (fun k => val_main_v63 (F := Ideal) x0 x1 x2 x3 x4 x5 (ix2 r k)) s :=
  firstMax_congr (v63_row x0 x1 x2 x3 x4 x5 r tk h3 htk g) hs

include h3 htk g in
/-- The rank the reference draws is the first of the greatest score. -/
theorem v64_row (s : Fin 100000) (hs : FirstMax (scores x0 x1 x2 x4 x5 r tk) s) :
    val_main_v64 (F := Ideal) x0 x1 x2 x3 x4 x5 (ix1 r) = BitVec.ofNat 32 s.val := by
  refine (congrFun (v64_spelled (F := Ideal) x0 x1 x2 x3 x4 x5) (ix1 r)).trans ?_
  exact argmax_of _ _ _ _ call8_cst_bot call8_c_zero call8_v0_row r s (v63_first x0 x1 x2 x3 x4 x5 r tk h3 htk g s hs)
end

/-! ## The row written back -/

theorem v74_row (r : Fin 128) (z : Fin 1) : val_main_v74 (F := Ideal) (ix2 r z) = BitVec.ofNat 32 r.val := by
  rw [val_main_v74_apply, val_main_v71_apply, val_main_v69_apply, val_main_v68_apply, val_main_v70_apply, val_main_c_14_apply]
  exact wrap_ofNat r.val _ (by have := r.isLt; omega)

theorem v83_row0 (r : Fin 128) (k : Fin 100000) : val_main_v83 (F := Ideal) x0 (ix3 r k 0) = BitVec.ofNat 32 r.val := by
  unfold val_main_v83
  refine (concatenate_pair_apply_left (t := S128x100000x2) 2 (val_main_v81 (F := Ideal)) (val_main_v82 (F := Ideal) x0) _ (ix3 r k 0) rfl (ix3 r k (0 : Fin 1)) (fun b => ?_)).trans ?_
  · match b with
    | ⟨0, _⟩ => rfl
    | ⟨1, _⟩ => rfl
    | ⟨2, _⟩ => rfl
  · rw [val_main_v81_apply, val_main_v80_apply]
    exact (congrArg (val_main_v74 (F := Ideal)) (eq_ix2 _)).trans (v74_row _ _)

theorem v79_row (r : Fin 128) (k : Fin 100000) : val_main_v79 (F := Ideal) x0 (ix2 r k) = BitVec.ofNat 32 (order x0 r k).val := by
  rw [val_main_v79_apply, val_main_v76_apply, v12_row, val_main_v75_apply, val_main_c_16_apply]
  exact wrap_ofNat (order x0 r k).val _ (by have := (order x0 r k).isLt; omega)

theorem v83_row1 (r : Fin 128) (k : Fin 100000) : val_main_v83 (F := Ideal) x0 (ix3 r k 1) = BitVec.ofNat 32 (order x0 r k).val := by
  unfold val_main_v83
  refine (concatenate_pair_apply_right (t := S128x100000x2) 2 (val_main_v81 (F := Ideal)) (val_main_v82 (F := Ideal) x0) _ (ix3 r k 1) rfl rfl (ix3 r k (0 : Fin 1)) (fun b hb => ?_) rfl).trans ?_
  · match b with
    | ⟨0, _⟩ => rfl
    | ⟨1, _⟩ => rfl
    | ⟨2, _⟩ => exact absurd rfl hb
  · rw [val_main_v82_apply]
    exact (congrArg (val_main_v79 (F := Ideal) x0) (eq_ix2 _)).trans (v79_row x0 _ _)

/-- The reference's second result: at a token, what the cuts leave at that token's rank. -/
theorem v84_row (r : Fin 128) (j : Fin 100000) : val_main_v84 (F := Ideal) x0 x1 x2 x3 (ix2 r j)
    = val_main_v33 (F := Ideal) x0 x1 x2 x3 (ix2 r ((order x0 r).symm j)) := by
  unfold val_main_v84
  exact scatter_row scatter_S128x100000_S128x100000x2_S128x100000_n_01_01_2 rfl rfl rfl (by decide) (by decide) _
    (val_main_v83 (F := Ideal) x0) (val_main_v33 (F := Ideal) x0 x1 x2 x3) (order x0) (v83_row0 x0) (v83_row1 x0) r j

end Cert.ReferenceIdeal.Rows

end
-- ==== Proof.Mask.lean ====
/- What the precondition and the mask say of a row. -/
module

public import proofs.«01_k».proof.Proof.RefScore
public import proofs.«01_k».proof.Proof.Gen.Pre_in_range
public import proofs.«01_k».proof.Proof.Gen.On_head_wins

@[expose] public section

set_option maxRecDepth 16384

noncomputable section

/-! ## The precondition -/

namespace Cert.Pre_in_range.Rows

open Idealize.ShloMosaic Idealize.ShloMosaic.ValueIdx Idealize.ShloMosaic.WordCmp
open Cert.Row Cert.Words Cert.Pre_in_range.Gen

variable (x0 : FVec Ideal S128x100000 .f32) (x1 x2 : FVec Ideal S128 .f32) (x3 x4 x5 : IVec S128 32) (r : Fin 128)

/-- An extended real whose size is below infinity is a real. -/
theorem real_of_abs {a : EReal} (h : max a (-a) < ⊤) : ∃ M : ℝ, a = (M : EReal) := by
  induction a using EReal.rec with
  | bot => exact absurd h (by simp)
  | top => exact absurd h (by simp)
  | coe M => exact ⟨M, rfl⟩

/-- The first check is of the rows' greatest entries. -/
theorem fn_first : ∃ v : FVec Ideal S128 .f32, (fn (F := Ideal) x0 x1 x2 x3 x4 x5).1
      = cmpf .olt (Host.absf v) (broadcastInDim S128 ![] bcast_S_S128 (constant (F := Ideal) S_ .f32 0x7F800000#32))
    ∧ ∀ r, v (ix1 r) = top fun j => x0 (ix2 r j) :=
  ⟨_, rfl, fun r => RefOps.max_row x0 _ bits_neg_inf reducesTo_S128x100000_S128_d1 (by decide) h_S_ r⟩

theorem top_real (h : (fn (F := Ideal) x0 x1 x2 x3 x4 x5).1 = fun _ => 1#1) :
    ∃ M : ℝ, (top fun j => x0 (ix2 r j)) = (M : EReal) := by
  obtain ⟨v, e, hv⟩ := fn_first x0 x1 x2 x3 x4 x5
  rw [e] at h
  have h1 : FloatOps.cmpf (F := Ideal) (φ := .f32) .olt (FloatOps.hostAbsf (F := Ideal) (φ := .f32) (v (ix1 r)))
    (FloatOps.ofBits (F := Ideal) .f32 0x7F800000#32) = 1#1 := congrFun h (ix1 r)
  rw [hv, bits_inf] at h1
  exact real_of_abs ((ofBool_decide_eq_one_iff _).1 h1)

theorem top_p (h : (fn (F := Ideal) x0 x1 x2 x3 x4 x5).2.1 = fun _ => 1#1) : 0 ≤ x1 (ix1 r) := by
  have h1 : FloatOps.cmpf (F := Ideal) (φ := .f32) .oge (x1 (ix1 r)) (FloatOps.ofBits (F := Ideal) .f32 0x00000000#32) = 1#1 := congrFun h (ix1 r)
  rw [bits_zero] at h1
  exact (ofBool_decide_eq_one_iff _).1 h1

theorem min_p (h : (fn (F := Ideal) x0 x1 x2 x3 x4 x5).2.2.1 = fun _ => 1#1) : x2 (ix1 r) ≤ 1 := by
  have h1 : FloatOps.cmpf (F := Ideal) (φ := .f32) .ole (x2 (ix1 r)) (FloatOps.ofBits (F := Ideal) .f32 0x3F800000#32) = 1#1 := congrFun h (ix1 r)
  rw [bits_one] at h1
  exact (ofBool_decide_eq_one_iff _).1 h1

/-- The row's `top_k` is a number from one to 1024. -/
theorem top_k (h : (fn (F := Ideal) x0 x1 x2 x3 x4 x5).2.2.2.1 = fun _ => 1#1) (h' : (fn (F := Ideal) x0 x1 x2 x3 x4 x5).2.2.2.2 = fun _ => 1#1) :
    ∃ tk : ℕ, x3 (ix1 r) = BitVec.ofNat 32 tk ∧ 1 ≤ tk ∧ tk ≤ 1024 := by
  have h1 : IntOp.cmpi .sge (x3 (ix1 r)) 1#32 = 1#1 := congrFun h (ix1 r)
  have h2 : IntOp.cmpi .sle (x3 (ix1 r)) 1024#32 = 1#1 := congrFun h' (ix1 r)
  have h3 : (1#32).sle (x3 (ix1 r)) = true := by
    by_contra hc
    rw [show IntOp.cmpi .sge (x3 (ix1 r)) 1#32 = BitVec.ofBool ((1#32).sle (x3 (ix1 r))) from rfl, Bool.eq_false_iff.2 hc] at h1
    exact absurd h1 (by decide)
  have h4 : (x3 (ix1 r)).sle 1024#32 = true := by
    by_contra hc
    rw [show IntOp.cmpi .sle (x3 (ix1 r)) 1024#32 = BitVec.ofBool ((x3 (ix1 r)).sle 1024#32) from rfl, Bool.eq_false_iff.2 hc] at h2
    exact absurd h2 (by decide)
  rw [BitVec.sle_iff_toInt_le] at h3 h4
  have e1 : (1#32).toInt = 1 := by decide
  have e2 : (1024#32).toInt = 1024 := by decide
  rw [e1] at h3
  rw [e2] at h4
  have hn : (x3 (ix1 r)).toInt = ((x3 (ix1 r)).toNat : ℤ) := by
    have hd := BitVec.toInt_eq_toNat_cond (x := x3 (ix1 r))
    have hl := (x3 (ix1 r)).isLt
    split at hd <;> omega
  exact ⟨(x3 (ix1 r)).toNat, (by rw [BitVec.ofNat_toNat, BitVec.setWidth_eq]), by omega, by omega⟩

end Cert.Pre_in_range.Rows

/-! ## The mask -/

namespace Cert.On_head_wins.Rows

open Idealize.ShloMosaic Idealize.ShloMosaic.ValueIdx Idealize.ShloMosaic.WordCmp
open Cert.Row Cert.Words Cert.On_head_wins.Gen

/-! ### The broadcasts and the slices -/

section
variable {α : Type}

theorem bcast_col (y : S128.Idx → α) (r : Fin 128) (z : Fin 1) :
    broadcastInDim S128x1 ![0] bcast_S128_S128x1_0 y (ix2 r z) = y (ix1 r) :=
  broadcastInDim_apply _ bcast_S128_S128x1_0 y (ix2 r z) (ix1 r) (fun a => match a with
    | ⟨0, _⟩ => by show r.val = if (128 : Nat) = 1 then 0 else r.val; rw [if_neg (by decide)])

theorem bcast_iota (y : S100000.Idx → α) (z : Fin 1) (k : Fin 100000) :
    broadcastInDim S1x100000 ![1] bcast_S100000_S1x100000_1 y (ix2 z k) = y (ix1 k) :=
  broadcastInDim_apply _ bcast_S100000_S1x100000_1 y (ix2 z k) (ix1 k) (fun a => match a with
    | ⟨0, _⟩ => by show k.val = if (100000 : Nat) = 1 then 0 else k.val; rw [if_neg (by decide)])

theorem bcast_wide (y : S128x1.Idx → α) (r : Fin 128) (k : Fin 100000) :
    broadcastInDim S128x100000 ![0, 1] bcast_S128x1_S128x100000_0_1 y (ix2 r k) = y (ix2 r 0) :=
  broadcastInDim_apply _ bcast_S128x1_S128x100000_0_1 y (ix2 r k) (ix2 r 0) (fun a => match a with
    | ⟨0, _⟩ => by show r.val = if (128 : Nat) = 1 then 0 else r.val; rw [if_neg (by decide)]
    | ⟨1, _⟩ => by show 0 = if (1 : Nat) = 1 then 0 else k.val; rw [if_pos rfl])

theorem bcast_tall (y : S1x100000.Idx → α) (r : Fin 128) (k : Fin 100000) :
    broadcastInDim S128x100000 ![0, 1] bcast_S1x100000_S128x100000_0_1 y (ix2 r k) = y (ix2 0 k) :=
  broadcastInDim_apply _ bcast_S1x100000_S128x100000_0_1 y (ix2 r k) (ix2 0 k) (fun a => match a with
    | ⟨0, _⟩ => by show 0 = if (1 : Nat) = 1 then 0 else r.val; rw [if_pos rfl]
    | ⟨1, _⟩ => by show k.val = if (100000 : Nat) = 1 then 0 else k.val; rw [if_neg (by decide)])

theorem first_col (y : S128x100000.Idx → α) (r : Fin 128) :
    shapeCast S128 (extractStridedSlice S128x1 ![0, 0] y slices_S128x100000_S128x1_0_0) shapeCasts_S128x1_S128 (ix1 r) = y (ix2 r 0) :=
  (shapeCast_apply (extractStridedSlice S128x1 ![0, 0] y slices_S128x100000_S128x1_0_0) shapeCasts_S128x1_S128 (ix1 r) (ix2 r (0 : Fin 1))
    (by rewrite [Shape.rowMajor_val_two, Shape.rowMajor_val_one]; show r.val * 1 + 0 = r.val; omega)).trans
  (extractStridedSlice_apply ![0, 0] y slices_S128x100000_S128x1_0_0 (ix2 r (0 : Fin 1)) (ix2 r 0) (fun a => match a with
    | ⟨0, _⟩ => by show r.val = 0 + r.val; omega
    | ⟨1, _⟩ => by show 0 = 0 + 0; omega))

theorem late_cols (y : S128x100000.Idx → α) (r : Fin 128) (k : Fin 98976) :
    extractStridedSlice S128x98976 ![0, 1024] y slices_S128x100000_S128x98976_0_1024 (ix2 r k)
      = y (ix2 r ⟨1024 + k.val, by have := k.isLt; omega⟩) :=
  extractStridedSlice_apply ![0, 1024] y slices_S128x100000_S128x98976_0_1024 (ix2 r k) (ix2 r ⟨1024 + k.val, by have := k.isLt; omega⟩)
    (fun a => match a with
    | ⟨0, _⟩ => by show r.val = 0 + r.val; omega
    | ⟨1, _⟩ => by show 1024 + k.val = 1024 + k.val; rfl)
end

/-! ### The noise -/

/-- The remainder by `2 ^ 24`. -/
theorem remainder_row (w : IVec S128x100000 32) (i : S128x100000.Idx) :
    (fn_remainder (F := Ideal) w (constantI S_ 32 16777216#32) i).toNat = (w i).toNat % 2 ^ 24 := by
  have hm : Scalar.select (IntOp.cmpi .eq 16777216#32 0#32) 1#32 16777216#32 = 16777216#32 := by decide
  have h : fn_remainder (F := Ideal) w (constantI S_ 32 16777216#32) i
      = Scalar.select (IntOp.andi (IntOp.cmpi .ne (IntOp.cmpi .ult (IntOp.remui .host (w i) (Scalar.select (IntOp.cmpi .eq 16777216#32 0#32) 1#32 16777216#32)) 0#32)
            (IntOp.cmpi .ult (Scalar.select (IntOp.cmpi .eq 16777216#32 0#32) 1#32 16777216#32) 0#32))
          (IntOp.cmpi .ne (IntOp.remui .host (w i) (Scalar.select (IntOp.cmpi .eq 16777216#32 0#32) 1#32 16777216#32)) 0#32))
        (IntOp.addi (IntOp.remui .host (w i) (Scalar.select (IntOp.cmpi .eq 16777216#32 0#32) 1#32 16777216#32))
          (Scalar.select (IntOp.cmpi .eq 16777216#32 0#32) 1#32 16777216#32))
        (IntOp.remui .host (w i) (Scalar.select (IntOp.cmpi .eq 16777216#32 0#32) 1#32 16777216#32)) := rfl
  rw [h, hm, Cert.ReferenceIdeal.Rows.rem_fix]
  exact toNat_rem _

/-- From a hash's words to the inner log of the noise. -/
theorem inner_row (w : IVec S128x100000 32) (i : S128x100000.Idx) :
    -Ideal.log (Host.negf (Host.log (fn_clip (F := Ideal) (Host.divf (uitofp (F := Ideal) .f32 (fn_remainder (F := Ideal) w (constantI S_ 32 16777216#32)))
      (broadcastInDim S128x100000 ![] bcast_S_S128x100000 (constant S_ .f32 0x4B800000#32)))
      (constant S_ .f32 0x2EDBE6FF#32) (constant S_ .f32 0x3F800000#32))) i) = gumbel (((w i).toNat % 2 ^ 24 : ℕ) : ℝ) := by
  rw [← remainder_row w i]
  generalize fn_remainder (F := Ideal) w (constantI S_ 32 16777216#32) = v
  rfl

theorem hash_row (x4 x5 : IVec S128 32) (r : Fin 128) (k : Fin 100000) :
    xori (broadcastInDim S128x100000 ![0, 1] bcast_S128x1_S128x100000_0_1 (muli (broadcastInDim S128x1 ![0] bcast_S128_S128x1_0
        (xori (muli x4 (broadcastInDim S128 ![] bcast_S_S128 (constantI S_ 32 19349663#32)))
          (muli x5 (broadcastInDim S128 ![] bcast_S_S128 (constantI S_ 32 73856093#32)))))
        (broadcastInDim S128x1 ![] bcast_S_S128x1 (constantI S_ 32 4294967295#32))))
      (broadcastInDim S128x100000 ![0, 1] bcast_S1x100000_S128x100000_0_1 (muli (broadcastInDim S1x100000 ![1] bcast_S100000_S1x100000_1
        (iotaInDim S100000 32 0)) (broadcastInDim S1x100000 ![] bcast_S_S1x100000 (constantI S_ 32 479001599#32)))) (ix2 r k)
      = Words.hash (x4 (ix1 r)) (x5 (ix1 r)) k.val := by
  refine (congrArg₂ IntOp.xori (bcast_wide _ r k) (bcast_tall _ r k)).trans ?_
  refine (congrArg₂ (fun a b => IntOp.xori (IntOp.muli a 4294967295#32) (IntOp.muli b 479001599#32)) (bcast_col _ r 0) (bcast_iota _ 0 k)).trans ?_
  rfl

/-! ### The comparison -/

/-- The second part of the mask compares the score of the greatest probability with the greatest score of a filtered
rank past the first 1024. -/
theorem part2_parts (p : FVec Ideal S128 .f32) (n : FVec Ideal S128x100000 .f32) :
    ∃ (a b : FVec Ideal S128 .f32) (y : FVec Ideal S128x98976 .f32),
      (fn_part2 (F := Ideal) p n).1 = broadcastInDim S128x1 ![0] bcast_S128_S128x1_0 (cmpf .oge a b)
      ∧ (∀ r, a (ix1 r) = Ideal.log (p (ix1 r) + eps) + -Ideal.log (n (ix2 r 0)))
      ∧ (∀ r, b (ix1 r) = top fun l => y (ix2 r l))
      ∧ ∀ (r : Fin 128) (l : Fin 98976), y (ix2 r l) = Ideal.log (0 + eps) + -Ideal.log (n (ix2 r ⟨1024 + l.val, by have := l.isLt; omega⟩)) := by
  refine ⟨_, _, _, rfl, fun r => ?_, fun r => RefOps.max_row _ _ bits_neg_inf reducesTo_S128x98976_S128_d1 (by decide) h_S_ r, fun r l => ?_⟩
  · exact congrArg (fun a : EReal => Ideal.log (p (ix1 r) + eps) + a) (first_col (Host.negf (Host.log n)) r)
  · rw [← bits_zero]
    exact congrArg (fun a : EReal => Ideal.log (FloatOps.ofBits (F := Ideal) .f32 0x00000000#32 + eps) + a)
      (late_cols (Host.negf (Host.log n)) r l)

theorem ge_of {a b : FVec Ideal S128 .f32} {i : S128.Idx} (h : cmpf .oge a b i = 1#1) : b i ≤ a i :=
  (ofBool_decide_eq_one_iff _).1 h

/-- What the second part of the mask says of a row it selects: no score of a filtered rank past the first 1024
exceeds the score of the greatest probability. -/
theorem part2_row (p : FVec Ideal S128 .f32) (n : FVec Ideal S128x100000 .f32) (r : Fin 128) (z : Fin 1)
    (h : (fn_part2 (F := Ideal) p n).1 (ix2 r z) = 1#1) (k : Fin 100000) (hk : 1024 ≤ k.val) :
    Ideal.log (0 + eps) + -Ideal.log (n (ix2 r k)) ≤ Ideal.log (p (ix1 r) + eps) + -Ideal.log (n (ix2 r 0)) := by
  obtain ⟨a, b, y, e, ha, hb, hy⟩ := part2_parts p n
  rw [e, bcast_col] at h
  have h1 := ge_of h
  rw [ha, hb] at h1
  have h2 := (le_top (fun l => y (ix2 r l)) ⟨k.val - 1024, by have := k.isLt; omega⟩).trans h1
  rw [hy] at h2
  rwa [show (⟨1024 + (k.val - 1024), by have := k.isLt; omega⟩ : Fin 100000) = k from Fin.ext (by show 1024 + (k.val - 1024) = k.val; omega)] at h2

variable (x0 : FVec Ideal S128x100000 .f32) (x1 x2 : FVec Ideal S128 .f32) (x3 x4 x5 : IVec S128 32)

/-- The mask is its second part, of the row's greatest probability and of the noise's inner log. -/
theorem fn_parts : ∃ (p : FVec Ideal S128 .f32) (n : FVec Ideal S128x100000 .f32),
    fn (F := Ideal) x0 x1 x2 x3 x4 x5 = fn_part2 p n ∧ (∀ r, p (ix1 r) = top (soft fun j => x0 (ix2 r j)))
      ∧ ∀ r k, -Ideal.log (n (ix2 r k)) = noise (x4 (ix1 r)) (x5 (ix1 r)) k.val := by
  refine ⟨_, _, rfl, fun r => ?_, fun r k => ?_⟩
  · refine (RefOps.max_row (Cert.ReferenceIdeal.Read.val_main_v10 (F := Ideal) x0) _ bits_neg_inf reducesTo_S128x100000_S128_d1 (by decide) h_S_ r).trans ?_
    exact congrArg top (funext fun j => Cert.ReferenceIdeal.Rows.v10_row x0 r j)
  · refine (inner_row _ (ix2 r k)).trans ?_
    rw [noise, ← hash_row x4 x5 r k]
    rfl

/-- On a row the mask selects, no score of a filtered rank past the first 1024 exceeds the score of the greatest probability. -/
theorem head_wins (r : Fin 128) (z : Fin 1) (h : (fn (F := Ideal) x0 x1 x2 x3 x4 x5).1 (ix2 r z) = 1#1) (k : Fin 100000) (hk : 1024 ≤ k.val) :
    Ideal.log (0 + eps) + noise (x4 (ix1 r)) (x5 (ix1 r)) k.val
      ≤ Ideal.log (top (soft fun j => x0 (ix2 r j)) + eps) + noise (x4 (ix1 r)) (x5 (ix1 r)) 0 := by
  obtain ⟨p, n, e, hp, hn⟩ := fn_parts x0 x1 x2 x3 x4 x5
  rw [e] at h
  have h1 := part2_row p n r z h k hk
  rwa [hn, hn, hp] at h1

end Cert.On_head_wins.Rows

end
-- ==== Proof.Agree.lean ====
/- The two programs' results, row by row, are equal under the precondition, on the rows the mask selects. -/
module

public import proofs.«01_k».proof.Proof.KernelArrays
public import proofs.«01_k».proof.Proof.Mask

@[expose] public section

set_option maxRecDepth 16384

noncomputable section

namespace Cert.Agree

open Idealize.ShloMosaic Idealize.ShloMosaic.TcCoe Idealize.ShloMosaic.ValueIdx Idealize.SL.Sem
open Cert.Ranks Cert.Row Cert.Words Cert.Sorted Cert.RefOps
open Cert.ReferenceIdeal.Rows Cert.ReferenceIdeal.Read
open Cert.KernelIdeal (nD τ sig cfg0)
open Cert.KernelIdeal.Gen (dats arg0 arg1 arg2 arg3 arg4 arg5 lanes_le)

open Cert.ReferenceIdeal (S128x100000 S128)

variable (x0 : FVec Ideal S128x100000 .f32) (x1 x2 : FVec Ideal S128 .f32) (x3 x4 x5 : IVec S128 32)

/-- What the precondition says of a row. -/
structure RowOk (r : Fin 128) (tk : ℕ) : Prop where
  real : ∃ M : ℝ, top (row x0 r) = (M : EReal)
  tk_eq : x3 (ix1 r) = BitVec.ofNat 32 tk
  tk_le : tk ≤ 1024
  good : Good (sortedProbs x0 r) (x1 (ix1 r)) (x2 (ix1 r)) tk

/-- A row with a real greatest entry sorts into probabilities the filter can take. -/
theorem good_of (r : Fin 128) (M : ℝ) (hM : top (row x0 r) = (M : EReal)) (tk : ℕ) (h1 : 0 ≤ x1 (ix1 r)) (h2 : x2 (ix1 r) ≤ 1) (h3 : 1 ≤ tk) :
    Good (sortedProbs x0 r) (x1 (ix1 r)) (x2 (ix1 r)) tk := by
  obtain ⟨p, hp, hn, _⟩ := soft_real (row x0 r) M hM
  refine ⟨⟨fun k => p (order x0 r k), fun k => hp _⟩, fun k => ?_, fun i j hij => (ranks_ranked _).anti hij, h1, h2, h3⟩
  exact (EReal.coe_nonneg.2 (hn (order x0 r k))).trans_eq (hp _).symm

/-- The precondition, row by row. -/
theorem row_ok (h : (Cert.Pre_in_range.fn (F := Ideal) x0 x1 x2 x3 x4 x5).1 = fun _ => 1#1)
    (h1 : (Cert.Pre_in_range.fn (F := Ideal) x0 x1 x2 x3 x4 x5).2.1 = fun _ => 1#1)
    (h2 : (Cert.Pre_in_range.fn (F := Ideal) x0 x1 x2 x3 x4 x5).2.2.1 = fun _ => 1#1)
    (h3 : (Cert.Pre_in_range.fn (F := Ideal) x0 x1 x2 x3 x4 x5).2.2.2.1 = fun _ => 1#1)
    (h4 : (Cert.Pre_in_range.fn (F := Ideal) x0 x1 x2 x3 x4 x5).2.2.2.2 = fun _ => 1#1) (r : Fin 128) :
    ∃ tk, RowOk x0 x1 x2 x3 r tk := by
  obtain ⟨M, hM⟩ := Cert.Pre_in_range.Rows.top_real x0 x1 x2 x3 x4 x5 r h
  obtain ⟨tk, e, hl, hu⟩ := Cert.Pre_in_range.Rows.top_k x0 x1 x2 x3 x4 x5 r h3 h4
  exact ⟨tk, ⟨M, hM⟩, e, hu, good_of x0 x1 x2 r M hM tk (Cert.Pre_in_range.Rows.top_p x0 x1 x2 x3 x4 x5 r h1)
    (Cert.Pre_in_range.Rows.min_p x0 x1 x2 x3 x4 x5 r h2) hl⟩

/-- The greatest entry of a row is the first of its entries sorted. -/
theorem top_sorted {n : ℕ} (p : Fin n → EReal) (h0 : 0 < n) : top p = p (ranks p ⟨0, h0⟩) := by
  refine le_antisymm ?_ (le_top p (ranks p ⟨0, h0⟩))
  unfold top
  refine (Finset.fold_max_le (p (ranks p ⟨0, h0⟩))).2 ⟨bot_le, fun j _ => ?_⟩
  have h := (ranks_ranked p).anti (i := ⟨0, h0⟩) (j := (ranks p).symm j) (Nat.zero_le _)
  rwa [Equiv.apply_symm_apply] at h

/-- The greatest probability is the first of the sorted ones. -/
theorem top_soft (r : Fin 128) : top (soft (row x0 r)) = sortedProbs x0 r ⟨0, some_col⟩ := by
  rw [top_sorted _ some_col, sortedProbs, order]

/-- On a row the mask selects the first greatest score lies within the first 1024 ranks. -/
theorem drawn_early (r : Fin 128) (z : Fin 1) (tk : ℕ) (ok : RowOk x0 x1 x2 x3 r tk)
    (h : (Cert.On_head_wins.fn (F := Ideal) x0 x1 x2 x3 x4 x5).1 (ix2 r z) = 1#1)
    (s : Fin 100000) (hs : FirstMax (scores x0 x1 x2 x4 x5 r tk) s) :
    ∃ s' : Fin 1024, s'.castLE lanes_le = s ∧ FirstMax (fun k : Fin 1024 => scores x0 x1 x2 x4 x5 r tk (k.castLE lanes_le)) s' := by
  refine hs.prefix lanes_le (by decide) fun k hk => ?_
  have h1 := Cert.On_head_wins.Rows.head_wins x0 x1 x2 x3 x4 x5 r z h k hk
  have h2 : top (soft fun j => x0 (ix2 r j)) = sortedProbs x0 r ⟨0, some_col⟩ := top_soft x0 r
  rw [h2, ← ok.good.filtered_zero (h0 := some_col), ← filtered_beyond (q := sortedProbs x0 r) (h0 := some_col) (tp := x1 (ix1 r)) (mp := x2 (ix1 r)) k (ok.tk_le.trans hk)] at h1
  unfold scores score
  exact h1

variable (m : (ℓ : Loc nD τ sig) → Buf (Elt Ideal) ℓ) (c : Dev nD)

/-- The kernel's first result at a row the mask selects is the reference's. -/
theorem ids_agree (ok : ∀ r, ∃ tk, RowOk (arg0 m c) (arg1 m c) (arg2 m c) (arg3 m c) r tk) (r : Fin 128) (z : Fin 1)
    (h : (Cert.On_head_wins.fn (F := Ideal) (arg0 m c) (arg1 m c) (arg2 m c) (arg3 m c) (arg4 m c) (arg5 m c)).1 (ix2 r z) = 1#1) :
    ((dats m 0 c).arrAt 7 cfg0.N : Cert.KernelIdeal.S128x1.Idx → BitVec 32) (ix2 r z)
      = val_main_v66 (F := Ideal) (arg0 m c) (arg1 m c) (arg2 m c) (arg3 m c) (arg4 m c) (arg5 m c) (ix2 r z) := by
  have hex : ∀ r : Fin 128, ∃ s : Fin 100000, val_main_v64 (F := Ideal) (arg0 m c) (arg1 m c) (arg2 m c) (arg3 m c) (arg4 m c) (arg5 m c) (ix1 r)
      = BitVec.ofNat 32 s.val ∧ ∀ tk, RowOk (arg0 m c) (arg1 m c) (arg2 m c) (arg3 m c) r tk →
        FirstMax (scores (arg0 m c) (arg1 m c) (arg2 m c) (arg4 m c) (arg5 m c) r tk) s := fun r => by
    obtain ⟨tk, o⟩ := ok r
    obtain ⟨s, hs⟩ := firstMax_exists (scores (arg0 m c) (arg1 m c) (arg2 m c) (arg4 m c) (arg5 m c) r tk) some_col
    refine ⟨s, v64_row _ _ _ _ _ _ r tk o.tk_eq o.tk_le o.good s hs, fun tk' o' => ?_⟩
    have e : tk' = tk := by
      have e1 := congrArg BitVec.toNat (o'.tk_eq.symm.trans o.tk_eq)
      have l1 := o.tk_le
      have l2 := o'.tk_le
      rw [BitVec.toNat_ofNat, BitVec.toNat_ofNat, Nat.mod_eq_of_lt (by omega), Nat.mod_eq_of_lt (by omega)] at e1
      exact e1
    rw [e]
    exact hs
  choose s hs using hex
  obtain ⟨tk, o⟩ := ok r
  obtain ⟨M, hM⟩ := o.real
  obtain ⟨s', e, hs'⟩ := drawn_early _ _ _ _ _ _ r z tk o h (s r) ((hs r).2 tk o)
  rw [v66_row _ _ _ _ _ _ s (fun r => (hs r).1), ← e]
  obtain rfl : z = 0 := Subsingleton.elim _ _
  exact Cert.KernelIdeal.Gen.ids_array m c r M hM tk o.tk_eq o.tk_le s' hs'

/-- The kernel's second result is the reference's. -/
theorem out_agree (ok : ∀ r, ∃ tk, RowOk (arg0 m c) (arg1 m c) (arg2 m c) (arg3 m c) r tk) (r : Fin 128) (j : Fin 100000) :
    ((dats m 0 c).arrAt 8 cfg0.N : Cert.KernelIdeal.S128x100000.Idx → EReal) (ix2 r j)
      = val_main_v84 (F := Ideal) (arg0 m c) (arg1 m c) (arg2 m c) (arg3 m c) (ix2 r j) := by
  obtain ⟨tk, o⟩ := ok r
  obtain ⟨M, hM⟩ := o.real
  rw [v84_row, v33_row _ _ _ _ r tk o.tk_eq o.tk_le o.good]
  exact Cert.KernelIdeal.Gen.out_array m c r M hM tk o.tk_eq o.tk_le o.good j

end Cert.Agree

end
-- ==== Proof.lean ====
/- The five claims: both programs run and end quiescent with their arguments kept, the idealization rewrites nothing, and
on the rows the mask selects the two programs' results are equal over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_in_range
public import proofs.«01_k».proof.Proof.Gen.On_head_wins
public import proofs.«01_k».proof.Proof.RefRun
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.TcCoe Idealize.ShloMosaic.ValueIdx Idealize.SL.Sem Idealize.ShloMosaic.StableHlo
open Cert.ReferenceIdeal.Read

/-- The reference runs, keeps its arguments and ends quiescent. -/
theorem reference_quiescent : Cert.quiescent_ReferenceIdeal := by
  intro m ρ _
  exact (θ_run Cert.ReferenceIdeal.defs _ _).mono (fun r h => ⟨fun c => (h c).2.2,
      Idealize.ShloMosaic.sem_eq_zero_of_no_sems (by decide) r.2⟩) (Cert.ReferenceIdeal.Value.run m ρ)

/-- The reference's run, its results named by the stages of its last operations. -/
theorem reference_results (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v66)
          = val_main_v66 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v84)
          = val_main_v84 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run Cert.ReferenceIdeal.defs _ _).mono (fun r h c =>
    ⟨(h c).1.trans (val_main_v66_eq (F := Ideal) (launchContents m c)), (h c).2.1.trans (val_main_v84_eq (F := Ideal) (launchContents m c)), (h c).2.2⟩)
    (Cert.ReferenceIdeal.Value.run m ρ)

/-- The two programs' results are equal where the mask is set. -/
theorem results_equal : Cert.algebraic_KernelIdeal_ReferenceIdeal_on_head_wins_pre_in_range := by
  intro m g m' g' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · exact (θ_run Cert.KernelIdeal.defs _ _).mono (fun r h c =>
      ⟨fun i _ => congrFun (h c).1 i, fun i _ => congrFun (h c).2.1 i, (h c).2.2⟩) (Cert.KernelIdeal.Value.run_blocks m g)
  · refine (θ_run Cert.ReferenceIdeal.defs _ _).mono (fun r h c => ?_) (reference_results m' g')
    obtain ⟨e0, e1, e2, e3, e4, e5⟩ := hagree c
    obtain ⟨p0, p1, p2, p3, p4⟩ := hpre c
    have ok := Cert.Agree.row_ok _ _ _ _ _ _ p0 p1 p2 p3 p4
    obtain ⟨h0, h1, hk⟩ := h c
    rw [e0, e1, e2, e3, e4, e5] at h0
    rw [e0, e1, e2, e3] at h1
    refine ⟨fun i hi => ?_, fun i _ => ?_, hk⟩
    · obtain ⟨R, z, rfl⟩ : ∃ (R : Fin 128) (z : Fin 1), i = ix2 R z := ⟨i 0, i 1, eq_ix2 i⟩
      exact (congrFun h0 (ix2 R z)).trans (Cert.Agree.ids_agree m c ok R z hi).symm
    · obtain ⟨R, j, rfl⟩ : ∃ (R : Fin 128) (j : Fin 100000), i = ix2 R j := ⟨i 0, i 1, eq_ix2 i⟩
      exact (congrFun h1 (ix2 R j)).trans (Cert.Agree.out_agree m c ok R j).symm

/-- All five claims. -/
theorem claim : Cert.Claim := ⟨Cert.Kernel.Gen.facts, Cert.KernelIdeal.Gen.facts, Cert.ReferenceIdeal.Gen.facts,
  Cert.Pre_in_range.Gen.facts, Cert.On_head_wins.Gen.facts,
  fun m ρ _ => Cert.Kernel.Gen.frame m ρ, fun m ρ _ => Cert.KernelIdeal.Gen.frame m ρ, fun m ρ _ => Cert.KernelIdeal.Gen.frame m ρ,
  reference_quiescent, fun m ρ _ => reference_quiescent m ρ trivial, trivial, results_equal⟩

end Cert.Proof

end
